-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S1x2500x256 : Shape := ⟨3, ![1, 2500, 256]⟩
abbrev S1x6x256x32x88 : Shape := ⟨5, ![1, 6, 256, 32, 88]⟩
abbrev S1x6x2500x2 : Shape := ⟨4, ![1, 6, 2500, 2]⟩
abbrev S1x6x2500 : Shape := ⟨3, ![1, 6, 2500]⟩
abbrev S256x384 : Shape := ⟨2, ![256, 384]⟩
abbrev S384 : Shape := ⟨1, ![384]⟩
abbrev S256x192 : Shape := ⟨2, ![256, 192]⟩
abbrev S192 : Shape := ⟨1, ![192]⟩
abbrev S256x256 : Shape := ⟨2, ![256, 256]⟩
abbrev S256 : Shape := ⟨1, ![256]⟩
abbrev S_ : Shape := ⟨0, ![]⟩

class Facts : Prop where
  bcast_S_S1x2500x256 : S_.BroadcastsInDim S1x2500x256 (![] : Fin 0 → Fin S1x2500x256.rank)
  reducesTo_S1x2500x256_S_d0_1_2 : S1x2500x256.ReducesTo [0, 1, 2] S_
  h_S_ : 0 < S_.numel
  bcast_S_S1x6x256x32x88 : S_.BroadcastsInDim S1x6x256x32x88 (![] : Fin 0 → Fin S1x6x256x32x88.rank)
  reducesTo_S1x6x256x32x88_S_d0_1_2_3_4 : S1x6x256x32x88.ReducesTo [0, 1, 2, 3, 4] S_
  bcast_S_S256x192 : S_.BroadcastsInDim S256x192 (![] : Fin 0 → Fin S256x192.rank)
  reducesTo_S256x192_S_d0_1 : S256x192.ReducesTo [0, 1] S_
  bcast_S_S192 : S_.BroadcastsInDim S192 (![] : Fin 0 → Fin S192.rank)
  reducesTo_S192_S_d0 : S192.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x6x2500x2 : S_.BroadcastsInDim S1x6x2500x2 (![] : Fin 0 → Fin S1x6x2500x2.rank)
  reducesTo_S1x6x2500x2_S_d0_1_2_3 : S1x6x2500x2.ReducesTo [0, 1, 2, 3] S_
  reducesTo_S1x6x2500_S_d0_1_2 : S1x6x2500.ReducesTo [0, 1, 2] S_
  bcast_S_S256x384 : S_.BroadcastsInDim S256x384 (![] : Fin 0 → Fin S256x384.rank)
  reducesTo_S256x384_S_d0_1 : S256x384.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_v46 : IVec S_ 1) (main_v49 : IVec S_ 1) : IVec S_ 1 :=
  let main_v50 : IVec S_ 1 := andi main_v46 main_v49
  main_v50

def fn_part2 {F : FTy → Type} [FloatOps F] (main_arg2 : FVec F S1x6x2500x2 .f32) (main_arg3 : IVec S1x6x2500 1) (main_arg4 : FVec F S256x384 .f32) (main_arg5 : FVec F S384 .f32) (main_v33 : IVec S_ 1) : IVec S_ 1 :=
  let main_cst_12 : FVec F S_ .f32 := constant S_ .f32 0x00000000#32
  let main_v34 : FVec F S1x6x2500x2 .f32 := broadcastInDim S1x6x2500x2 ![] bcast_S_S1x6x2500x2 main_cst_12
  let main_v35 : IVec S1x6x2500x2 1 := cmpf .oge main_arg2 main_v34
  let main_cst_13 : FVec F S_ .f32 := constant S_ .f32 0x3F800000#32
  let main_v36 : FVec F S1x6x2500x2 .f32 := broadcastInDim S1x6x2500x2 ![] bcast_S_S1x6x2500x2 main_cst_13
  let main_v37 : IVec S1x6x2500x2 1 := cmpf .olt main_arg2 main_v36
  let main_v38 : IVec S1x6x2500x2 1 := andi main_v35 main_v37
  let main_c_14 : IVec S_ 1 := constantI S_ 1 1#1
  let main_v39 : IVec S_ 1 := (fun x v => Host.reduce IntOp.andi x v reducesTo_S1x6x2500x2_S_d0_1_2_3 h_S_) main_v38 main_c_14
  let main_v40 : IVec S_ 1 := andi main_v33 main_v39
  let main_c_15 : IVec S_ 1 := constantI S_ 1 1#1
  let main_v41 : IVec S_ 1 := (fun x v => Host.reduce IntOp.andi x v reducesTo_S1x6x2500_S_d0_1_2 h_S_) main_arg3 main_c_15
  let main_v42 : IVec S_ 1 := andi main_v40 main_v41
  let main_cst_16 : FVec F S_ .f32 := constant S_ .f32 0x00000000#32
  let main_v43 : FVec F S256x384 .f32 := broadcastInDim S256x384 ![] bcast_S_S256x384 main_cst_16
  let main_v44 : IVec S256x384 1 := cmpf .oeq main_arg4 main_v43
  let main_c_17 : IVec S_ 1 := constantI S_ 1 1#1
  let main_v45 : IVec S_ 1 := (fun x v => Host.reduce IntOp.andi x v reducesTo_S256x384_S_d0_1 h_S_) main_v44 main_c_17
  let main_v46 : IVec S_ 1 := andi main_v42 main_v45
  let main_cst_18 : FVec F S_ .f32 := constant S_ .f32 0x00000000#32
  let main_v47 : FVec F S384 .f32 := broadcastInDim S384 ![] bcast_S_S384 main_cst_18
  let main_v48 : IVec S384 1 := cmpf .oeq main_arg5 main_v47
  let main_c_19 : IVec S_ 1 := constantI S_ 1 1#1
  let main_v49 : IVec S_ 1 := (fun x v => Host.reduce IntOp.andi x v reducesTo_S384_S_d0 h_S_) main_v48 main_c_19
  fn_part3 (F := F) main_v46 main_v49

def fn_part1 {F : FTy → Type} [FloatOps F] (main_arg2 : FVec F S1x6x2500x2 .f32) (main_arg3 : IVec S1x6x2500 1) (main_arg4 : FVec F S256x384 .f32) (main_arg5 : FVec F S384 .f32) (main_arg8 : FVec F S256x256 .f32) (main_arg9 : FVec F S256 .f32) (main_arg10 : FVec F S256x256 .f32) (main_v13 : IVec S_ 1) (main_v16 : IVec S192 1) : IVec S_ 1 :=
  let main_c_5 : IVec S_ 1 := constantI S_ 1 1#1
  let main_v17 : IVec S_ 1 := (fun x v => Host.reduce IntOp.andi x v reducesTo_S192_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg3 main_arg4 main_arg5 main_v33

def fn {F : FTy → Type} [FloatOps F] (main_arg0 : FVec F S1x2500x256 .f32) (main_arg1 : FVec F S1x6x256x32x88 .f32) (main_arg2 : FVec F S1x6x2500x2 .f32) (main_arg3 : IVec S1x6x2500 1) (main_arg4 : FVec F S256x384 .f32) (main_arg5 : FVec F S384 .f32) (main_arg6 : FVec F S256x192 .f32) (main_arg7 : FVec F S192 .f32) (main_arg8 : FVec F S256x256 .f32) (main_arg9 : FVec F S256 .f32) (main_arg10 : FVec F S256x256 .f32) (main_arg11 : FVec F S256 .f32) : IVec S_ 1 :=
  let main_v0 : FVec F S1x2500x256 .f32 := Host.absf main_arg0
  let main_cst : FVec F S_ .f32 := constant S_ .f32 0x7F800000#32
  let main_v1 : FVec F S1x2500x256 .f32 := broadcastInDim S1x2500x256 ![] bcast_S_S1x2500x256 main_cst
  let main_v2 : IVec S1x2500x256 1 := cmpf .olt main_v0 main_v1
  let main_c : IVec S_ 1 := constantI S_ 1 1#1
  let main_v3 : IVec S_ 1 := (fun x v => Host.reduce IntOp.andi x v reducesTo_S1x2500x256_S_d0_1_2 h_S_) main_v2 main_c
  let main_v4 : FVec F S1x6x256x32x88 .f32 := Host.absf main_arg1
  let main_cst_0 : FVec F S_ .f32 := constant S_ .f32 0x7F800000#32
  let main_v5 : FVec F S1x6x256x32x88 .f32 := broadcastInDim S1x6x256x32x88 ![] bcast_S_S1x6x256x32x88 main_cst_0
  let main_v6 : IVec S1x6x256x32x88 1 := cmpf .olt main_v4 main_v5
  let main_c_1 : IVec S_ 1 := constantI S_ 1 1#1
  let main_v7 : IVec S_ 1 := (fun x v => Host.reduce IntOp.andi x v reducesTo_S1x6x256x32x88_S_d0_1_2_3_4 h_S_) main_v6 main_c_1
  let main_v8 : IVec S_ 1 := andi main_v3 main_v7
  let main_v9 : FVec F S256x192 .f32 := Host.absf main_arg6
  let main_cst_2 : FVec F S_ .f32 := constant S_ .f32 0x7F800000#32
  let main_v10 : FVec F S256x192 .f32 := broadcastInDim S256x192 ![] bcast_S_S256x192 main_cst_2
  let main_v11 : IVec S256x192 1 := cmpf .olt main_v9 main_v10
  let main_c_3 : IVec S_ 1 := constantI S_ 1 1#1
  let main_v12 : IVec S_ 1 := (fun x v => Host.reduce IntOp.andi x v reducesTo_S256x192_S_d0_1 h_S_) main_v11 main_c_3
  let main_v13 : IVec S_ 1 := andi main_v8 main_v12
  let main_v14 : FVec F S192 .f32 := Host.absf main_arg7
  let main_cst_4 : FVec F S_ .f32 := constant S_ .f32 0x7F800000#32
  let main_v15 : FVec F S192 .f32 := broadcastInDim S192 ![] bcast_S_S192 main_cst_4
  let main_v16 : IVec S192 1 := cmpf .olt main_v14 main_v15
  fn_part1 (F := F) main_arg2 main_arg3 main_arg4 main_arg5 main_arg8 main_arg9 main_arg10 main_v13 main_v16
-- ==== Kernel.lean ====
abbrev S1x2500x256 : Shape := ⟨3, ![1, 2500, 256]⟩
abbrev S1x6x256x32x88 : Shape := ⟨5, ![1, 6, 256, 32, 88]⟩
abbrev S1x6x2500x2 : Shape := ⟨4, ![1, 6, 2500, 2]⟩
abbrev S1x6x2500 : Shape := ⟨3, ![1, 6, 2500]⟩
abbrev S256x384 : Shape := ⟨2, ![256, 384]⟩
abbrev S384 : Shape := ⟨1, ![384]⟩
abbrev S256x192 : Shape := ⟨2, ![256, 192]⟩
abbrev S192 : Shape := ⟨1, ![192]⟩
abbrev S256x256 : Shape := ⟨2, ![256, 256]⟩
abbrev S256 : Shape := ⟨1, ![256]⟩
abbrev S2500x256 : Shape := ⟨2, ![2500, 256]⟩
abbrev S_ : Shape := ⟨0, ![]⟩
abbrev S2560x256 : Shape := ⟨2, ![2560, 256]⟩
abbrev S6x2500x2 : Shape := ⟨3, ![6, 2500, 2]⟩
abbrev S2500x6x2 : Shape := ⟨3, ![2500, 6, 2]⟩
abbrev S2560x6x2 : Shape := ⟨3, ![2560, 6, 2]⟩
abbrev S2560x6x1 : Shape := ⟨3, ![2560, 6, 1]⟩
abbrev S2560x6 : Shape := ⟨2, ![2560, 6]⟩
abbrev S6x256x32x88 : Shape := ⟨4, ![6, 256, 32, 88]⟩
abbrev S6x256x2816 : Shape := ⟨3, ![6, 256, 2816]⟩
abbrev S1x192 : Shape := ⟨2, ![1, 192]⟩
abbrev S1x256 : Shape := ⟨2, ![1, 256]⟩
abbrev S2560x24 : Shape := ⟨2, ![2560, 24]⟩
abbrev S2560x32 : Shape := ⟨2, ![2560, 32]⟩
abbrev S2560x192 : Shape := ⟨2, ![2560, 192]⟩
abbrev S2560 : Shape := ⟨1, ![2560]⟩
abbrev S2560x1 : Shape := ⟨2, ![2560, 1]⟩
abbrev S2560x8 : Shape := ⟨2, ![2560, 8]⟩
abbrev S6x2816x256 : Shape := ⟨3, ![6, 2816, 256]⟩
abbrev S1x256x2816 : Shape := ⟨3, ![1, 256, 2816]⟩
abbrev S1x2816x256 : Shape := ⟨3, ![1, 2816, 256]⟩
abbrev S256x2816 : Shape := ⟨2, ![256, 2816]⟩
abbrev S2816x256 : Shape := ⟨2, ![2816, 256]⟩
abbrev S16896x2x128 : Shape := ⟨3, ![16896, 2, 128]⟩
abbrev S32x20x96 : Shape := ⟨3, ![32, 20, 96]⟩
abbrev S20x96 : Shape := ⟨2, ![20, 96]⟩
abbrev S2x96x2x128 : Shape := ⟨4, ![2, 96, 2, 128]⟩
abbrev S80x32 : Shape := ⟨2, ![80, 32]⟩
abbrev S80x256 : Shape := ⟨2, ![80, 256]⟩
abbrev S1x20x96 : Shape := ⟨3, ![1, 20, 96]⟩
abbrev S1x96x2x128 : Shape := ⟨4, ![1, 96, 2, 128]⟩
abbrev S96x2x128 : Shape := ⟨3, ![96, 2, 128]⟩
abbrev S1x96 : Shape := ⟨2, ![1, 96]⟩
abbrev S96 : Shape := ⟨1, ![96]⟩
abbrev S1x16 : Shape := ⟨2, ![1, 16]⟩
abbrev S16 : Shape := ⟨1, ![16]⟩
abbrev S1 : Shape := ⟨1, ![1]⟩
abbrev S1x1x1x16 : Shape := ⟨4, ![1, 1, 1, 16]⟩

abbrev nBuf : Table → Nat
  | .hbm => 41
  | .local .tc .vmem => 18
  | .local .scVector .vmem => 5
  | _ => 0

abbrev bufTy : (tb : Table) → Fin (nBuf tb) → BufTy
  | .hbm, ⟨0, _⟩ => ⟨S1x2500x256, .f32⟩
  | .hbm, ⟨1, _⟩ => ⟨S1x6x256x32x88, .f32⟩
  | .hbm, ⟨2, _⟩ => ⟨S1x6x2500x2, .f32⟩
  | .hbm, ⟨3, _⟩ => ⟨S1x6x2500, .i1⟩
  | .hbm, ⟨4, _⟩ => ⟨S256x384, .f32⟩
  | .hbm, ⟨5, _⟩ => ⟨S384, .f32⟩
  | .hbm, ⟨6, _⟩ => ⟨S256x192, .f32⟩
  | .hbm, ⟨7, _⟩ => ⟨S192, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S2500x256, .f32⟩
  | .hbm, ⟨13, _⟩ => ⟨S_, .i32⟩
  | .hbm, ⟨14, _⟩ => ⟨S_, .f32⟩
  | .hbm, ⟨15, _⟩ => ⟨S2560x256, .f32⟩
  | .hbm, ⟨16, _⟩ => ⟨S6x2500x2, .f32⟩
  | .hbm, ⟨17, _⟩ => ⟨S2500x6x2, .f32⟩
  | .hbm, ⟨18, _⟩ => ⟨S_, .i32⟩
  | .hbm, ⟨19, _⟩ => ⟨S_, .f32⟩
  | .hbm, ⟨20, _⟩ => ⟨S2560x6x2, .f32⟩
  | .hbm, ⟨21, _⟩ => ⟨S2560x6x1, .f32⟩
  | .hbm, ⟨22, _⟩ => ⟨S2560x6, .f32⟩
  | .hbm, ⟨23, _⟩ => ⟨S2560x6x1, .f32⟩
  | .hbm, ⟨24, _⟩ => ⟨S2560x6, .f32⟩
  | .hbm, ⟨25, _⟩ => ⟨S6x256x32x88, .f32⟩
  | .hbm, ⟨26, _⟩ => ⟨S6x256x2816, .f32⟩
  | .hbm, ⟨27, _⟩ => ⟨S1x192, .f32⟩
  | .hbm, ⟨28, _⟩ => ⟨S1x256, .f32⟩
  | .hbm, ⟨29, _⟩ => ⟨S1x256, .f32⟩
  | .hbm, ⟨30, _⟩ => ⟨S2560x24, .i32⟩
  | .hbm, ⟨31, _⟩ => ⟨S2560x32, .f32⟩
  | .hbm, ⟨32, _⟩ => ⟨S256x256, .f32⟩
  | .hbm, ⟨33, _⟩ => ⟨S1x256, .f32⟩
  | .hbm, ⟨34, _⟩ => ⟨S6x2816x256, .f32⟩
  | .hbm, ⟨35, _⟩ => ⟨S16896x2x128, .f32⟩
  | .hbm, ⟨36, _⟩ => ⟨S32x20x96, .i32⟩
  | .hbm, ⟨37, _⟩ => ⟨S256, .f32⟩
  | .hbm, ⟨38, _⟩ => ⟨S2560x256, .f32⟩
  | .hbm, ⟨39, _⟩ => ⟨S2500x256, .f32⟩
  | .hbm, ⟨40, _⟩ => ⟨S1x2500x256, .f32⟩
  | .local .tc .vmem, ⟨0, _⟩ => ⟨S2560x256, .f32⟩
  | .local .tc .vmem, ⟨1, _⟩ => ⟨S256x192, .f32⟩
  | .local .tc .vmem, ⟨2, _⟩ => ⟨S1x192, .f32⟩
  | .local .tc .vmem, ⟨3, _⟩ => ⟨S2560x6, .f32⟩
  | .local .tc .vmem, ⟨4, _⟩ => ⟨S2560x6, .f32⟩
  | .local .tc .vmem, ⟨5, _⟩ => ⟨S256x256, .f32⟩
  | .local .tc .vmem, ⟨6, _⟩ => ⟨S1x256, .f32⟩
  | .local .tc .vmem, ⟨7, _⟩ => ⟨S256x256, .f32⟩
  | .local .tc .vmem, ⟨8, _⟩ => ⟨S1x256, .f32⟩
  | .local .tc .vmem, ⟨9, _⟩ => ⟨S2560x24, .i32⟩
  | .local .tc .vmem, ⟨10, _⟩ => ⟨S2560x32, .f32⟩
  | .local .tc .vmem, ⟨11, _⟩ => ⟨S256x256, .f32⟩
  | .local .tc .vmem, ⟨12, _⟩ => ⟨S1x256, .f32⟩
  | .local .tc .vmem, ⟨13, _⟩ => ⟨S1x256x2816, .f32⟩
  | .local .tc .vmem, ⟨14, _⟩ => ⟨S1x256x2816, .f32⟩
  | .local .tc .vmem, ⟨15, _⟩ => ⟨S256x256, .f32⟩
  | .local .tc .vmem, ⟨16, _⟩ => ⟨S1x2816x256, .f32⟩
  | .local .tc .vmem, ⟨17, _⟩ => ⟨S1x2816x256, .f32⟩
  | .local .scVector .vmem, ⟨0, _⟩ => ⟨S20x96, .i32⟩
  | .local .scVector .vmem, ⟨1, _⟩ => ⟨S2x96x2x128, .f32⟩
  | .local .scVector .vmem, ⟨2, _⟩ => ⟨S80x32, .f32⟩
  | .local .scVector .vmem, ⟨3, _⟩ => ⟨S80x256, .f32⟩
  | .local .scVector .vmem, ⟨4, _⟩ => ⟨S256, .f32⟩
  | _, _ => ⟨S1x2500x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v16_scv : Ref sig .scVector := ⟨.hbm, 35, rfl⟩
abbrev main_v17_scv : Ref sig .scVector := ⟨.hbm, 36, rfl⟩
abbrev main_v14_1_scv : Ref sig .scVector := ⟨.hbm, 31, rfl⟩
abbrev main_v18_scv : Ref sig .scVector := ⟨.hbm, 37, rfl⟩
abbrev main_v19_scv : Ref sig .scVector := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2560x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2560x24 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2560x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨1, ![6], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x2816 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2816x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21_r1 : BitVec 32 := 0#32
  let c0_i32_22_r1 : BitVec 32 := 0#32
  ![v1.toNat, 0, 0]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v2 : BitVec 32 := Scalar.muli v1 c80_i32
  let c0_i32_21_r2 : BitVec 32 := 0#32
  ![v2.toNat, 0]
@[reducible] def k2_t1_loop : Scf.Loop 32 :=
  let c0_i32_17 : BitVec 32 := 0#32
  let c10_i32 : BitVec 32 := 10#32
  let v13 : BitVec 32 := Scalar.addi c0_i32_17 c10_i32
  let c1_i32_18 : BitVec 32 := 1#32
  ⟨c0_i32_17, v13, c1_i32_18⟩
def k2_off3 (k2_t1 : Fin k2_t1_loop.trips) (c0_i32_22 : BitVec 32) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let v16 : BitVec 32 := Scalar.addi v15 c0_i32_22
  let c0_i32_27 : BitVec 32 := 0#32
  ![v16.toNat, 0]
@[reducible] def k2_t2_loop : Scf.Loop 32 :=
  let c0_i32_32 : BitVec 32 := 0#32
  let c4_i32 : BitVec 32 := 4#32
  let v22 : BitVec 32 := Scalar.addi c0_i32_32 c4_i32
  let c1_i32_33 : BitVec 32 := 1#32
  ⟨c0_i32_32, v22, c1_i32_33⟩
def k2_off4 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v41 : Index := Scalar.indexCast v40
  let c0 : Index := 0#32
  ![v41.toNat, 0]
def k2_off5 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v44 : Index := Scalar.indexCast v40
  let c16 : Index := 16#32
  ![v44.toNat, 16]
def k2_off6 (k2_t2 : Fin k2_t2_loop.trips) (c0_i32_58 : BitVec 32) : Fin 4 → Nat :=
  let c0_i32_59 : BitVec 32 := 0#32
  let v83 : Index := Scalar.indexCast c0_i32_59
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v84 : Index := Scalar.indexCast v82
  let c0_i32_60 : BitVec 32 := 0#32
  let v85 : Index := Scalar.indexCast c0_i32_60
  let c0_61 : Index := 0#32
  ![0, v84.toNat, 0, 0]
def k2_off7 (k2_t2 : Fin k2_t2_loop.trips) (c0_i32_58 : BitVec 32) : Fin 4 → Nat :=
  let c0_i32_62 : BitVec 32 := 0#32
  let v91 : Index := Scalar.indexCast c0_i32_62
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v92 : Index := Scalar.indexCast v82
  let c0_i32_63 : BitVec 32 := 0#32
  let v93 : Index := Scalar.indexCast c0_i32_63
  let c16_64 : Index := 16#32
  ![0, v92.toNat, 0, 16]
def k2_off8 (k2_t2 : Fin k2_t2_loop.trips) (c0_i32_58 : BitVec 32) : Fin 4 → Nat :=
  let c0_i32_65 : BitVec 32 := 0#32
  let v99 : Index := Scalar.indexCast c0_i32_65
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v100 : Index := Scalar.indexCast v82
  let c0_i32_66 : BitVec 32 := 0#32
  let v101 : Index := Scalar.indexCast c0_i32_66
  let c32_67 : Index := 32#32
  ![0, v100.toNat, 0, 32]
def k2_off9 (k2_t2 : Fin k2_t2_loop.trips) (c0_i32_58 : BitVec 32) : Fin 4 → Nat :=
  let c0_i32_68 : BitVec 32 := 0#32
  let v107 : Index := Scalar.indexCast c0_i32_68
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v108 : Index := Scalar.indexCast v82
  let c0_i32_69 : BitVec 32 := 0#32
  let v109 : Index := Scalar.indexCast c0_i32_69
  let c48_70 : Index := 48#32
  ![0, v108.toNat, 0, 48]
def k2_off10 (k2_t2 : Fin k2_t2_loop.trips) (c0_i32_58 : BitVec 32) : Fin 4 → Nat :=
  let c0_i32_71 : BitVec 32 := 0#32
  let v115 : Index := Scalar.indexCast c0_i32_71
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v116 : Index := Scalar.indexCast v82
  let c0_i32_72 : BitVec 32 := 0#32
  let v117 : Index := Scalar.indexCast c0_i32_72
  let c64_73 : Index := 64#32
  ![0, v116.toNat, 0, 64]
def k2_off11 (k2_t2 : Fin k2_t2_loop.trips) (c0_i32_58 : BitVec 32) : Fin 4 → Nat :=
  let c0_i32_74 : BitVec 32 := 0#32
  let v123 : Index := Scalar.indexCast c0_i32_74
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v124 : Index := Scalar.indexCast v82
  let c0_i32_75 : BitVec 32 := 0#32
  let v125 : Index := Scalar.indexCast c0_i32_75
  let c80_76 : Index := 80#32
  ![0, v124.toNat, 0, 80]
def k2_off12 (k2_t2 : Fin k2_t2_loop.trips) (c0_i32_58 : BitVec 32) : Fin 4 → Nat :=
  let c0_i32_77 : BitVec 32 := 0#32
  let v131 : Index := Scalar.indexCast c0_i32_77
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v132 : Index := Scalar.indexCast v82
  let c0_i32_78 : BitVec 32 := 0#32
  let v133 : Index := Scalar.indexCast c0_i32_78
  let c96_79 : Index := 96#32
  ![0, v132.toNat, 0, 96]
def k2_off13 (k2_t2 : Fin k2_t2_loop.trips) (c0_i32_58 : BitVec 32) : Fin 4 → Nat :=
  let c0_i32_80 : BitVec 32 := 0#32
  let v139 : Index := Scalar.indexCast c0_i32_80
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v140 : Index := Scalar.indexCast v82
  let c0_i32_81 : BitVec 32 := 0#32
  let v141 : Index := Scalar.indexCast c0_i32_81
  let c112_82 : Index := 112#32
  ![0, v140.toNat, 0, 112]
def k2_off14 (k2_t2 : Fin k2_t2_loop.trips) (c0_i32_58 : BitVec 32) : Fin 4 → Nat :=
  let c0_i32_83 : BitVec 32 := 0#32
  let v147 : Index := Scalar.indexCast c0_i32_83
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v148 : Index := Scalar.indexCast v82
  let c1_i32_84 : BitVec 32 := 1#32
  let v149 : Index := Scalar.indexCast c1_i32_84
  let c0_85 : Index := 0#32
  ![0, v148.toNat, 1, 0]
def k2_off15 (k2_t2 : Fin k2_t2_loop.trips) (c0_i32_58 : BitVec 32) : Fin 4 → Nat :=
  let c0_i32_86 : BitVec 32 := 0#32
  let v155 : Index := Scalar.indexCast c0_i32_86
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v156 : Index := Scalar.indexCast v82
  let c1_i32_87 : BitVec 32 := 1#32
  let v157 : Index := Scalar.indexCast c1_i32_87
  let c16_88 : Index := 16#32
  ![0, v156.toNat, 1, 16]
def k2_off16 (k2_t2 : Fin k2_t2_loop.trips) (c0_i32_58 : BitVec 32) : Fin 4 → Nat :=
  let c0_i32_89 : BitVec 32 := 0#32
  let v163 : Index := Scalar.indexCast c0_i32_89
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v164 : Index := Scalar.indexCast v82
  let c1_i32_90 : BitVec 32 := 1#32
  let v165 : Index := Scalar.indexCast c1_i32_90
  let c32_91 : Index := 32#32
  ![0, v164.toNat, 1, 32]
def k2_off17 (k2_t2 : Fin k2_t2_loop.trips) (c0_i32_58 : BitVec 32) : Fin 4 → Nat :=
  let c0_i32_92 : BitVec 32 := 0#32
  let v171 : Index := Scalar.indexCast c0_i32_92
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v172 : Index := Scalar.indexCast v82
  let c1_i32_93 : BitVec 32 := 1#32
  let v173 : Index := Scalar.indexCast c1_i32_93
  let c48_94 : Index := 48#32
  ![0, v172.toNat, 1, 48]
def k2_off18 (k2_t2 : Fin k2_t2_loop.trips) (c0_i32_58 : BitVec 32) : Fin 4 → Nat :=
  let c0_i32_95 : BitVec 32 := 0#32
  let v179 : Index := Scalar.indexCast c0_i32_95
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v180 : Index := Scalar.indexCast v82
  let c1_i32_96 : BitVec 32 := 1#32
  let v181 : Index := Scalar.indexCast c1_i32_96
  let c64_97 : Index := 64#32
  ![0, v180.toNat, 1, 64]
def k2_off19 (k2_t2 : Fin k2_t2_loop.trips) (c0_i32_58 : BitVec 32) : Fin 4 → Nat :=
  let c0_i32_98 : BitVec 32 := 0#32
  let v187 : Index := Scalar.indexCast c0_i32_98
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v188 : Index := Scalar.indexCast v82
  let c1_i32_99 : BitVec 32 := 1#32
  let v189 : Index := Scalar.indexCast c1_i32_99
  let c80_100 : Index := 80#32
  ![0, v188.toNat, 1, 80]
def k2_off20 (k2_t2 : Fin k2_t2_loop.trips) (c0_i32_58 : BitVec 32) : Fin 4 → Nat :=
  let c0_i32_101 : BitVec 32 := 0#32
  let v195 : Index := Scalar.indexCast c0_i32_101
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v196 : Index := Scalar.indexCast v82
  let c1_i32_102 : BitVec 32 := 1#32
  let v197 : Index := Scalar.indexCast c1_i32_102
  let c96_103 : Index := 96#32
  ![0, v196.toNat, 1, 96]
def k2_off21 (k2_t2 : Fin k2_t2_loop.trips) (c0_i32_58 : BitVec 32) : Fin 4 → Nat :=
  let c0_i32_104 : BitVec 32 := 0#32
  let v203 : Index := Scalar.indexCast c0_i32_104
  let c0_i32_32 : BitVec 32 := 0#32
  let c1_i32_33 : BitVec 32 := 1#32
  let arg15 : BitVec 32 := Scf.iv c0_i32_32 c1_i32_33 k2_t2
  let c24_i32 : BitVec 32 := 24#32
  let v81 : BitVec 32 := Scalar.muli arg15 c24_i32
  let v82 : BitVec 32 := Scalar.addi v81 c0_i32_58
  let v204 : Index := Scalar.indexCast v82
  let c1_i32_105 : BitVec 32 := 1#32
  let v205 : Index := Scalar.indexCast c1_i32_105
  let c112_106 : Index := 112#32
  ![0, v204.toNat, 1, 112]
def k2_off22 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3247 : Index := Scalar.indexCast v40
  let c0_1239 : Index := 0#32
  ![v3247.toNat, 0]
def k2_off23 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3251 : Index := Scalar.indexCast v40
  let c16_1240 : Index := 16#32
  ![v3251.toNat, 16]
def k2_off24 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3255 : Index := Scalar.indexCast v40
  let c32_1241 : Index := 32#32
  ![v3255.toNat, 32]
def k2_off25 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3259 : Index := Scalar.indexCast v40
  let c48_1242 : Index := 48#32
  ![v3259.toNat, 48]
def k2_off26 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3263 : Index := Scalar.indexCast v40
  let c64_1243 : Index := 64#32
  ![v3263.toNat, 64]
def k2_off27 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3267 : Index := Scalar.indexCast v40
  let c80_1244 : Index := 80#32
  ![v3267.toNat, 80]
def k2_off28 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3271 : Index := Scalar.indexCast v40
  let c96_1245 : Index := 96#32
  ![v3271.toNat, 96]
def k2_off29 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3275 : Index := Scalar.indexCast v40
  let c112_1246 : Index := 112#32
  ![v3275.toNat, 112]
def k2_off30 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3279 : Index := Scalar.indexCast v40
  let c128_1247 : Index := 128#32
  ![v3279.toNat, 128]
def k2_off31 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3283 : Index := Scalar.indexCast v40
  let c144_1248 : Index := 144#32
  ![v3283.toNat, 144]
def k2_off32 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3287 : Index := Scalar.indexCast v40
  let c160_1249 : Index := 160#32
  ![v3287.toNat, 160]
def k2_off33 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3291 : Index := Scalar.indexCast v40
  let c176_1250 : Index := 176#32
  ![v3291.toNat, 176]
def k2_off34 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3295 : Index := Scalar.indexCast v40
  let c192_1251 : Index := 192#32
  ![v3295.toNat, 192]
def k2_off35 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3299 : Index := Scalar.indexCast v40
  let c208_1252 : Index := 208#32
  ![v3299.toNat, 208]
def k2_off36 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3303 : Index := Scalar.indexCast v40
  let c224_1253 : Index := 224#32
  ![v3303.toNat, 224]
def k2_off37 (k2_t1 : Fin k2_t1_loop.trips) (k2_t2 : Fin k2_t2_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c4_i32_55 : BitVec 32 := 4#32
  let v39 : BitVec 32 := Scalar.muli v16 c4_i32_55
  let c0_i32_32 : BitVec 32 := 0#32
  let c1_i32_33 : BitVec 32 := 1#32
  let arg15 : BitVec 32 := Scf.iv c0_i32_32 c1_i32_33 k2_t2
  let v40 : BitVec 32 := Scalar.addi v39 arg15
  let v3307 : Index := Scalar.indexCast v40
  let c240_1254 : Index := 240#32
  ![v3307.toNat, 240]
def k2_cond1 (k2_t1 : Fin k2_t1_loop.trips) : BitVec 1 :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c2_i32_35 : BitVec 32 := 2#32
  let v23 : BitVec 32 := Scalar.addi v16 c2_i32_35
  let c20_i32 : BitVec 32 := 20#32
  let v24 : BitVec 1 := Scalar.cmpi .slt v23 c20_i32
  let v25 : BitVec 32 := Scalar.extui v24
  let c0_i32_36 : BitVec 32 := 0#32
  let v26 : BitVec 1 := Scalar.cmpi .ne v25 c0_i32_36
  v26

def k2_off38 (k2_t1 : Fin k2_t1_loop.trips) : Fin 2 → Nat :=
  let c0_i32_17 : BitVec 32 := 0#32
  let c1_i32_18 : BitVec 32 := 1#32
  let arg14 : BitVec 32 := Scf.iv c0_i32_17 c1_i32_18 k2_t1
  let c2_i32_21 : BitVec 32 := 2#32
  let v15 : BitVec 32 := Scalar.muli arg14 c2_i32_21
  let c0_i32_22 : BitVec 32 := 0#32
  let v16 : BitVec 32 := Scalar.addi v15 c0_i32_22
  let c2_i32_55 : BitVec 32 := 2#32
  let v39 : BitVec 32 := Scalar.addi v16 c2_i32_55
  let c0_i32_60 : BitVec 32 := 0#32
  ![v39.toNat, 0]
@[reducible] def k2_t3_loop : Scf.Loop 32 :=
  let c0_i32_48 : BitVec 32 := 0#32
  let c4_i32_49 : BitVec 32 := 4#32
  let v34 : BitVec 32 := Scalar.addi c0_i32_48 c4_i32_49
  let c1_i32_50 : BitVec 32 := 1#32
  ⟨c0_i32_48, v34, c1_i32_50⟩
def k2_off39 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v41 : Index := Scalar.indexCast v40
  let c0 : Index := 0#32
  ![v41.toNat, 0]
def k2_off40 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v44 : Index := Scalar.indexCast v40
  let c16 : Index := 16#32
  ![v44.toNat, 16]
def k2_off41 (k2_t3 : Fin k2_t3_loop.trips) (c0_i32_58 : BitVec 32) : Fin 4 → Nat :=
  let c1_i32_59 : BitVec 32 := 1#32
  let v83 : Index := Scalar.indexCast c1_i32_59
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v84 : Index := Scalar.indexCast v82
  let c0_i32_60 : BitVec 32 := 0#32
  let v85 : Index := Scalar.indexCast c0_i32_60
  let c0_61 : Index := 0#32
  ![1, v84.toNat, 0, 0]
def k2_off42 (k2_t3 : Fin k2_t3_loop.trips) (c0_i32_58 : BitVec 32) : Fin 4 → Nat :=
  let c1_i32_62 : BitVec 32 := 1#32
  let v91 : Index := Scalar.indexCast c1_i32_62
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v92 : Index := Scalar.indexCast v82
  let c0_i32_63 : BitVec 32 := 0#32
  let v93 : Index := Scalar.indexCast c0_i32_63
  let c16_64 : Index := 16#32
  ![1, v92.toNat, 0, 16]
def k2_off43 (k2_t3 : Fin k2_t3_loop.trips) (c0_i32_58 : BitVec 32) : Fin 4 → Nat :=
  let c1_i32_65 : BitVec 32 := 1#32
  let v99 : Index := Scalar.indexCast c1_i32_65
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v100 : Index := Scalar.indexCast v82
  let c0_i32_66 : BitVec 32 := 0#32
  let v101 : Index := Scalar.indexCast c0_i32_66
  let c32_67 : Index := 32#32
  ![1, v100.toNat, 0, 32]
def k2_off44 (k2_t3 : Fin k2_t3_loop.trips) (c0_i32_58 : BitVec 32) : Fin 4 → Nat :=
  let c1_i32_68 : BitVec 32 := 1#32
  let v107 : Index := Scalar.indexCast c1_i32_68
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v108 : Index := Scalar.indexCast v82
  let c0_i32_69 : BitVec 32 := 0#32
  let v109 : Index := Scalar.indexCast c0_i32_69
  let c48_70 : Index := 48#32
  ![1, v108.toNat, 0, 48]
def k2_off45 (k2_t3 : Fin k2_t3_loop.trips) (c0_i32_58 : BitVec 32) : Fin 4 → Nat :=
  let c1_i32_71 : BitVec 32 := 1#32
  let v115 : Index := Scalar.indexCast c1_i32_71
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v116 : Index := Scalar.indexCast v82
  let c0_i32_72 : BitVec 32 := 0#32
  let v117 : Index := Scalar.indexCast c0_i32_72
  let c64_73 : Index := 64#32
  ![1, v116.toNat, 0, 64]
def k2_off46 (k2_t3 : Fin k2_t3_loop.trips) (c0_i32_58 : BitVec 32) : Fin 4 → Nat :=
  let c1_i32_74 : BitVec 32 := 1#32
  let v123 : Index := Scalar.indexCast c1_i32_74
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v124 : Index := Scalar.indexCast v82
  let c0_i32_75 : BitVec 32 := 0#32
  let v125 : Index := Scalar.indexCast c0_i32_75
  let c80_76 : Index := 80#32
  ![1, v124.toNat, 0, 80]
def k2_off47 (k2_t3 : Fin k2_t3_loop.trips) (c0_i32_58 : BitVec 32) : Fin 4 → Nat :=
  let c1_i32_77 : BitVec 32 := 1#32
  let v131 : Index := Scalar.indexCast c1_i32_77
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v132 : Index := Scalar.indexCast v82
  let c0_i32_78 : BitVec 32 := 0#32
  let v133 : Index := Scalar.indexCast c0_i32_78
  let c96_79 : Index := 96#32
  ![1, v132.toNat, 0, 96]
def k2_off48 (k2_t3 : Fin k2_t3_loop.trips) (c0_i32_58 : BitVec 32) : Fin 4 → Nat :=
  let c1_i32_80 : BitVec 32 := 1#32
  let v139 : Index := Scalar.indexCast c1_i32_80
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v140 : Index := Scalar.indexCast v82
  let c0_i32_81 : BitVec 32 := 0#32
  let v141 : Index := Scalar.indexCast c0_i32_81
  let c112_82 : Index := 112#32
  ![1, v140.toNat, 0, 112]
def k2_off49 (k2_t3 : Fin k2_t3_loop.trips) (c0_i32_58 : BitVec 32) : Fin 4 → Nat :=
  let c1_i32_83 : BitVec 32 := 1#32
  let v147 : Index := Scalar.indexCast c1_i32_83
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v148 : Index := Scalar.indexCast v82
  let c1_i32_84 : BitVec 32 := 1#32
  let v149 : Index := Scalar.indexCast c1_i32_84
  let c0_85 : Index := 0#32
  ![1, v148.toNat, 1, 0]
def k2_off50 (k2_t3 : Fin k2_t3_loop.trips) (c0_i32_58 : BitVec 32) : Fin 4 → Nat :=
  let c1_i32_86 : BitVec 32 := 1#32
  let v155 : Index := Scalar.indexCast c1_i32_86
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v156 : Index := Scalar.indexCast v82
  let c1_i32_87 : BitVec 32 := 1#32
  let v157 : Index := Scalar.indexCast c1_i32_87
  let c16_88 : Index := 16#32
  ![1, v156.toNat, 1, 16]
def k2_off51 (k2_t3 : Fin k2_t3_loop.trips) (c0_i32_58 : BitVec 32) : Fin 4 → Nat :=
  let c1_i32_89 : BitVec 32 := 1#32
  let v163 : Index := Scalar.indexCast c1_i32_89
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v164 : Index := Scalar.indexCast v82
  let c1_i32_90 : BitVec 32 := 1#32
  let v165 : Index := Scalar.indexCast c1_i32_90
  let c32_91 : Index := 32#32
  ![1, v164.toNat, 1, 32]
def k2_off52 (k2_t3 : Fin k2_t3_loop.trips) (c0_i32_58 : BitVec 32) : Fin 4 → Nat :=
  let c1_i32_92 : BitVec 32 := 1#32
  let v171 : Index := Scalar.indexCast c1_i32_92
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v172 : Index := Scalar.indexCast v82
  let c1_i32_93 : BitVec 32 := 1#32
  let v173 : Index := Scalar.indexCast c1_i32_93
  let c48_94 : Index := 48#32
  ![1, v172.toNat, 1, 48]
def k2_off53 (k2_t3 : Fin k2_t3_loop.trips) (c0_i32_58 : BitVec 32) : Fin 4 → Nat :=
  let c1_i32_95 : BitVec 32 := 1#32
  let v179 : Index := Scalar.indexCast c1_i32_95
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v180 : Index := Scalar.indexCast v82
  let c1_i32_96 : BitVec 32 := 1#32
  let v181 : Index := Scalar.indexCast c1_i32_96
  let c64_97 : Index := 64#32
  ![1, v180.toNat, 1, 64]
def k2_off54 (k2_t3 : Fin k2_t3_loop.trips) (c0_i32_58 : BitVec 32) : Fin 4 → Nat :=
  let c1_i32_98 : BitVec 32 := 1#32
  let v187 : Index := Scalar.indexCast c1_i32_98
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v188 : Index := Scalar.indexCast v82
  let c1_i32_99 : BitVec 32 := 1#32
  let v189 : Index := Scalar.indexCast c1_i32_99
  let c80_100 : Index := 80#32
  ![1, v188.toNat, 1, 80]
def k2_off55 (k2_t3 : Fin k2_t3_loop.trips) (c0_i32_58 : BitVec 32) : Fin 4 → Nat :=
  let c1_i32_101 : BitVec 32 := 1#32
  let v195 : Index := Scalar.indexCast c1_i32_101
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v196 : Index := Scalar.indexCast v82
  let c1_i32_102 : BitVec 32 := 1#32
  let v197 : Index := Scalar.indexCast c1_i32_102
  let c96_103 : Index := 96#32
  ![1, v196.toNat, 1, 96]
def k2_off56 (k2_t3 : Fin k2_t3_loop.trips) (c0_i32_58 : BitVec 32) : Fin 4 → Nat :=
  let c1_i32_104 : BitVec 32 := 1#32
  let v203 : Index := Scalar.indexCast c1_i32_104
  let c0_i32_48 : BitVec 32 := 0#32
  let c1_i32_50 : BitVec 32 := 1#32
  let arg15 : BitVec 32 := Scf.iv c0_i32_48 c1_i32_50 k2_t3
  let c24_i32 : BitVec 32 := 24#32
  let v81 : BitVec 32 := Scalar.muli arg15 c24_i32
  let v82 : BitVec 32 := Scalar.addi v81 c0_i32_58
  let v204 : Index := Scalar.indexCast v82
  let c1_i32_105 : BitVec 32 := 1#32
  let v205 : Index := Scalar.indexCast c1_i32_105
  let c112_106 : Index := 112#32
  ![1, v204.toNat, 1, 112]
def k2_off57 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3247 : Index := Scalar.indexCast v40
  let c0_1239 : Index := 0#32
  ![v3247.toNat, 0]
def k2_off58 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3251 : Index := Scalar.indexCast v40
  let c16_1240 : Index := 16#32
  ![v3251.toNat, 16]
def k2_off59 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3255 : Index := Scalar.indexCast v40
  let c32_1241 : Index := 32#32
  ![v3255.toNat, 32]
def k2_off60 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3259 : Index := Scalar.indexCast v40
  let c48_1242 : Index := 48#32
  ![v3259.toNat, 48]
def k2_off61 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3263 : Index := Scalar.indexCast v40
  let c64_1243 : Index := 64#32
  ![v3263.toNat, 64]
def k2_off62 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3267 : Index := Scalar.indexCast v40
  let c80_1244 : Index := 80#32
  ![v3267.toNat, 80]
def k2_off63 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3271 : Index := Scalar.indexCast v40
  let c96_1245 : Index := 96#32
  ![v3271.toNat, 96]
def k2_off64 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3275 : Index := Scalar.indexCast v40
  let c112_1246 : Index := 112#32
  ![v3275.toNat, 112]
def k2_off65 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3279 : Index := Scalar.indexCast v40
  let c128_1247 : Index := 128#32
  ![v3279.toNat, 128]
def k2_off66 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3283 : Index := Scalar.indexCast v40
  let c144_1248 : Index := 144#32
  ![v3283.toNat, 144]
def k2_off67 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3287 : Index := Scalar.indexCast v40
  let c160_1249 : Index := 160#32
  ![v3287.toNat, 160]
def k2_off68 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3291 : Index := Scalar.indexCast v40
  let c176_1250 : Index := 176#32
  ![v3291.toNat, 176]
def k2_off69 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3295 : Index := Scalar.indexCast v40
  let c192_1251 : Index := 192#32
  ![v3295.toNat, 192]
def k2_off70 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3299 : Index := Scalar.indexCast v40
  let c208_1252 : Index := 208#32
  ![v3299.toNat, 208]
def k2_off71 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3303 : Index := Scalar.indexCast v40
  let c224_1253 : Index := 224#32
  ![v3303.toNat, 224]
def k2_off72 (k2_t1 : Fin k2_t1_loop.trips) (k2_t3 : Fin k2_t3_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c4_i32_55 : BitVec 32 := 4#32
  let v39 : BitVec 32 := Scalar.muli v28 c4_i32_55
  let c0_i32_48 : BitVec 32 := 0#32
  let c1_i32_50 : BitVec 32 := 1#32
  let arg15 : BitVec 32 := Scf.iv c0_i32_48 c1_i32_50 k2_t3
  let v40 : BitVec 32 := Scalar.addi v39 arg15
  let v3307 : Index := Scalar.indexCast v40
  let c240_1254 : Index := 240#32
  ![v3307.toNat, 240]
def k2_cond2 (k2_t1 : Fin k2_t1_loop.trips) : BitVec 1 :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c2_i32_52 : BitVec 32 := 2#32
  let v35 : BitVec 32 := Scalar.addi v28 c2_i32_52
  let c20_i32_53 : BitVec 32 := 20#32
  let v36 : BitVec 1 := Scalar.cmpi .slt v35 c20_i32_53
  let v37 : BitVec 32 := Scalar.extui v36
  let c0_i32_54 : BitVec 32 := 0#32
  let v38 : BitVec 1 := Scalar.cmpi .ne v37 c0_i32_54
  v38

def k2_off73 (k2_t1 : Fin k2_t1_loop.trips) : Fin 2 → Nat :=
  let c0_i32_17 : BitVec 32 := 0#32
  let c1_i32_18 : BitVec 32 := 1#32
  let arg14 : BitVec 32 := Scf.iv c0_i32_17 c1_i32_18 k2_t1
  let c2_i32_37 : BitVec 32 := 2#32
  let v27 : BitVec 32 := Scalar.muli arg14 c2_i32_37
  let c1_i32_38 : BitVec 32 := 1#32
  let v28 : BitVec 32 := Scalar.addi v27 c1_i32_38
  let c2_i32_55 : BitVec 32 := 2#32
  let v39 : BitVec 32 := Scalar.addi v28 c2_i32_55
  let c0_i32_60 : BitVec 32 := 0#32
  ![v39.toNat, 0]
def k2_off74 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32_20 : BitVec 32 := 80#32
  let v14 : BitVec 32 := Scalar.muli v1 c80_i32_20
  let c0_i32_21_r3 : BitVec 32 := 0#32
  ![v14.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2500x256 : Shape := ⟨3, ![1, 2500, 256]⟩
abbrev S1x6x256x32x88 : Shape := ⟨5, ![1, 6, 256, 32, 88]⟩
abbrev S1x6x2500x2 : Shape := ⟨4, ![1, 6, 2500, 2]⟩
abbrev S1x6x2500 : Shape := ⟨3, ![1, 6, 2500]⟩
abbrev S256x384 : Shape := ⟨2, ![256, 384]⟩
abbrev S384 : Shape := ⟨1, ![384]⟩
abbrev S256x192 : Shape := ⟨2, ![256, 192]⟩
abbrev S192 : Shape := ⟨1, ![192]⟩
abbrev S256x256 : Shape := ⟨2, ![256, 256]⟩
abbrev S256 : Shape := ⟨1, ![256]⟩
abbrev S2500x256 : Shape := ⟨2, ![2500, 256]⟩
abbrev S6x256x32x88 : Shape := ⟨4, ![6, 256, 32, 88]⟩
abbrev S6x256x2816 : Shape := ⟨3, ![6, 256, 2816]⟩
abbrev S6x2816x256 : Shape := ⟨3, ![6, 2816, 256]⟩
abbrev S1x1x256 : Shape := ⟨3, ![1, 1, 256]⟩
abbrev S16896x256 : Shape := ⟨2, ![16896, 256]⟩
abbrev S2500x384 : Shape := ⟨2, ![2500, 384]⟩
abbrev S1x384 : Shape := ⟨2, ![1, 384]⟩
abbrev S2500x6x32x2 : Shape := ⟨4, ![2500, 6, 32, 2]⟩
abbrev S2500x192 : Shape := ⟨2, ![2500, 192]⟩
abbrev S1x192 : Shape := ⟨2, ![1, 192]⟩
abbrev S2500x6x32 : Shape := ⟨3, ![2500, 6, 32]⟩
abbrev S6x2500 : Shape := ⟨2, ![6, 2500]⟩
abbrev S2500x6 : Shape := ⟨2, ![2500, 6]⟩
abbrev S2500x6x1 : Shape := ⟨3, ![2500, 6, 1]⟩
abbrev S_ : Shape := ⟨0, ![]⟩
abbrev S2500 : Shape := ⟨1, ![2500]⟩
abbrev S2500x1x1 : Shape := ⟨3, ![2500, 1, 1]⟩
abbrev S6x2500x2 : Shape := ⟨3, ![6, 2500, 2]⟩
abbrev S2500x6x2 : Shape := ⟨3, ![2500, 6, 2]⟩
abbrev S2500x6x32x1 : Shape := ⟨4, ![2500, 6, 32, 1]⟩
abbrev S6 : Shape := ⟨1, ![6]⟩
abbrev S1x6x1 : Shape := ⟨3, ![1, 6, 1]⟩
abbrev S2500x6x32x256 : Shape := ⟨4, ![2500, 6, 32, 256]⟩
abbrev S1x256 : Shape := ⟨2, ![1, 256]⟩

abbrev nBuf : Space → Nat
  | .hbm => 357
  | .vmem => 0
  | .smem => 0
  | _ => 0

abbrev hbmTy0_0 (i : Nat) : BufTy := match i % 128 with
  | 0 => ⟨S1x2500x256, .f32⟩
  | 1 => ⟨S1x6x256x32x88, .f32⟩
  | 2 => ⟨S1x6x2500x2, .f32⟩
  | 3 => ⟨S1x6x2500, .i1⟩
  | 4 => ⟨S256x384, .f32⟩
  | 5 => ⟨S384, .f32⟩
  | 6 => ⟨S256x192, .f32⟩
  | 7 => ⟨S192, .f32⟩
  | 8 => ⟨S256x256, .f32⟩
  | 9 => ⟨S256, .f32⟩
  | 10 => ⟨S256x256, .f32⟩
  | 11 => ⟨S256, .f32⟩
  | 12 => ⟨S2500x256, .f32⟩
  | 13 => ⟨S6x256x32x88, .f32⟩
  | 14 => ⟨S6x256x2816, .f32⟩
  | 15 => ⟨S6x2816x256, .f32⟩
  | 16 => ⟨S6x2816x256, .f32⟩
  | 17 => ⟨S1x1x256, .f32⟩
  | 18 => ⟨S6x2816x256, .f32⟩
  | 19 => ⟨S6x2816x256, .f32⟩
  | 20 => ⟨S16896x256, .f32⟩
  | 21 => ⟨S2500x384, .f32⟩
  | 22 => ⟨S1x384, .f32⟩
  | 23 => ⟨S2500x384, .f32⟩
  | 24 => ⟨S2500x384, .f32⟩
  | 25 => ⟨S2500x6x32x2, .f32⟩
  | 26 => ⟨S2500x192, .f32⟩
  | 27 => ⟨S1x192, .f32⟩
  | 28 => ⟨S2500x192, .f32⟩
  | 29 => ⟨S2500x192, .f32⟩
  | 30 => ⟨S2500x6x32, .f32⟩
  | 31 => ⟨S6x2500, .i1⟩
  | 32 => ⟨S2500x6, .i1⟩
  | 33 => ⟨S2500x6x1, .i1⟩
  | 34 => ⟨S_, .f32⟩
  | 35 => ⟨S_, .f32⟩
  | 36 => ⟨S2500x6x32, .i1⟩
  | 37 => ⟨S2500x6x32, .f32⟩
  | 38 => ⟨S2500x6x32, .f32⟩
  | 39 => ⟨S_, .f32⟩
  | 40 => ⟨S2500, .f32⟩
  | 41 => ⟨S2500x1x1, .f32⟩
  | 42 => ⟨S2500x6x32, .f32⟩
  | 43 => ⟨S2500x6x32, .f32⟩
  | 44 => ⟨S2500x6x32, .f32⟩
  | 45 => ⟨S_, .f32⟩
  | 46 => ⟨S2500, .f32⟩
  | 47 => ⟨S2500x1x1, .f32⟩
  | 48 => ⟨S2500x6x32, .f32⟩
  | 49 => ⟨S2500x6x32, .f32⟩
  | 50 => ⟨S_, .f32⟩
  | 51 => ⟨S2500x6x32, .i1⟩
  | 52 => ⟨S_, .f32⟩
  | 53 => ⟨S2500x6x32, .f32⟩
  | 54 => ⟨S2500x6x32, .f32⟩
  | 55 => ⟨S_, .f32⟩
  | 56 => ⟨S2500x6x32, .f32⟩
  | 57 => ⟨S2500x6x32, .i1⟩
  | 58 => ⟨S_, .f32⟩
  | 59 => ⟨S2500x6x32, .f32⟩
  | 60 => ⟨S2500x6x32, .f32⟩
  | 61 => ⟨S_, .f32⟩
  | 62 => ⟨S2500x6x32, .f32⟩
  | 63 => ⟨S2500x6x32, .i1⟩
  | 64 => ⟨S_, .f32⟩
  | 65 => ⟨S2500x6x32, .f32⟩
  | 66 => ⟨S2500x6x32, .f32⟩
  | 67 => ⟨S6x2500x2, .f32⟩
  | 68 => ⟨S2500x6x2, .f32⟩
  | 69 => ⟨S2500x6x1, .f32⟩
  | 70 => ⟨S2500x6, .f32⟩
  | 71 => ⟨S2500x6x1, .f32⟩
  | 72 => ⟨S2500x6x32x1, .f32⟩
  | 73 => ⟨S2500x6x32, .f32⟩
  | 74 => ⟨S_, .f32⟩
  | 75 => ⟨S2500x6x32, .f32⟩
  | 76 => ⟨S2500x6x32, .f32⟩
  | 77 => ⟨S2500x6x32, .f32⟩
  | 78 => ⟨S2500x6x32, .f32⟩
  | 79 => ⟨S2500x6x1, .f32⟩
  | 80 => ⟨S2500x6, .f32⟩
  | 81 => ⟨S2500x6x1, .f32⟩
  | 82 => ⟨S2500x6x32x1, .f32⟩
  | 83 => ⟨S2500x6x32, .f32⟩
  | 84 => ⟨S_, .f32⟩
  | 85 => ⟨S2500x6x32, .f32⟩
  | 86 => ⟨S2500x6x32, .f32⟩
  | 87 => ⟨S2500x6x32, .f32⟩
  | 88 => ⟨S2500x6x32, .f32⟩
  | 89 => ⟨S_, .f32⟩
  | 90 => ⟨S2500x6x32, .f32⟩
  | 91 => ⟨S2500x6x32, .f32⟩
  | 92 => ⟨S_, .f32⟩
  | 93 => ⟨S2500x6x32, .f32⟩
  | 94 => ⟨S2500x6x32, .f32⟩
  | 95 => ⟨S_, .f32⟩
  | 96 => ⟨S2500x6x32, .f32⟩
  | 97 => ⟨S2500x6x32, .f32⟩
  | 98 => ⟨S_, .f32⟩
  | 99 => ⟨S2500x6x32, .f32⟩
  | 100 => ⟨S2500x6x32, .f32⟩
  | 101 => ⟨S_, .f32⟩
  | 102 => ⟨S2500x6x32, .f32⟩
  | 103 => ⟨S2500x6x32, .f32⟩
  | 104 => ⟨S_, .f32⟩
  | 105 => ⟨S2500x6x32, .f32⟩
  | 106 => ⟨S2500x6x32, .f32⟩
  | 107 => ⟨S2500x6x32, .f32⟩
  | 108 => ⟨S2500x6x32, .f32⟩
  | 109 => ⟨S_, .f32⟩
  | 110 => ⟨S2500x6x32, .f32⟩
  | 111 => ⟨S2500x6x32, .f32⟩
  | 112 => ⟨S_, .f32⟩
  | 113 => ⟨S2500x6x32, .f32⟩
  | 114 => ⟨S2500x6x32, .f32⟩
  | 115 => ⟨S2500x6x32, .f32⟩
  | 116 => ⟨S_, .f32⟩
  | 117 => ⟨S2500x6x32, .f32⟩
  | 118 => ⟨S2500x6x32, .f32⟩
  | 119 => ⟨S2500x6x32, .f32⟩
  | 120 => ⟨S_, .f32⟩
  | 121 => ⟨S2500x6x32, .f32⟩
  | 122 => ⟨S2500x6x32, .f32⟩
  | 123 => ⟨S6, .i32⟩
  | 124 => ⟨S1x6x1, .i32⟩
  | 125 => ⟨S_, .i32⟩
  | 126 => ⟨S1x6x1, .i32⟩
  | 127 => ⟨S1x6x1, .i32⟩
  | _ => ⟨S1x2500x256, .f32⟩

abbrev hbmTy0_1 (i : Nat) : BufTy := match i % 128 with
  | 0 => ⟨S2500x6x32, .f32⟩
  | 1 => ⟨S_, .f32⟩
  | 2 => ⟨S2500x6x32, .f32⟩
  | 3 => ⟨S2500x6x32, .i1⟩
  | 4 => ⟨S_, .f32⟩
  | 5 => ⟨S2500x6x32, .f32⟩
  | 6 => ⟨S2500x6x32, .i1⟩
  | 7 => ⟨S2500x6x32, .i1⟩
  | 8 => ⟨S_, .f32⟩
  | 9 => ⟨S2500x6x32, .f32⟩
  | 10 => ⟨S2500x6x32, .i1⟩
  | 11 => ⟨S2500x6x32, .i1⟩
  | 12 => ⟨S_, .f32⟩
  | 13 => ⟨S2500x6x32, .f32⟩
  | 14 => ⟨S2500x6x32, .i1⟩
  | 15 => ⟨S2500x6x32, .i1⟩
  | 16 => ⟨S_, .i32⟩
  | 17 => ⟨S_, .i32⟩
  | 18 => ⟨S_, .f32⟩
  | 19 => ⟨S2500x6x32, .f32⟩
  | 20 => ⟨S2500x6x32, .f32⟩
  | 21 => ⟨S_, .f32⟩
  | 22 => ⟨S2500x6x32, .f32⟩
  | 23 => ⟨S2500x6x32, .f32⟩
  | 24 => ⟨S2500x6x32, .i32⟩
  | 25 => ⟨S_, .i32⟩
  | 26 => ⟨S_, .i32⟩
  | 27 => ⟨S_, .f32⟩
  | 28 => ⟨S2500x6x32, .f32⟩
  | 29 => ⟨S2500x6x32, .f32⟩
  | 30 => ⟨S_, .f32⟩
  | 31 => ⟨S2500x6x32, .f32⟩
  | 32 => ⟨S2500x6x32, .f32⟩
  | 33 => ⟨S2500x6x32, .i32⟩
  | 34 => ⟨S_, .i32⟩
  | 35 => ⟨S2500x6x32, .i32⟩
  | 36 => ⟨S2500x6x32, .i32⟩
  | 37 => ⟨S2500x6x32, .i32⟩
  | 38 => ⟨S2500x6x32, .i32⟩
  | 39 => ⟨S2500x6x32, .i32⟩
  | 40 => ⟨S_, .i32⟩
  | 41 => ⟨S2500x6x32, .i32⟩
  | 42 => ⟨S2500x6x32, .i1⟩
  | 43 => ⟨S_, .i32⟩
  | 44 => ⟨S2500x6x32, .i32⟩
  | 45 => ⟨S2500x6x32, .i32⟩
  | 46 => ⟨S2500x6x32, .i32⟩
  | 47 => ⟨S2500x6x32x1, .i32⟩
  | 48 => ⟨S2500x6x32x256, .f32⟩
  | 49 => ⟨S2500x6x32, .f32⟩
  | 50 => ⟨S2500x6x32, .f32⟩
  | 51 => ⟨S2500x6x32x1, .f32⟩
  | 52 => ⟨S2500x6x32x256, .f32⟩
  | 53 => ⟨S2500x6x32x256, .f32⟩
  | 54 => ⟨S2500x6x32, .f32⟩
  | 55 => ⟨S_, .f32⟩
  | 56 => ⟨S2500x6x32, .f32⟩
  | 57 => ⟨S2500x6x32, .i1⟩
  | 58 => ⟨S_, .f32⟩
  | 59 => ⟨S2500x6x32, .f32⟩
  | 60 => ⟨S2500x6x32, .i1⟩
  | 61 => ⟨S2500x6x32, .i1⟩
  | 62 => ⟨S_, .f32⟩
  | 63 => ⟨S2500x6x32, .f32⟩
  | 64 => ⟨S2500x6x32, .i1⟩
  | 65 => ⟨S2500x6x32, .i1⟩
  | 66 => ⟨S_, .f32⟩
  | 67 => ⟨S2500x6x32, .f32⟩
  | 68 => ⟨S2500x6x32, .i1⟩
  | 69 => ⟨S2500x6x32, .i1⟩
  | 70 => ⟨S_, .i32⟩
  | 71 => ⟨S_, .i32⟩
  | 72 => ⟨S_, .f32⟩
  | 73 => ⟨S2500x6x32, .f32⟩
  | 74 => ⟨S2500x6x32, .f32⟩
  | 75 => ⟨S_, .f32⟩
  | 76 => ⟨S2500x6x32, .f32⟩
  | 77 => ⟨S2500x6x32, .f32⟩
  | 78 => ⟨S2500x6x32, .i32⟩
  | 79 => ⟨S_, .i32⟩
  | 80 => ⟨S_, .i32⟩
  | 81 => ⟨S_, .f32⟩
  | 82 => ⟨S2500x6x32, .f32⟩
  | 83 => ⟨S2500x6x32, .f32⟩
  | 84 => ⟨S_, .f32⟩
  | 85 => ⟨S2500x6x32, .f32⟩
  | 86 => ⟨S2500x6x32, .f32⟩
  | 87 => ⟨S2500x6x32, .i32⟩
  | 88 => ⟨S_, .i32⟩
  | 89 => ⟨S2500x6x32, .i32⟩
  | 90 => ⟨S2500x6x32, .i32⟩
  | 91 => ⟨S2500x6x32, .i32⟩
  | 92 => ⟨S2500x6x32, .i32⟩
  | 93 => ⟨S2500x6x32, .i32⟩
  | 94 => ⟨S_, .i32⟩
  | 95 => ⟨S2500x6x32, .i32⟩
  | 96 => ⟨S2500x6x32, .i1⟩
  | 97 => ⟨S_, .i32⟩
  | 98 => ⟨S2500x6x32, .i32⟩
  | 99 => ⟨S2500x6x32, .i32⟩
  | 100 => ⟨S2500x6x32, .i32⟩
  | 101 => ⟨S2500x6x32x1, .i32⟩
  | 102 => ⟨S2500x6x32x256, .f32⟩
  | 103 => ⟨S2500x6x32, .f32⟩
  | 104 => ⟨S2500x6x32, .f32⟩
  | 105 => ⟨S2500x6x32x1, .f32⟩
  | 106 => ⟨S2500x6x32x256, .f32⟩
  | 107 => ⟨S2500x6x32x256, .f32⟩
  | 108 => ⟨S2500x6x32x256, .f32⟩
  | 109 => ⟨S2500x6x32, .f32⟩
  | 110 => ⟨S_, .f32⟩
  | 111 => ⟨S2500x6x32, .f32⟩
  | 112 => ⟨S2500x6x32, .i1⟩
  | 113 => ⟨S_, .f32⟩
  | 114 => ⟨S2500x6x32, .f32⟩
  | 115 => ⟨S2500x6x32, .i1⟩
  | 116 => ⟨S2500x6x32, .i1⟩
  | 117 => ⟨S_, .f32⟩
  | 118 => ⟨S2500x6x32, .f32⟩
  | 119 => ⟨S2500x6x32, .i1⟩
  | 120 => ⟨S2500x6x32, .i1⟩
  | 121 => ⟨S_, .f32⟩
  | 122 => ⟨S2500x6x32, .f32⟩
  | 123 => ⟨S2500x6x32, .i1⟩
  | 124 => ⟨S2500x6x32, .i1⟩
  | 125 => ⟨S_, .i32⟩
  | 126 => ⟨S_, .i32⟩
  | 127 => ⟨S_, .f32⟩
  | _ => ⟨S1x2500x256, .f32⟩

abbrev hbmTy0_2 (i : Nat) : BufTy := match i % 128 with
  | 0 => ⟨S2500x6x32, .f32⟩
  | 1 => ⟨S2500x6x32, .f32⟩
  | 2 => ⟨S_, .f32⟩
  | 3 => ⟨S2500x6x32, .f32⟩
  | 4 => ⟨S2500x6x32, .f32⟩
  | 5 => ⟨S2500x6x32, .i32⟩
  | 6 => ⟨S_, .i32⟩
  | 7 => ⟨S_, .i32⟩
  | 8 => ⟨S_, .f32⟩
  | 9 => ⟨S2500x6x32, .f32⟩
  | 10 => ⟨S2500x6x32, .f32⟩
  | 11 => ⟨S_, .f32⟩
  | 12 => ⟨S2500x6x32, .f32⟩
  | 13 => ⟨S2500x6x32, .f32⟩
  | 14 => ⟨S2500x6x32, .i32⟩
  | 15 => ⟨S_, .i32⟩
  | 16 => ⟨S2500x6x32, .i32⟩
  | 17 => ⟨S2500x6x32, .i32⟩
  | 18 => ⟨S2500x6x32, .i32⟩
  | 19 => ⟨S2500x6x32, .i32⟩
  | 20 => ⟨S2500x6x32, .i32⟩
  | 21 => ⟨S_, .i32⟩
  | 22 => ⟨S2500x6x32, .i32⟩
  | 23 => ⟨S2500x6x32, .i1⟩
  | 24 => ⟨S_, .i32⟩
  | 25 => ⟨S2500x6x32, .i32⟩
  | 26 => ⟨S2500x6x32, .i32⟩
  | 27 => ⟨S2500x6x32, .i32⟩
  | 28 => ⟨S2500x6x32x1, .i32⟩
  | 29 => ⟨S2500x6x32x256, .f32⟩
  | 30 => ⟨S2500x6x32, .f32⟩
  | 31 => ⟨S2500x6x32, .f32⟩
  | 32 => ⟨S2500x6x32x1, .f32⟩
  | 33 => ⟨S2500x6x32x256, .f32⟩
  | 34 => ⟨S2500x6x32x256, .f32⟩
  | 35 => ⟨S2500x6x32x256, .f32⟩
  | 36 => ⟨S2500x6x32, .f32⟩
  | 37 => ⟨S_, .f32⟩
  | 38 => ⟨S2500x6x32, .f32⟩
  | 39 => ⟨S2500x6x32, .i1⟩
  | 40 => ⟨S_, .f32⟩
  | 41 => ⟨S2500x6x32, .f32⟩
  | 42 => ⟨S2500x6x32, .i1⟩
  | 43 => ⟨S2500x6x32, .i1⟩
  | 44 => ⟨S_, .f32⟩
  | 45 => ⟨S2500x6x32, .f32⟩
  | 46 => ⟨S2500x6x32, .i1⟩
  | 47 => ⟨S2500x6x32, .i1⟩
  | 48 => ⟨S_, .f32⟩
  | 49 => ⟨S2500x6x32, .f32⟩
  | 50 => ⟨S2500x6x32, .i1⟩
  | 51 => ⟨S2500x6x32, .i1⟩
  | 52 => ⟨S_, .i32⟩
  | 53 => ⟨S_, .i32⟩
  | 54 => ⟨S_, .f32⟩
  | 55 => ⟨S2500x6x32, .f32⟩
  | 56 => ⟨S2500x6x32, .f32⟩
  | 57 => ⟨S_, .f32⟩
  | 58 => ⟨S2500x6x32, .f32⟩
  | 59 => ⟨S2500x6x32, .f32⟩
  | 60 => ⟨S2500x6x32, .i32⟩
  | 61 => ⟨S_, .i32⟩
  | 62 => ⟨S_, .i32⟩
  | 63 => ⟨S_, .f32⟩
  | 64 => ⟨S2500x6x32, .f32⟩
  | 65 => ⟨S2500x6x32, .f32⟩
  | 66 => ⟨S_, .f32⟩
  | 67 => ⟨S2500x6x32, .f32⟩
  | 68 => ⟨S2500x6x32, .f32⟩
  | 69 => ⟨S2500x6x32, .i32⟩
  | 70 => ⟨S_, .i32⟩
  | 71 => ⟨S2500x6x32, .i32⟩
  | 72 => ⟨S2500x6x32, .i32⟩
  | 73 => ⟨S2500x6x32, .i32⟩
  | 74 => ⟨S2500x6x32, .i32⟩
  | 75 => ⟨S2500x6x32, .i32⟩
  | 76 => ⟨S_, .i32⟩
  | 77 => ⟨S2500x6x32, .i32⟩
  | 78 => ⟨S2500x6x32, .i1⟩
  | 79 => ⟨S_, .i32⟩
  | 80 => ⟨S2500x6x32, .i32⟩
  | 81 => ⟨S2500x6x32, .i32⟩
  | 82 => ⟨S2500x6x32, .i32⟩
  | 83 => ⟨S2500x6x32x1, .i32⟩
  | 84 => ⟨S2500x6x32x256, .f32⟩
  | 85 => ⟨S2500x6x32, .f32⟩
  | 86 => ⟨S2500x6x32, .f32⟩
  | 87 => ⟨S2500x6x32x1, .f32⟩
  | 88 => ⟨S2500x6x32x256, .f32⟩
  | 89 => ⟨S2500x6x32x256, .f32⟩
  | 90 => ⟨S2500x6x32x256, .f32⟩
  | 91 => ⟨S2500x6x32x1, .f32⟩
  | 92 => ⟨S2500x6x32x256, .f32⟩
  | 93 => ⟨S2500x6x32x256, .f32⟩
  | 94 => ⟨S_, .f32⟩
  | 95 => ⟨S2500x256, .f32⟩
  | 96 => ⟨S2500x256, .f32⟩
  | 97 => ⟨S1x256, .f32⟩
  | 98 => ⟨S2500x256, .f32⟩
  | 99 => ⟨S2500x256, .f32⟩
  | 100 => ⟨S1x2500x256, .f32⟩
  | _ => ⟨S1x2500x256, .f32⟩

abbrev hbmTy (i : Nat) : BufTy := match i / 128 with
  | 0 => hbmTy0_0 i
  | 1 => hbmTy0_1 i
  | 2 => hbmTy0_2 i
  | _ => ⟨S1x2500x256, .f32⟩

abbrev bufTy : (tb : Table) → Fin (tcTables nBuf tb) → BufTy
  | .hbm, ⟨i, _⟩ => hbmTy i
  | _, _ => ⟨S1x2500x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_call1_v0 : Ref sig .tc := ⟨.hbm, 51, rfl⟩
abbrev main_call1_v1 : Ref sig .tc := ⟨.hbm, 52, rfl⟩
abbrev main_call1_call0_v0 : Ref sig .tc := ⟨.hbm, 53, rfl⟩
abbrev main_call1_v2 : Ref sig .tc := ⟨.hbm, 54, rfl⟩
abbrev main_call1_cst : Ref sig .tc := ⟨.hbm, 55, rfl⟩
abbrev main_call1_v3 : Ref sig .tc := ⟨.hbm, 56, rfl⟩
abbrev main_call1_v4 : Ref sig .tc := ⟨.hbm, 57, rfl⟩
abbrev main_call1_cst_0 : Ref sig .tc := ⟨.hbm, 58, rfl⟩
abbrev main_call1_call1_v0 : Ref sig .tc := ⟨.hbm, 59, rfl⟩
abbrev main_call1_v5 : Ref sig .tc := ⟨.hbm, 60, rfl⟩
abbrev main_call1_cst_1 : Ref sig .tc := ⟨.hbm, 61, rfl⟩
abbrev main_call1_v6 : Ref sig .tc := ⟨.hbm, 62, rfl⟩
abbrev main_call1_v7 : Ref sig .tc := ⟨.hbm, 63, rfl⟩
abbrev main_call1_cst_2 : Ref sig .tc := ⟨.hbm, 64, rfl⟩
abbrev main_call1_call2_v0 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_3 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_4 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_5 : Ref sig .tc := ⟨.hbm, 89, rfl⟩
abbrev main_v53 : Ref sig .tc := ⟨.hbm, 90, rfl⟩
abbrev main_v54 : Ref sig .tc := ⟨.hbm, 91, rfl⟩
abbrev main_cst_6 : Ref sig .tc := ⟨.hbm, 92, rfl⟩
abbrev main_v55 : Ref sig .tc := ⟨.hbm, 93, rfl⟩
abbrev main_v56 : Ref sig .tc := ⟨.hbm, 94, rfl⟩
abbrev main_cst_7 : Ref sig .tc := ⟨.hbm, 95, rfl⟩
abbrev main_v57 : Ref sig .tc := ⟨.hbm, 96, rfl⟩
abbrev main_v58 : Ref sig .tc := ⟨.hbm, 97, rfl⟩
abbrev main_cst_8 : Ref sig .tc := ⟨.hbm, 98, rfl⟩
abbrev main_v59 : Ref sig .tc := ⟨.hbm, 99, rfl⟩
abbrev main_v60 : Ref sig .tc := ⟨.hbm, 100, rfl⟩
abbrev main_cst_9 : Ref sig .tc := ⟨.hbm, 101, rfl⟩
abbrev main_v61 : Ref sig .tc := ⟨.hbm, 102, rfl⟩
abbrev main_v62 : Ref sig .tc := ⟨.hbm, 103, rfl⟩
abbrev main_cst_10 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_11 : Ref sig .tc := ⟨.hbm, 109, rfl⟩
abbrev main_v67 : Ref sig .tc := ⟨.hbm, 110, rfl⟩
abbrev main_v68 : Ref sig .tc := ⟨.hbm, 111, rfl⟩
abbrev main_cst_12 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_13 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_14 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_15 : Ref sig .tc := ⟨.hbm, 129, rfl⟩
abbrev main_v82 : Ref sig .tc := ⟨.hbm, 130, rfl⟩
abbrev main_v83 : Ref sig .tc := ⟨.hbm, 131, rfl⟩
abbrev main_cst_16 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_17 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_18 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_c_19 : Ref sig .tc := ⟨.hbm, 144, rfl⟩
abbrev main_c_20 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_v93 : Ref sig .tc := ⟨.hbm, 151, rfl⟩
abbrev main_v94 : Ref sig .tc := ⟨.hbm, 152, rfl⟩
abbrev main_c_21 : Ref sig .tc := ⟨.hbm, 153, rfl⟩
abbrev main_c_22 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_v95 : Ref sig .tc := ⟨.hbm, 160, rfl⟩
abbrev main_v96 : Ref sig .tc := ⟨.hbm, 161, rfl⟩
abbrev main_c_23 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_c_24 : Ref sig .tc := ⟨.hbm, 168, rfl⟩
abbrev main_v102 : Ref sig .tc := ⟨.hbm, 169, rfl⟩
abbrev main_v103 : Ref sig .tc := ⟨.hbm, 170, rfl⟩
abbrev main_c_25 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_cst_26 : Ref sig .tc := ⟨.hbm, 183, rfl⟩
abbrev main_v115 : Ref sig .tc := ⟨.hbm, 184, rfl⟩
abbrev main_v116 : Ref sig .tc := ⟨.hbm, 185, rfl⟩
abbrev main_cst_27 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_cst_28 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_cst_29 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_c_30 : Ref sig .tc := ⟨.hbm, 198, rfl⟩
abbrev main_c_31 : Ref sig .tc := ⟨.hbm, 199, rfl⟩
abbrev main_call4_v0 : Ref sig .tc := ⟨.hbm, 200, rfl⟩
abbrev main_call4_v1 : Ref sig .tc := ⟨.hbm, 201, rfl⟩
abbrev main_call4_v2 : Ref sig .tc := ⟨.hbm, 202, rfl⟩
abbrev main_call4_v3 : Ref sig .tc := ⟨.hbm, 203, rfl⟩
abbrev main_call4_v4 : Ref sig .tc := ⟨.hbm, 204, rfl⟩
abbrev main_v126 : Ref sig .tc := ⟨.hbm, 205, rfl⟩
abbrev main_v127 : Ref sig .tc := ⟨.hbm, 206, rfl⟩
abbrev main_c_32 : Ref sig .tc := ⟨.hbm, 207, rfl⟩
abbrev main_c_33 : Ref sig .tc := ⟨.hbm, 208, rfl⟩
abbrev main_call5_v0 : Ref sig .tc := ⟨.hbm, 209, rfl⟩
abbrev main_call5_v1 : Ref sig .tc := ⟨.hbm, 210, rfl⟩
abbrev main_call5_v2 : Ref sig .tc := ⟨.hbm, 211, rfl⟩
abbrev main_call5_v3 : Ref sig .tc := ⟨.hbm, 212, rfl⟩
abbrev main_call5_v4 : Ref sig .tc := ⟨.hbm, 213, rfl⟩
abbrev main_v128 : Ref sig .tc := ⟨.hbm, 214, rfl⟩
abbrev main_v129 : Ref sig .tc := ⟨.hbm, 215, rfl⟩
abbrev main_c_34 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_c_35 : Ref sig .tc := ⟨.hbm, 222, rfl⟩
abbrev main_v135 : Ref sig .tc := ⟨.hbm, 223, rfl⟩
abbrev main_v136 : Ref sig .tc := ⟨.hbm, 224, rfl⟩
abbrev main_c_36 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_cst_37 : Ref sig .tc := ⟨.hbm, 238, rfl⟩
abbrev main_v149 : Ref sig .tc := ⟨.hbm, 239, rfl⟩
abbrev main_v150 : Ref sig .tc := ⟨.hbm, 240, rfl⟩
abbrev main_cst_38 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_cst_39 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_cst_40 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_c_41 : Ref sig .tc := ⟨.hbm, 253, rfl⟩
abbrev main_c_42 : Ref sig .tc := ⟨.hbm, 254, rfl⟩
abbrev main_call6_v0 : Ref sig .tc := ⟨.hbm, 255, rfl⟩
abbrev main_call6_v1 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_v160 : Ref sig .tc := ⟨.hbm, 260, rfl⟩
abbrev main_v161 : Ref sig .tc := ⟨.hbm, 261, rfl⟩
abbrev main_c_43 : Ref sig .tc := ⟨.hbm, 262, rfl⟩
abbrev main_c_44 : Ref sig .tc := ⟨.hbm, 263, rfl⟩
abbrev main_call7_v0 : Ref sig .tc := ⟨.hbm, 264, rfl⟩
abbrev main_call7_v1 : Ref sig .tc := ⟨.hbm, 265, rfl⟩
abbrev main_call7_v2 : Ref sig .tc := ⟨.hbm, 266, rfl⟩
abbrev main_call7_v3 : Ref sig .tc := ⟨.hbm, 267, rfl⟩
abbrev main_call7_v4 : Ref sig .tc := ⟨.hbm, 268, rfl⟩
abbrev main_v162 : Ref sig .tc := ⟨.hbm, 269, rfl⟩
abbrev main_v163 : Ref sig .tc := ⟨.hbm, 270, rfl⟩
abbrev main_c_45 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_c_46 : Ref sig .tc := ⟨.hbm, 277, rfl⟩
abbrev main_v169 : Ref sig .tc := ⟨.hbm, 278, rfl⟩
abbrev main_v170 : Ref sig .tc := ⟨.hbm, 279, rfl⟩
abbrev main_c_47 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_cst_48 : Ref sig .tc := ⟨.hbm, 293, rfl⟩
abbrev main_v183 : Ref sig .tc := ⟨.hbm, 294, rfl⟩
abbrev main_v184 : Ref sig .tc := ⟨.hbm, 295, rfl⟩
abbrev main_cst_49 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_cst_50 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_cst_51 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_c_52 : Ref sig .tc := ⟨.hbm, 308, rfl⟩
abbrev main_c_53 : Ref sig .tc := ⟨.hbm, 309, rfl⟩
abbrev main_call8_v0 : Ref sig .tc := ⟨.hbm, 310, rfl⟩
abbrev main_call8_v1 : Ref sig .tc := ⟨.hbm, 311, rfl⟩
abbrev main_call8_v2 : Ref sig .tc := ⟨.hbm, 312, rfl⟩
abbrev main_call8_v3 : Ref sig .tc := ⟨.hbm, 313, rfl⟩
abbrev main_call8_v4 : Ref sig .tc := ⟨.hbm, 314, rfl⟩
abbrev main_v194 : Ref sig .tc := ⟨.hbm, 315, rfl⟩
abbrev main_v195 : Ref sig .tc := ⟨.hbm, 316, rfl⟩
abbrev main_c_54 : Ref sig .tc := ⟨.hbm, 317, rfl⟩
abbrev main_c_55 : Ref sig .tc := ⟨.hbm, 318, rfl⟩
abbrev main_call9_v0 : Ref sig .tc := ⟨.hbm, 319, rfl⟩
abbrev main_call9_v1 : Ref sig .tc := ⟨.hbm, 320, rfl⟩
abbrev main_call9_v2 : Ref sig .tc := ⟨.hbm, 321, rfl⟩
abbrev main_call9_v3 : Ref sig .tc := ⟨.hbm, 322, rfl⟩
abbrev main_call9_v4 : Ref sig .tc := ⟨.hbm, 323, rfl⟩
abbrev main_v196 : Ref sig .tc := ⟨.hbm, 324, rfl⟩
abbrev main_v197 : Ref sig .tc := ⟨.hbm, 325, rfl⟩
abbrev main_c_56 : Ref sig .tc := ⟨.hbm, 326, rfl⟩
abbrev main_v198 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_c_57 : Ref sig .tc := ⟨.hbm, 332, rfl⟩
abbrev main_v203 : Ref sig .tc := ⟨.hbm, 333, rfl⟩
abbrev main_v204 : Ref sig .tc := ⟨.hbm, 334, rfl⟩
abbrev main_c_58 : Ref sig .tc := ⟨.hbm, 335, rfl⟩
abbrev main_v205 : Ref sig .tc := ⟨.hbm, 336, rfl⟩
abbrev main_v206 : Ref sig .tc := ⟨.hbm, 337, rfl⟩
abbrev main_v207 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_v211 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_v218 : Ref sig .tc := ⟨.hbm, 349, rfl⟩
abbrev main_cst_59 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩

abbrev nD : Nat := 1
abbrev τ : Topo := Topo.v7x

variable {F : FTy → Type} [FloatOps F]
-- ==== Proof.KernelIdeal.Setup.lean ====
/-
  The bag call's set-up: the program as the launch theorem sees it, its buffers and scratch as a subcore
  addresses them, and the tile at grid coordinates `L`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.Pre_as_drawn

@[expose] public section

noncomputable section

namespace Cert.Proof.KernelIdeal

open Cert.KernelIdeal Cert.KernelIdeal.Gen
open Idealize.ShloMosaic
open Idealize.ShloMosaic.SparseCore (S V T)
open Idealize.SL Idealize.SL.RA Idealize.SL.BI
open Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the windows' rounds and the transfers' counters. -/
abbrev UH : Type := URounds (GSem nD τ sig) ℕ
abbrev UW : Type := URounds (GSem nD τ sig) Unit
abbrev UU : Type := UH × (UW × Counters)
abbrev EH : Emb UH (MT nD τ sig (SparseCore.Cfg.HIx 1) (Elt F) ℕ UU ℕ) := embL
abbrev EW : Emb UW (MT nD τ sig (SparseCore.Cfg.HIx 1) (Elt F) ℕ UU ℕ) := (Emb.inl : Emb UW (UW × Counters)).trans embR
instance EW_landsIn : (EW (F := F)).LandsIn (upEmb : UEmb _ (MT nD τ sig (SparseCore.Cfg.HIx 1) (Elt F) ℕ UU ℕ)) := by unfold EW embR; infer_instance

/-! ## The arrays as a subcore addresses them -/

/-- The table of rows, the row numbers, the weights, the bias, the result. -/
abbrev tV : Memref sig .scVector .hbm S16896x2x128 .f32 := Memref.whole main_v16_scv
abbrev nV : Memref sig .scVector .hbm S32x20x96 .i32 := Memref.whole main_v17_scv
abbrev gV : Memref sig .scVector .hbm S2560x32 .f32 := Memref.whole main_v14_1_scv
abbrev aV : Memref sig .scVector .hbm S256 .f32 := Memref.whole main_v18_scv
abbrev yV : Memref sig .scVector .hbm S2560x256 .f32 := Memref.whole main_v19_scv
/-- The tile's scratch: its row numbers, the two gathered chunks, its weights, its result rows, the bias. -/
abbrev nS : Memref sig .scVector .vmem S20x96 .i32 := Memref.whole cc2_scratch0
abbrev rS : Memref sig .scVector .vmem S2x96x2x128 .f32 := Memref.whole cc2_scratch1
abbrev gS : Memref sig .scVector .vmem S80x32 .f32 := Memref.whole cc2_scratch2
abbrev yS : Memref sig .scVector .vmem S80x256 .f32 := Memref.whole cc2_scratch3
abbrev aS : Memref sig .scVector .vmem S256 .f32 := Memref.whole cc2_scratch4

section Tile
variable (d : Dev nD) (L : grid2.Coords)

abbrev cV (L : grid2.Coords) : Fin τ.nSC := (L 0).castLE hcore2
abbrev jV (L : grid2.Coords) : Fin τ.nSub := (L 1).castLE hsub2
/-- The tile's thread. -/
abbrev th (d : Dev nD) (L : grid2.Coords) : Thread nD τ := V d (cV L) (jV L)

end Tile

end Cert.Proof.KernelIdeal
-- ==== Proof.KernelIdeal.Value.lean ====
/-
  What the kernel computes, element by element: a row of the result is the bias plus the weighted sum of twenty-four
  table rows, added in order. The vector chain of one loop trip (sixteen lanes at a time) is that sum at each lane.
-/
module

public import proofs.«01_k».proof.Proof.KernelIdeal.Setup
public import Idealize.ShloMosaic.Lib.ValueIdxCore
public import Idealize.ShloMosaic.Lib.Pipeline.Value
public import Idealize.ShloMosaic.Lib.Writes

@[expose] public section

noncomputable section

namespace Cert.Proof.KernelIdeal

open Cert.KernelIdeal Cert.KernelIdeal.Gen
open Idealize.ShloMosaic
open Idealize.ShloMosaic.ValueIdx (ix1 ix2 ix3 ix4 eq_ix1 eq_ix2 idx2_lt0 idx2_lt1)
open Idealize.ShloMosaic.SparseCore (S V T)

variable {F : FTy → Type} [FloatOps F]

/-! ## The weighted sum -/

/-- `b + w₀ r₀ + … + w₍ₙ₋₁₎ r₍ₙ₋₁₎`, added from the left. -/
def bag (b : F .f32) (w r : Fin 24 → F .f32) : (n : ℕ) → n ≤ 24 → F .f32
  | 0, _ => b
  | n + 1, h => FloatOps.addf (bag b w r n (Nat.le_of_succ_le h)) (FloatOps.mulf (w ⟨n, h⟩) (r ⟨n, h⟩))

theorem bag_congr {b b' : F .f32} {w w' r r' : Fin 24 → F .f32} (hb : b = b') (hw : ∀ j, w j = w' j) (hr : ∀ j, r j = r' j) :
    ∀ (n : ℕ) (h : n ≤ 24), bag b w r n h = bag b' w' r' n h
  | 0, _ => hb
  | n + 1, h => by simp only [bag, bag_congr hb hw hr n (Nat.le_of_succ_le h), hw, hr]

theorem slices_lane (n : Fin 16) : S16.Slices ![n.val] S1 := by revert n; decide

/-- Lane `n` of a vector, as the program extracts it. -/
def lane (w : FVec F S16 .f32) (n : Fin 16) : F .f32 := extractAt ![0] (extractStridedSlice S1 ![n.val] w (slices_lane n)) inpos_S1_p0

theorem lane_eq (w : FVec F S16 .f32) (n : Fin 16) : lane w n = w (ix1 n) := by
  unfold lane extractAt extractStridedSlice
  refine congrArg w (funext fun a => Fin.ext ?_)
  match a with
  | ⟨0, _⟩ => simp

/-- Weight `n`, out of the two vectors a row's weights are loaded as. -/
def weight (w₀ w₁ : FVec F S16 .f32) (n : Fin 24) : F .f32 :=
  if h : n.val < 16 then lane w₀ ⟨n.val, h⟩ else lane w₁ ⟨n.val - 16, by omega⟩

/-- The sixteen lanes of the sum: the trip's vector chain. -/
def bagVec (b w₀ w₁ : FVec F S16 .f32) (r : Fin 24 → Vec F S1x1x1x16 .f32) : (n : ℕ) → n ≤ 24 → FVec F S16 .f32
  | 0, _ => b
  | n + 1, h => addf (bagVec b w₀ w₁ r n (Nat.le_of_succ_le h))
      (mulf (broadcast S16 (weight w₀ w₁ ⟨n, h⟩)) (shapeCast S16 (r ⟨n, h⟩) shapeCasts_S1x1x1x16_S16))

theorem bagVec_apply (b w₀ w₁ : FVec F S16 .f32) (r : Fin 24 → Vec F S1x1x1x16 .f32) (i : S16.Idx) :
    ∀ (n : ℕ) (h : n ≤ 24), bagVec b w₀ w₁ r n h i
      = bag (b i) (weight w₀ w₁) (fun j => shapeCast S16 (r j) shapeCasts_S1x1x1x16_S16 i) n h
  | 0, _ => rfl
  | n + 1, h => by
    show FloatOps.addf (bagVec b w₀ w₁ r n _ i) _ = _
    rw [bagVec_apply b w₀ w₁ r i n (Nat.le_of_succ_le h)]; rfl

/-! ## One trip's loads, element by element -/

/-- Row `q`, column `x` of the result rows from the tile's bias, weights and gathered rows: row `24·t + j` of slot `s`
    holds the row's `j`-th table row, its two halves along the third axis. -/
def rowVal (fa : S256.Idx → F .f32) (fw : S80x32.Idx → F .f32) (f8 : S2x96x2x128.Idx → F .f32) (s : Fin 2) (t : Fin 4)
    (q : Fin 80) (x : Fin 256) : F .f32 :=
  bag (fa (ix1 x)) (fun j => fw (ix2 q ⟨j.val, by omega⟩))
    (fun j => f8 (ix4 s ⟨24 * t.val + j.val, by omega⟩ ⟨x.val / 128, by omega⟩ ⟨x.val % 128, by omega⟩)) 24 le_rfl

/-- The sixteen lanes at columns `c … c + 15` of that row, from the vectors the trip loads. -/
theorem chunk_val (fa : S256.Idx → F .f32) (fw : S80x32.Idx → F .f32) (f8 : S2x96x2x128.Idx → F .f32) (s : Fin 2) (t : Fin 4)
    (q : Fin 80) (h₂ : Fin 2) (l : ℕ) (hl : l + 16 ≤ 128)
    (b w₀ w₁ : FVec F S16 .f32) (r : Fin 24 → Vec F S1x1x1x16 .f32)
    (hb : ∀ i : Fin 16, b (ix1 i) = fa (ix1 ⟨128 * h₂.val + l + i.val, by omega⟩))
    (hw₀ : ∀ i : Fin 16, w₀ (ix1 i) = fw (ix2 q ⟨i.val, by omega⟩))
    (hw₁ : ∀ i : Fin 16, w₁ (ix1 i) = fw (ix2 q ⟨16 + i.val, by omega⟩))
    (hr : ∀ (j : Fin 24) (i : Fin 16), r j (ix4 0 0 0 i) = f8 (ix4 s ⟨24 * t.val + j.val, by omega⟩ h₂ ⟨l + i.val, by omega⟩))
    (i : Fin 16) :
    bagVec b w₀ w₁ r 24 le_rfl (ix1 i) = rowVal fa fw f8 s t q ⟨128 * h₂.val + l + i.val, by omega⟩ := by
  rw [bagVec_apply]
  refine bag_congr (hb i) (fun j => ?_) (fun j => ?_) 24 le_rfl
  · unfold weight
    split
    · rw [lane_eq, hw₀]
    · rename_i hj
      rw [lane_eq, hw₁]
      exact congrArg fw (congrArg (ix2 q) (Fin.ext (by simp only; omega)))
  · rw [shapeCast_apply (r j) shapeCasts_S1x1x1x16_S16 (ix1 i) (ix4 0 0 0 i) (by
      rw [Shape.rowMajor_val_one, Shape.rowMajor_val_four]; simp), hr]
    have e1 : (128 * h₂.val + l + i.val) / 128 = h₂.val := by omega
    have e2 : (128 * h₂.val + l + i.val) % 128 = l + i.val := by omega
    congr 2
    · exact Fin.ext e1.symm
    · exact Fin.ext e2.symm

/-! ## A whole buffer's loads at a box -/

theorem load1 {off : Fin 1 → ℕ} (inb : ∀ a, off a + S16.size a ≤ S256.size a) (o : ℕ) (h : off = ![o]) (fa : S256.Idx → F .f32) (i : Fin 16)
    (ho : o + i.val < 256) :
    shapeCast S16 (View.readAt (Elt F) aS.view (Rect.unit (s := S256) off S16.size inb).toLoadRect fa) shapeCasts_S16_S16 (ix1 i) = fa (ix1 ⟨o + i.val, ho⟩) := by
  subst h
  rw [shapeCast_apply _ shapeCasts_S16_S16 (ix1 i) (ix1 i) rfl]
  show fa _ = _
  refine congrArg fa (funext fun a => Fin.ext ?_)
  match a with
  | ⟨0, _⟩ => show o + 1 * i.val = o + i.val; omega

theorem load2 {off : Fin 2 → ℕ} (inb : ∀ a, off a + S1x16.size a ≤ S80x32.size a) (q c : ℕ) (h : off = ![q, c]) (fw : S80x32.Idx → F .f32) (i : Fin 16)
    (hq : q < 80) (hc : c + i.val < 32) :
    shapeCast S16 (View.readAt (Elt F) gS.view (Rect.unit (s := S80x32) off S1x16.size inb).toLoadRect fw) shapeCasts_S1x16_S16 (ix1 i)
      = fw (ix2 ⟨q, hq⟩ ⟨c + i.val, hc⟩) := by
  subst h
  rw [shapeCast_apply _ shapeCasts_S1x16_S16 (ix1 i) (ix2 0 i) (by rw [Shape.rowMajor_val_one, Shape.rowMajor_val_two]; simp)]
  show fw _ = _
  refine congrArg fw (funext fun a => Fin.ext ?_)
  match a with
  | ⟨0, _⟩ => show q + 1 * 0 = q; omega
  | ⟨1, _⟩ => show c + 1 * i.val = c + i.val; omega

theorem load4 {off : Fin 4 → ℕ} (inb : ∀ a, off a + S1x1x1x16.size a ≤ S2x96x2x128.size a) (s g h₂ l : ℕ) (h : off = ![s, g, h₂, l])
    (f8 : S2x96x2x128.Idx → F .f32) (i : Fin 16) (hs : s < 2) (hg : g < 96) (hh : h₂ < 2) (hl : l + i.val < 128) :
    View.readAt (Elt F) rS.view (Rect.unit (s := S2x96x2x128) off S1x1x1x16.size inb).toLoadRect f8 (ix4 0 0 0 i)
      = f8 (ix4 ⟨s, hs⟩ ⟨g, hg⟩ ⟨h₂, hh⟩ ⟨l + i.val, hl⟩) := by
  subst h
  show f8 _ = _
  refine congrArg f8 (funext fun a => Fin.ext ?_)
  match a with
  | ⟨0, _⟩ => show s + 1 * 0 = s; omega
  | ⟨1, _⟩ => show g + 1 * 0 = g; omega
  | ⟨2, _⟩ => show h₂ + 1 * 0 = h₂; omega
  | ⟨3, _⟩ => show l + 1 * i.val = l + i.val; omega

/-! ## A trip's stored pieces -/

/-- The rectangle of sixteen columns of a result row. -/
theorem emb_row {off : Fin 2 → ℕ} (inb : ∀ a, off a + S1x16.size a ≤ S80x256.size a) (q c : ℕ) (h : off = ![q, c]) (hq : q < 80)
    (i : Fin 16) (hc : c + i.val < 256) :
    (Rect.unit (s := S80x256) off S1x16.size inb).emb (ix2 0 i) = ix2 ⟨q, hq⟩ ⟨c + i.val, hc⟩ := by
  subst h
  refine funext fun a => Fin.ext ?_
  match a with
  | ⟨0, _⟩ => show q + 1 * 0 = q; omega
  | ⟨1, _⟩ => show c + 1 * i.val = c + i.val; omega

/-- The piece a trip stores at columns `128·h₂ + l … + 15` of row `q` is the row's value there: from the trip's own
    loads, each offset given in closed form. -/
theorem piece_val (fa : S256.Idx → F .f32) (fw : S80x32.Idx → F .f32) (f8 : S2x96x2x128.Idx → F .f32) (s : Fin 2) (t : Fin 4)
    (q : Fin 80) (h₂ : Fin 2) (l : ℕ) (hl : l + 16 ≤ 128)
    {oy : Fin 2 → ℕ} (iy : ∀ a, oy a + S1x16.size a ≤ S80x256.size a) (hy : oy = ![q.val, 128 * h₂.val + l])
    {oa : Fin 1 → ℕ} (ia : ∀ a, oa a + S16.size a ≤ S256.size a) (ha : oa = ![128 * h₂.val + l])
    {o₀ : Fin 2 → ℕ} (i₀ : ∀ a, o₀ a + S1x16.size a ≤ S80x32.size a) (h₀ : o₀ = ![q.val, 0])
    {o₁ : Fin 2 → ℕ} (i₁ : ∀ a, o₁ a + S1x16.size a ≤ S80x32.size a) (h₁ : o₁ = ![q.val, 16])
    {orr : Fin 24 → Fin 4 → ℕ} (ir : ∀ j a, orr j a + S1x1x1x16.size a ≤ S2x96x2x128.size a)
    (hr : ∀ j, orr j = ![s.val, 24 * t.val + j.val, h₂.val, l]) (x : S1x16.Idx) :
    shapeCast S1x16 (bagVec
        (shapeCast S16 (View.readAt (Elt F) aS.view (Rect.unit (s := S256) oa S16.size ia).toLoadRect fa) shapeCasts_S16_S16)
        (shapeCast S16 (View.readAt (Elt F) gS.view (Rect.unit (s := S80x32) o₀ S1x16.size i₀).toLoadRect fw) shapeCasts_S1x16_S16)
        (shapeCast S16 (View.readAt (Elt F) gS.view (Rect.unit (s := S80x32) o₁ S1x16.size i₁).toLoadRect fw) shapeCasts_S1x16_S16)
        (fun j => View.readAt (Elt F) rS.view (Rect.unit (s := S2x96x2x128) (orr j) S1x1x1x16.size (ir j)).toLoadRect f8) 24 le_rfl)
      shapeCasts_S16_S1x16 x
      = (fun y : S80x256.Idx => rowVal fa fw f8 s t (y 0) (y 1)) ((Rect.unit (s := S80x256) oy S1x16.size iy).emb x) := by
  obtain ⟨i, rfl⟩ : ∃ i : Fin 16, x = ix2 0 i := ⟨x 1, by
    funext a
    match a with
    | ⟨0, _⟩ => exact Fin.ext (Nat.lt_one_iff.1 (x 0).isLt)
    | ⟨1, _⟩ => rfl⟩
  rw [emb_row iy q.val (128 * h₂.val + l) hy q.isLt i (by omega),
    shapeCast_apply _ shapeCasts_S16_S1x16 (ix2 0 i) (ix1 i) (by rw [Shape.rowMajor_val_one, Shape.rowMajor_val_two]; simp)]
  refine chunk_val fa fw f8 s t q h₂ l hl _ _ _ _ (fun i => ?_) (fun i => ?_) (fun i => ?_) (fun j i => ?_) i
  · exact load1 ia _ ha fa i (by omega)
  · rw [load2 i₀ _ _ h₀ fw i q.isLt (by omega)]
    exact congrArg fw (congrArg (ix2 q) (Fin.ext (Nat.zero_add _)))
  · exact load2 i₁ _ _ h₁ fw i q.isLt (by omega)
  · exact load4 (ir j) _ _ _ _ (hr j) f8 i s.isLt (by omega) h₂.isLt (by omega)

/-! ## A trip's row -/

/-- Pieces storing one row, together all of it, leave the row at their value and the others as they were. -/
theorem row_of_pieces (G : S80x256.Idx → F .f32) (q : Fin 80) (fy : S80x256.Idx → F .f32) (P : List (View.Piece (Elt F) S80x256 .f32))
    (hP : ∀ p ∈ P, (∀ x : p.1.shape.Idx, p.2 x = G (p.1.emb x)) ∧ ∀ y ∈ p.1.set, (y 0).val = q.val)
    (hc : ∀ x : Fin 256, ∃ p ∈ P, (ix2 q x : S80x256.Idx) ∈ p.1.set) (y : S80x256.Idx) :
    yS.view.writes (Elt F) fy P y = if (y 0).val = q.val then G y else fy y := by
  show yS.view.read (Elt F) (yS.view.writes (Elt F) fy P) y = _
  split
  · rename_i h
    refine View.read_writes_apply_of_pieces yS.view fy G P (fun p hp => (hP p hp).1) y ?_
    obtain ⟨p, hp, hm⟩ := hc (y 1)
    refine ⟨p, hp, ?_⟩
    rw [eq_ix2 y, show y 0 = q from Fin.ext h]
    exact hm
  · rename_i h
    exact View.read_writes_apply_of_forall_not_mem yS.view fy y P fun p hp hm => h ((hP p hp).2 y hm)

/-- The sixteen chunks of a row, the last stored first. -/
abbrev chunks : List (Fin 16) := [15, 14, 13, 12, 11, 10, 9, 8, 7, 6, 5, 4, 3, 2, 1, 0]

/-- A trip's sixteen stores (chunk `d` is columns `16·d … + 15`) leave the trip's row at the weighted sum of its
    gathered rows and the other rows as they were. -/
theorem trip_row (fa : S256.Idx → F .f32) (fw : S80x32.Idx → F .f32) (f8 : S2x96x2x128.Idx → F .f32) (fy : S80x256.Idx → F .f32)
    (s : Fin 2) (t : Fin 4) (q : Fin 80)
    (oy : Fin 16 → Fin 2 → ℕ) (iy : ∀ d a, oy d a + S1x16.size a ≤ S80x256.size a) (hy : ∀ d, oy d = ![q.val, 16 * d.val])
    (ia : ∀ (d : Fin 16) a, (![16 * d.val] : Fin 1 → ℕ) a + S16.size a ≤ S256.size a)
    (o₀ : Fin 2 → ℕ) (i₀ : ∀ a, o₀ a + S1x16.size a ≤ S80x32.size a) (h₀ : o₀ = ![q.val, 0])
    (o₁ : Fin 2 → ℕ) (i₁ : ∀ a, o₁ a + S1x16.size a ≤ S80x32.size a) (h₁ : o₁ = ![q.val, 16])
    (orr : Fin 16 → Fin 24 → Fin 4 → ℕ) (ir : ∀ d j a, orr d j a + S1x1x1x16.size a ≤ S2x96x2x128.size a)
    (hr : ∀ d j, orr d j = ![s.val, 24 * t.val + j.val, d.val / 8, 16 * (d.val % 8)]) (y : S80x256.Idx) :
    yS.view.writes (Elt F) fy (chunks.map fun d : Fin 16 => (⟨Rect.unit (s := S80x256) (oy d) S1x16.size (iy d),
      shapeCast S1x16 (bagVec
        (shapeCast S16 (View.readAt (Elt F) aS.view (Rect.unit (s := S256) ![16 * d.val] S16.size (ia d)).toLoadRect fa) shapeCasts_S16_S16)
        (shapeCast S16 (View.readAt (Elt F) gS.view (Rect.unit (s := S80x32) o₀ S1x16.size i₀).toLoadRect fw) shapeCasts_S1x16_S16)
        (shapeCast S16 (View.readAt (Elt F) gS.view (Rect.unit (s := S80x32) o₁ S1x16.size i₁).toLoadRect fw) shapeCasts_S1x16_S16)
        (fun j => View.readAt (Elt F) rS.view (Rect.unit (s := S2x96x2x128) (orr d j) S1x1x1x16.size (ir d j)).toLoadRect f8) 24 le_rfl)
      shapeCasts_S16_S1x16⟩ : View.Piece (Elt F) S80x256 .f32)) y
      = if (y 0).val = q.val then rowVal fa fw f8 s t (y 0) (y 1) else fy y := by
  refine row_of_pieces (fun y => rowVal fa fw f8 s t (y 0) (y 1)) q fy _ (fun p hp => ?_) (fun x => ?_) y
  · obtain ⟨d, -, rfl⟩ := List.mem_map.1 hp
    have hd : 128 * (d.val / 8) + 16 * (d.val % 8) = 16 * d.val := by omega
    refine ⟨fun x => piece_val fa fw f8 s t q ⟨d.val / 8, by omega⟩ (16 * (d.val % 8)) (by omega) (iy d) (by rw [hy, hd]) (ia d)
      (by rw [hd]) i₀ h₀ i₁ h₁ (ir d) (hr d) x, fun y hy' => ?_⟩
    have hm : y ∈ (Rect.unit (s := S80x256) (oy d) S1x16.size (iy d)).set := hy'
    have := Rect.mem_set_unit.1 hm 0
    rw [hy] at this
    have h1 : q.val ≤ (y 0).val ∧ (y 0).val < q.val + 1 := this
    omega
  · refine ⟨_, List.mem_map_of_mem (a := (⟨x.val / 16, by omega⟩ : Fin 16)) ((by decide : ∀ d : Fin 16, d ∈ chunks) _), ?_⟩
    show _ ∈ (Rect.unit (s := S80x256) (oy _) S1x16.size (iy _)).set
    refine Rect.mem_set_unit.2 fun a => ?_
    rw [hy]
    match a with
    | ⟨0, _⟩ => exact ⟨le_refl q.val, Nat.lt_succ_self q.val⟩
    | ⟨1, _⟩ =>
      show 16 * (x.val / 16) ≤ x.val ∧ x.val < 16 * (x.val / 16) + 16
      omega

end Cert.Proof.KernelIdeal
-- ==== Proof.KernelIdeal.Trip.lean ====
module

public import proofs.«01_k».proof.Proof.KernelIdeal.Value

@[expose] public section

noncomputable section

namespace Cert.Proof.KernelIdeal

open Cert.KernelIdeal Cert.KernelIdeal.Gen
open Idealize.ShloMosaic
open Idealize.ShloMosaic.ValueIdx (ix1 ix2 ix3 ix4 eq_ix1 eq_ix2 idx2_lt0 idx2_lt1)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (SparseCore.Cfg.HIx 1) (Elt F) ℕ UU ℕ

/-- Slot `0` of the gathered rows. -/
abbrev slotR0 : Rect S2x96x2x128 := Rect.unit (s := S2x96x2x128) ![0, 0, 0, 0] S1x96x2x128.size inb_S2x96x2x128_S1x96x2x128_0_0_0_0

/-- Slot `1` of the gathered rows. -/
abbrev slotR1 : Rect S2x96x2x128 := Rect.unit (s := S2x96x2x128) ![1, 0, 0, 0] S1x96x2x128.size inb_S2x96x2x128_S1x96x2x128_1_0_0_0

/-! ## Where slot `0`'s trips load and store -/

abbrev oy0 (k1 : Fin k2_t1_loop.trips) (k2 : Fin k2_t2_loop.trips) : Fin 16 → Fin 2 → ℕ :=
  ![k2_off22 k1 k2, k2_off23 k1 k2, k2_off24 k1 k2, k2_off25 k1 k2, k2_off26 k1 k2, k2_off27 k1 k2, k2_off28 k1 k2, k2_off29 k1 k2,
    k2_off30 k1 k2, k2_off31 k1 k2, k2_off32 k1 k2, k2_off33 k1 k2, k2_off34 k1 k2, k2_off35 k1 k2, k2_off36 k1 k2, k2_off37 k1 k2]

theorem oy0_eq : ∀ k1 k2 d, oy0 k1 k2 d = ![8 * k1.val + k2.val, 16 * d.val] := by decide +kernel

theorem oy0_inb : ∀ k1 k2 d a, oy0 k1 k2 d a + S1x16.size a ≤ S80x256.size a := by decide +kernel

abbrev or0 (k2 : Fin k2_t2_loop.trips) (d : Fin 16) (j : Fin 24) : Fin 4 → ℕ :=
  (![k2_off6, k2_off7, k2_off8, k2_off9, k2_off10, k2_off11, k2_off12, k2_off13, k2_off14, k2_off15, k2_off16, k2_off17, k2_off18,
    k2_off19, k2_off20, k2_off21] : Fin 16 → Fin k2_t2_loop.trips → BitVec 32 → Fin 4 → ℕ) d k2 (BitVec.ofNat 32 j.val)

theorem or0_eq : ∀ k2 d j, or0 k2 d j = ![(0 : Fin 2).val, 24 * k2.val + j.val, d.val / 8, 16 * (d.val % 8)] := by decide +kernel

theorem or0_inb : ∀ k2 d j a, or0 k2 d j a + S1x1x1x16.size a ≤ S2x96x2x128.size a := by decide +kernel

theorem bias_inb : ∀ (d : Fin 16) a, (![16 * d.val] : Fin 1 → ℕ) a + S16.size a ≤ S256.size a := by decide

set_option maxHeartbeats 40000000 in
/-- One trip of slot `0`: its row becomes the weighted sum of the twenty-four rows gathered for it. -/
theorem trip0 (d : Dev nD) (L : grid2.Coords) (k1 : Fin k2_t1_loop.trips) (k2 : Fin k2_t2_loop.trips)
   (v16 : BitVec 32) (fw : S80x32.Idx → F .f32) (fa : S256.Idx → F .f32) (f8 : S2x96x2x128.Idx → F .f32) (fy : S80x256.Idx → F .f32) (hk2 : k2.val < 4) (hk1 : k1.val < 10) :
   iprop((gS.view.loc (th d L) ↦{fullShare} fw) ∗ (aS.view.loc (th d L) ↦{fullShare} fa)
      ∗ (rS.view.loc (th d L) ↦[rS.view.setOn slotR0.set]{fullShare} f8) ∗ (yS.view.loc (th d L) ↦{fullShare} fy))
    ⊢ (wp frame (wpE (defs₀ (F := F)) 𝒱₀ (th d L) none) Set.univ
        (k2_t2_body L tV (Memref.isWhole_whole _) nV (Memref.isWhole_whole _) gV (Memref.isWhole_whole _) aV (Memref.isWhole_whole _)
          yV (Memref.isWhole_whole _) nS (Memref.isWhole_whole _) rS (Memref.isWhole_whole _) gS (Memref.isWhole_whole _)
          yS (Memref.isWhole_whole _) aS (Memref.isWhole_whole _) cc2_scratch5 cc2_scratch6 cc2_scoped0 cc2_scoped1 cc2_scoped2 cc2_scoped3
          0#32 1#32 k1 v16 k2 ())
        fun _ => iprop((gS.view.loc (th d L) ↦{fullShare} fw) ∗ (aS.view.loc (th d L) ↦{fullShare} fa)
      ∗ (rS.view.loc (th d L) ↦[rS.view.setOn slotR0.set]{fullShare} f8) ∗ ∃ fy', ⌜∀ y : S80x256.Idx, fy' y = if (y 0).val = 8 * k1.val + k2.val then rowVal fa fw f8 0 ⟨k2.val, hk2⟩ (y 0) (y 1) else fy y⌝ ∗ (yS.view.loc (th d L) ↦{fullShare} fy'))
        : sProp 𝕄) := by
  unfold k2_t2_body
  iintro ⟨Hg, Ha, Hr, Hy⟩
  sl_exec_parts
  sl_step
  isplitl [Hg]; · iexact Hg
  isplitl [Ha]; · iexact Ha
  isplitl [Hr]; · iexact Hr
  iexists _
  isplitr
  swap; · iexact Hy
  ipureintro
  intro y
  exact trip_row fa fw f8 fy 0 ⟨k2.val, hk2⟩ ⟨8 * k1.val + k2.val, by omega⟩ (oy0 k1 k2) (oy0_inb k1 k2) (oy0_eq k1 k2) bias_inb
    (k2_off4 k1 k2) (k2_off4_inb k1 k2) (k2_off4_eq k1 k2) (k2_off5 k1 k2) (k2_off5_inb k1 k2) (k2_off5_eq k1 k2)
    (or0 k2) (or0_inb k2) (or0_eq k2) y

/-! ## Where slot `1`'s trips load and store -/

abbrev oy1 (k1 : Fin k2_t1_loop.trips) (k3 : Fin k2_t3_loop.trips) : Fin 16 → Fin 2 → ℕ :=
  ![k2_off57 k1 k3, k2_off58 k1 k3, k2_off59 k1 k3, k2_off60 k1 k3, k2_off61 k1 k3, k2_off62 k1 k3, k2_off63 k1 k3, k2_off64 k1 k3,
    k2_off65 k1 k3, k2_off66 k1 k3, k2_off67 k1 k3, k2_off68 k1 k3, k2_off69 k1 k3, k2_off70 k1 k3, k2_off71 k1 k3, k2_off72 k1 k3]

theorem oy1_eq : ∀ k1 k3 d, oy1 k1 k3 d = ![8 * k1.val + k3.val + 4, 16 * d.val] := by decide +kernel

theorem oy1_inb : ∀ k1 k3 d a, oy1 k1 k3 d a + S1x16.size a ≤ S80x256.size a := by decide +kernel

abbrev or1 (k3 : Fin k2_t3_loop.trips) (d : Fin 16) (j : Fin 24) : Fin 4 → ℕ :=
  (![k2_off41, k2_off42, k2_off43, k2_off44, k2_off45, k2_off46, k2_off47, k2_off48, k2_off49, k2_off50, k2_off51, k2_off52, k2_off53,
    k2_off54, k2_off55, k2_off56] : Fin 16 → Fin k2_t3_loop.trips → BitVec 32 → Fin 4 → ℕ) d k3 (BitVec.ofNat 32 j.val)

theorem or1_eq : ∀ k3 d j, or1 k3 d j = ![(1 : Fin 2).val, 24 * k3.val + j.val, d.val / 8, 16 * (d.val % 8)] := by decide +kernel

theorem or1_inb : ∀ k3 d j a, or1 k3 d j a + S1x1x1x16.size a ≤ S2x96x2x128.size a := by decide +kernel

set_option maxHeartbeats 40000000 in
/-- One trip of slot `1`: its row becomes the weighted sum of the twenty-four rows gathered for it. -/
theorem trip1 (d : Dev nD) (L : grid2.Coords) (k1 : Fin k2_t1_loop.trips) (k3 : Fin k2_t3_loop.trips)
   (v28 : BitVec 32) (fw : S80x32.Idx → F .f32) (fa : S256.Idx → F .f32) (f8 : S2x96x2x128.Idx → F .f32) (fy : S80x256.Idx → F .f32) (hk3 : k3.val < 4) (hk1 : k1.val < 10) :
   iprop((gS.view.loc (th d L) ↦{fullShare} fw) ∗ (aS.view.loc (th d L) ↦{fullShare} fa)
      ∗ (rS.view.loc (th d L) ↦[rS.view.setOn slotR1.set]{fullShare} f8) ∗ (yS.view.loc (th d L) ↦{fullShare} fy))
    ⊢ (wp frame (wpE (defs₀ (F := F)) 𝒱₀ (th d L) none) Set.univ
        (k2_t3_body L tV (Memref.isWhole_whole _) nV (Memref.isWhole_whole _) gV (Memref.isWhole_whole _) aV (Memref.isWhole_whole _)
          yV (Memref.isWhole_whole _) nS (Memref.isWhole_whole _) rS (Memref.isWhole_whole _) gS (Memref.isWhole_whole _)
          yS (Memref.isWhole_whole _) aS (Memref.isWhole_whole _) cc2_scratch5 cc2_scratch6 cc2_scoped0 cc2_scoped1 cc2_scoped2 cc2_scoped3
          0#32 1#32 k1 v28 k3 ())
        fun _ => iprop((gS.view.loc (th d L) ↦{fullShare} fw) ∗ (aS.view.loc (th d L) ↦{fullShare} fa)
      ∗ (rS.view.loc (th d L) ↦[rS.view.setOn slotR1.set]{fullShare} f8) ∗ ∃ fy', ⌜∀ y : S80x256.Idx, fy' y = if (y 0).val = 8 * k1.val + k3.val + 4 then rowVal fa fw f8 1 ⟨k3.val, hk3⟩ (y 0) (y 1) else fy y⌝ ∗ (yS.view.loc (th d L) ↦{fullShare} fy'))
        : sProp 𝕄) := by
  unfold k2_t3_body
  iintro ⟨Hg, Ha, Hr, Hy⟩
  sl_exec_parts
  sl_step
  isplitl [Hg]; · iexact Hg
  isplitl [Ha]; · iexact Ha
  isplitl [Hr]; · iexact Hr
  iexists _
  isplitr
  swap; · iexact Hy
  ipureintro
  intro y
  exact trip_row fa fw f8 fy 1 ⟨k3.val, hk3⟩ ⟨8 * k1.val + k3.val + 4, by omega⟩ (oy1 k1 k3) (oy1_inb k1 k3) (oy1_eq k1 k3) bias_inb
    (k2_off39 k1 k3) (k2_off39_inb k1 k3) (k2_off39_eq k1 k3) (k2_off40 k1 k3) (k2_off40_inb k1 k3) (k2_off40_eq k1 k3)
    (or1 k3) (or1_inb k3) (or1_eq k3) y

end Cert.Proof.KernelIdeal
-- ==== Proof.KernelIdeal.Gather.lean ====
/-
  One gather of ninety-six table rows into a slot: issued on the slot's semaphore, it delivers the slot at the rows its
  row numbers name, with the shares of the table and of the row numbers it was given.
-/
module

public import proofs.«01_k».proof.Proof.KernelIdeal.Trip
public import Idealize.ShloMosaic.Lib.SparseCore.Scatter

@[expose] public section

noncomputable section

namespace Cert.Proof.KernelIdeal

open Cert.KernelIdeal Cert.KernelIdeal.Gen
open Idealize.ShloMosaic
open Idealize.ShloMosaic.ValueIdx (ix1 ix2 ix3 ix4 eq_ix1 eq_ix2 eq_ix3 eq_ix4 idx2_lt0 idx2_lt1)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (SparseCore.Cfg.HIx 1) (Elt F) ℕ UU ℕ

/-- Half `h`, lane `c` of the table row a row number names. -/
def pick (tab : S16896x2x128.Idx → F .f32) (v : BitVec 32) (h : Fin 2) (c : Fin 128) : F .f32 :=
  tab (ix3 ⟨v.toNat % 16896, Nat.mod_lt _ (by decide)⟩ h c)

/-- Slot `s` of the gathered rows holds the table rows of line `g` of the tile's row numbers. -/
def Gathered (tab : S16896x2x128.Idx → F .f32) (nr : S20x96.Idx → BitVec 32) (g : Fin 20) (s : Fin 2) (f8 : S2x96x2x128.Idx → F .f32) : Prop :=
  ∀ (n : Fin 96) (h : Fin 2) (c : Fin 128), f8 (ix4 s n h c) = pick tab (nr (ix2 g n)) h c

/-- Slot `s` of the gathered rows as a gather addresses it. -/
abbrev dstS (so : Fin 4 → ℕ) (is : ∀ a, so a + S1x96x2x128.size a ≤ S2x96x2x128.size a) : Memref sig .scVector .vmem S96x2x128 .f32 :=
  (rS.slice (Rect.unit (s := S2x96x2x128) so S1x96x2x128.size is) (fun _ => rfl)).squeeze S96x2x128 squeezes_S1x96x2x128_S96x2x128

/-- Line `g` of the row numbers as a gather addresses it. -/
abbrev rowN (o : Fin 2 → ℕ) (io : ∀ a, o a + S1x96.size a ≤ S20x96.size a) : Memref sig .scVector .vmem S96 .i32 :=
  (nS.slice (Rect.unit (s := S20x96) o S1x96.size io) (fun _ => rfl)).squeeze S96 squeezes_S1x96_S96

/-- The table as a gather addresses it. -/
abbrev tAll : Memref sig .scVector .hbm S16896x2x128 .f32 :=
  tV.slice (Rect.unit (s := S16896x2x128) ![0, 0, 0] S16896x2x128.size inb_S16896x2x128_S16896x2x128_0_0_0) (fun _ => rfl)

/-- The credit of one gather. -/
abbrev gCred : ℕ := (dstS ![0, 0, 0, 0] inb_S2x96x2x128_S1x96x2x128_0_0_0_0).view.dmaCredit

omit [FloatOps F] in
theorem dstS_emb (so : Fin 4 → ℕ) (is : ∀ a, so a + S1x96x2x128.size a ≤ S2x96x2x128.size a) (s : Fin 2) (hso : so = ![s.val, 0, 0, 0])
    (n : Fin 96) (h : Fin 2) (c : Fin 128) : (dstS so is).view.emb (ix3 n h c) = ix4 s n h c := by
  subst hso
  show (Rect.unit (s := S2x96x2x128) ![s.val, 0, 0, 0] S1x96x2x128.size is).emb
    (Shape.reshapeEquiv squeezes_S1x96x2x128_S96x2x128.numel_eq (ix3 n h c)) = _
  rw [Shape.reshapeEquiv_eq_of_rowMajor squeezes_S1x96x2x128_S96x2x128.numel_eq (y := ix4 0 n h c) (by
    rw [Shape.rowMajor_val_three, Shape.rowMajor_val_four]; simp)]
  refine funext fun a => Fin.ext ?_
  match a with
  | ⟨0, _⟩ => show s.val + 1 * 0 = s.val; omega
  | ⟨1, _⟩ => show 0 + 1 * n.val = n.val; omega
  | ⟨2, _⟩ => show 0 + 1 * h.val = h.val; omega
  | ⟨3, _⟩ => show 0 + 1 * c.val = c.val; omega

omit [FloatOps F] in
theorem dstS_set (so : Fin 4 → ℕ) (is : ∀ a, so a + S1x96x2x128.size a ≤ S2x96x2x128.size a) :
    (dstS so is).view.set = rS.view.setOn (Rect.unit (s := S2x96x2x128) so S1x96x2x128.size is).set := by
  show ((rS.view.slice (Rect.unit (s := S2x96x2x128) so S1x96x2x128.size is)).reshape S96x2x128 squeezes_S1x96x2x128_S96x2x128.numel_eq).set = _
  rw [View.set_reshape, View.set_slice]
  rfl

omit [FloatOps F] in
theorem rowN_emb (o : Fin 2 → ℕ) (io : ∀ a, o a + S1x96.size a ≤ S20x96.size a) (g : Fin 20) (ho : o = ![g.val, 0]) (n : Fin 96) :
    (rowN o io).view.emb (ix1 n) = ix2 g n := by
  subst ho
  show (Rect.unit (s := S20x96) ![g.val, 0] S1x96.size io).emb (Shape.reshapeEquiv squeezes_S1x96_S96.numel_eq (ix1 n)) = _
  rw [Shape.reshapeEquiv_eq_of_rowMajor squeezes_S1x96_S96.numel_eq (y := ix2 0 n) (by
    rw [Shape.rowMajor_val_one, Shape.rowMajor_val_two]; simp)]
  refine funext fun a => Fin.ext ?_
  match a with
  | ⟨0, _⟩ => show g.val + 1 * 0 = g.val; omega
  | ⟨1, _⟩ => show 0 + 1 * n.val = n.val; omega

omit [FloatOps F] in
theorem tAll_emb (x : S16896x2x128.Idx) : tAll.view.emb x = x := by
  refine funext fun a => Fin.ext ?_
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

omit [FloatOps F] in
theorem rows_lt (nr : S20x96.Idx → BitVec 32) (hin : ∀ j, (nr j).toNat < 16896) (o : Fin 2 → ℕ) (io : ∀ a, o a + S1x96.size a ≤ S20x96.size a) (x : S96.Idx) :
    ((rowN o io).view.read (Elt F) nr x).toNat < S16896x2x128.size gathers_S16896x2x128_S96x2x128.axis := hin _

/-- What the gather writes is the slot gathered. -/
theorem gathered_write (tab : S16896x2x128.Idx → F .f32) (nr : S20x96.Idx → BitVec 32) (hin : ∀ j, (nr j).toNat < 16896)
    (so : Fin 4 → ℕ) (is : ∀ a, so a + S1x96x2x128.size a ≤ S2x96x2x128.size a) (s : Fin 2) (hso : so = ![s.val, 0, 0, 0])
    (o : Fin 2 → ℕ) (io : ∀ a, o a + S1x96.size a ≤ S20x96.size a) (g : Fin 20) (ho : o = ![g.val, 0]) (fr : S2x96x2x128.Idx → F .f32) :
    Gathered tab nr g s (View.write (Elt F) (dstS so is).view fr
      (SparseCore.gatherPayload gathers_S16896x2x128_S96x2x128 (View.read (Elt F) tAll.view tab)
        (SparseCore.rows (View.read (Elt F) (rowN o io).view nr) rfl (rows_lt (F := F) nr hin o io))) Finset.univ) := by
  intro n h c
  rw [← dstS_emb so is s hso n h c]
  refine (View.write_emb_of_mem (Val := Elt F) (v := (dstS so is).view) fr _ (Finset.mem_univ _)).trans ((cast_eq _ _).trans ?_)
  show tab (tAll.view.emb _) = _
  rw [tAll_emb]
  unfold pick
  refine congrArg tab (funext fun a => Fin.ext ?_)
  match a with
  | ⟨0, _⟩ =>
    have e : S96.rowMajor.symm (Fin.cast (rfl : S96x2x128.size gathers_S16896x2x128_S96x2x128.axis' = S96.numel) n) = ix1 n :=
      (Equiv.symm_apply_eq _).2 (Fin.ext (by rw [Shape.rowMajor_val_one]; rfl))
    show (nr ((rowN o io).view.emb (S96.rowMajor.symm _))).toNat = (nr (ix2 g n)).toNat % 16896
    rw [Nat.mod_eq_of_lt (hin _)]
    refine congrArg (fun x => (nr x).toNat) ?_
    rw [← rowN_emb o io g ho n]
    exact congrArg _ e
  | ⟨1, _⟩ => exact Shape.Gathers.idx_of_ne gathers_S16896x2x128_S96x2x128 _ (ix3 n h c) 1 (by decide)
  | ⟨2, _⟩ => exact Shape.Gathers.idx_of_ne gathers_S16896x2x128_S96x2x128 _ (ix3 n h c) 2 (by decide)

theorem credit_rows₀ : ∀ h : S16896x2x128.Gathers 0 S96x2x128,
    ∑ j, ((dstS ![0, 0, 0, 0] inb_S2x96x2x128_S1x96x2x128_0_0_0_0).slice (S96x2x128.rowRect h.axis' j) (S96x2x128.stride_rowRect h.axis' j)).view.dmaCredit
      = gCred := by decide

/-- The rows' credits together are the gather's, whichever slot. -/
theorem credit_rows (so : Fin 4 → ℕ) (is : ∀ a, so a + S1x96x2x128.size a ≤ S2x96x2x128.size a) (h : S16896x2x128.Gathers 0 S96x2x128) :
    ∑ j, ((dstS so is).slice (S96x2x128.rowRect h.axis' j) (S96x2x128.stride_rowRect h.axis' j)).view.dmaCredit = gCred := credit_rows₀ h

section Wp
variable (d : Dev nD) (L : grid2.Coords)

/-- What a slot's gather delivers. -/
abbrev Deliv (tab : S16896x2x128.Idx → F .f32) (nr : S20x96.Idx → BitVec 32) (q qo : PosShare TreeShare)
    (so : Fin 4 → ℕ) (is : ∀ a, so a + S1x96x2x128.size a ≤ S2x96x2x128.size a) (s : Fin 2) (g : Fin 20) : sProp 𝕄 :=
  iprop((∃ f8, ⌜Gathered tab nr g s f8⌝ ∗ (rS.view.loc (th d L) ↦[rS.view.setOn (Rect.unit (s := S2x96x2x128) so S1x96x2x128.size is).set]{fullShare} f8))
    ∗ (tV.view.loc (th d L) ↦{q} tab) ∗ (nS.view.loc (th d L) ↦{qo} nr))

/-- The pieces the gather's flight delivers, joined with the rest of the shares it was issued from. -/
theorem deliv_intro (tab : S16896x2x128.Idx → F .f32) (nr : S20x96.Idx → BitVec 32) (q qo : PosShare TreeShare)
    (so : Fin 4 → ℕ) (is : ∀ a, so a + S1x96x2x128.size a ≤ S2x96x2x128.size a) (s : Fin 2) (g : Fin 20)
    (I : Finset S16896x2x128.Idx) (J : Finset S20x96.Idx) (f8 : S2x96x2x128.Idx → F .f32) (hf : Gathered tab nr g s f8) :
    iprop(((tV.view.loc (th d L) ↦[Finset.univ \ I]{q} tab) ∗ (nS.view.loc (th d L) ↦[Finset.univ \ J]{qo} nr))
      ∗ ((rS.view.loc (th d L) ↦[(dstS so is).view.set]{fullShare} f8) ∗ (tV.view.loc (th d L) ↦[I]{q} tab) ∗ (nS.view.loc (th d L) ↦[J]{qo} nr)))
    ⊢ (Deliv d L tab nr q qo so is s g : sProp 𝕄) := by
  rw [dstS_set so is]
  iintro ⟨⟨Htr, Hnr⟩, Hr, Ht, Hn⟩
  isplitl [Hr]
  · iexists f8
    isplitr
    · ipureintro; exact hf
    · iexact Hr
  isplitl [Ht Htr]
  · iapply ((pointsTo_split_subset (Finset.subset_univ I)).2)
    isplitl [Ht]; · iexact Ht
    iexact Htr
  iapply ((pointsTo_split_subset (Finset.subset_univ J)).2)
  isplitl [Hn]; · iexact Hn
  iexact Hnr

set_option maxHeartbeats 2000000 in
/-- The gather's issue: from the slot, shares of the table and of the row numbers and the semaphore at zero, its flight. -/
theorem wp_gather {α : Type} {Q : α → sProp 𝕄} (tab : S16896x2x128.Idx → F .f32) (nr : S20x96.Idx → BitVec 32) (hin : ∀ j, (nr j).toNat < 16896)
    (q qo : PosShare TreeShare) (so : Fin 4 → ℕ) (is : ∀ a, so a + S1x96x2x128.size a ≤ S2x96x2x128.size a) (s : Fin 2) (hso : so = ![s.val, 0, 0, 0])
    (o : Fin 2 → ℕ) (io : ∀ a, o a + S1x96.size a ≤ S20x96.size a) (g : Fin 20) (ho : o = ![g.val, 0]) (fr : S2x96x2x128.Idx → F .f32)
    (sem : DmaSem sig) (k : PUnit → Prog (TpuEff nD τ sig (Elt F) Λ₀ (th d L).2) α) :
    iprop((tV.view.loc (th d L) ↦{q} tab)
        ∗ (rS.view.loc (th d L) ↦[rS.view.setOn (Rect.unit (s := S2x96x2x128) so S1x96x2x128.size is).set]{fullShare} fr)
        ∗ (nS.view.loc (th d L) ↦{qo} nr) ∗ semVal (th d L, SemLoc.dma sem) 0)
      ⊢ iprop((Transfers.Flight countersEmb (th d L) (.dma sem) (default : SparseCore.Cfg.HIx 1) gCred (Deliv d L tab nr q qo so is s g)
              -∗ wp frame (wpE (defs₀ (F := F)) 𝒱₀ (th d L) none) Set.univ (k ⟨⟩) Q)
          -∗ wp frame (wpE (defs₀ (F := F)) 𝒱₀ (th d L) none) Set.univ
            (SparseCore.enqueueIndirectGather rfl tAll (dstS so is) gathers_S16896x2x128_S96x2x128 (rowN o io) rfl sem
              (View.wordExact_bits rfl) rfl (Or.inl rfl) >>= k) Q : sProp 𝕄) := by
  iintro ⟨Ht, Hr, Hn, Hv⟩ Hk
  ihave ⟨Ht, Htr⟩ := (pointsTo_split_subset (Finset.subset_univ tAll.view.set)).1 $$ Ht
  ihave ⟨Hn, Hnr⟩ := (pointsTo_split_subset (Finset.subset_univ (rowN o io).view.set)).1 $$ Hn
  rw [← dstS_set so is]
  iapply (SparseCore.wp_indirectGatherLocal countersEmb 𝒱₀ (th d L) none (hg := gathers_S16896x2x128_S96x2x128) (default : SparseCore.Cfg.HIx 1)
      gCred (credit_rows so is _) (by decide) (rows_lt (F := F) nr hin o io)) $$ [Ht Hr Hn Hv]
  · iframe Ht Hr Hn Hv
  iintro Hf
  iapply Hk
  iapply (Transfers.Flight_mono countersEmb (th d L) (deliv_intro d L tab nr q qo so is s g tAll.view.set (rowN o io).view.set _
    (gathered_write tab nr hin so is s hso o io g ho fr)))
  iapply (Transfers.Flight_frame countersEmb (th d L))
  iframe Htr Hnr Hf

end Wp

end Cert.Proof.KernelIdeal
-- ==== Proof.KernelIdeal.Tile.lean ====
/-
  The tile's loops: four rows from each slot per trip, ten trips, each slot's next gather issued as soon as its rows are
  summed.
-/
module

public import proofs.«01_k».proof.Proof.KernelIdeal.Gather

@[expose] public section

noncomputable section

namespace Cert.Proof.KernelIdeal

open Cert.KernelIdeal Cert.KernelIdeal.Gen
open Idealize.ShloMosaic
open Idealize.ShloMosaic.ValueIdx (ix1 ix2 ix3 ix4 eq_ix1 eq_ix2 eq_ix3 eq_ix4 idx2_lt0 idx2_lt1)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (SparseCore.Cfg.HIx 1) (Elt F) ℕ UU ℕ

/-! ## The tile's rows -/

/-- Row `q`, column `x` of the tile's result rows: the bias plus the weighted sum of the table rows that the row's
    twenty-four row numbers name; four rows' numbers are one line. -/
def tileRow (tab : S16896x2x128.Idx → F .f32) (nr : S20x96.Idx → BitVec 32) (fw : S80x32.Idx → F .f32) (fa : S256.Idx → F .f32)
    (q : Fin 80) (x : Fin 256) : F .f32 :=
  bag (fa (ix1 x)) (fun j => fw (ix2 q ⟨j.val, by omega⟩))
    (fun j => pick tab (nr (ix2 ⟨q.val / 4, by omega⟩ ⟨24 * (q.val % 4) + j.val, by omega⟩)) ⟨x.val / 128, by omega⟩ ⟨x.val % 128, by omega⟩) 24 le_rfl

theorem rowVal_gathered (tab : S16896x2x128.Idx → F .f32) (nr : S20x96.Idx → BitVec 32) (fw : S80x32.Idx → F .f32) (fa : S256.Idx → F .f32)
    (f8 : S2x96x2x128.Idx → F .f32) (g : Fin 20) (s : Fin 2) (hG : Gathered tab nr g s f8) (t : Fin 4) (q : Fin 80) (hq : q.val = 4 * g.val + t.val)
    (x : Fin 256) : rowVal fa fw f8 s t q x = tileRow tab nr fw fa q x := by
  refine bag_congr rfl (fun _ => rfl) (fun j => ?_) 24 le_rfl
  rw [hG]
  have e1 : g = ⟨q.val / 4, by omega⟩ := Fin.ext (by simp only; omega)
  have e2 : (⟨24 * t.val + j.val, by omega⟩ : Fin 96) = ⟨24 * (q.val % 4) + j.val, by omega⟩ := Fin.ext (by simp only; omega)
  rw [e1, e2]

/-- The first `n` result rows are done. -/
def Done (tab : S16896x2x128.Idx → F .f32) (nr : S20x96.Idx → BitVec 32) (fw : S80x32.Idx → F .f32) (fa : S256.Idx → F .f32)
    (n : ℕ) (fy : S80x256.Idx → F .f32) : Prop :=
  ∀ y : S80x256.Idx, (y 0).val < n → fy y = tileRow tab nr fw fa (y 0) (y 1)

theorem done_step (tab : S16896x2x128.Idx → F .f32) (nr : S20x96.Idx → BitVec 32) (fw : S80x32.Idx → F .f32) (fa : S256.Idx → F .f32)
    (f8 : S2x96x2x128.Idx → F .f32) (g : Fin 20) (s : Fin 2) (hG : Gathered tab nr g s f8) (t : Fin 4) (n : ℕ) (hn : n = 4 * g.val + t.val)
    (fy fy' : S80x256.Idx → F .f32) (hfy : Done tab nr fw fa n fy)
    (h : ∀ y : S80x256.Idx, fy' y = if (y 0).val = n then rowVal fa fw f8 s t (y 0) (y 1) else fy y) : Done tab nr fw fa (n + 1) fy' := by
  intro y hy
  rw [h y]
  split
  · rename_i e
    exact rowVal_gathered tab nr fw fa f8 g s hG t (y 0) (by omega) (y 1)
  · exact hfy y (by omega)

section Loops
variable (d : Dev nD) (L : grid2.Coords)
variable (tab : S16896x2x128.Idx → F .f32) (nr : S20x96.Idx → BitVec 32) (fw : S80x32.Idx → F .f32) (fa : S256.Idx → F .f32)

/-- Before trip `k` of a slot's four rows: the slot's rows held, the first `n + k` result rows done. -/
abbrev In (so : Fin 4 → ℕ) (is : ∀ a, so a + S1x96x2x128.size a ≤ S2x96x2x128.size a) (f8 : S2x96x2x128.Idx → F .f32) (n : ℕ) (k : ℕ) : sProp 𝕄 :=
  iprop((gS.view.loc (th d L) ↦{fullShare} fw) ∗ (aS.view.loc (th d L) ↦{fullShare} fa)
      ∗ (rS.view.loc (th d L) ↦[rS.view.setOn (Rect.unit (s := S2x96x2x128) so S1x96x2x128.size is).set]{fullShare} f8)
      ∗ ∃ fy, ⌜Done tab nr fw fa (n + k) fy⌝ ∗ (yS.view.loc (th d L) ↦{fullShare} fy))

theorem in0_step (f8 : S2x96x2x128.Idx → F .f32) (k1 : Fin k2_t1_loop.trips) (hk1 : k1.val < 10)
    (hG : Gathered tab nr ⟨2 * k1.val, by omega⟩ 0 f8) (v16 : BitVec 32) (k2 : Fin k2_t2_loop.trips) :
    In d L tab nr fw fa ![0, 0, 0, 0] inb_S2x96x2x128_S1x96x2x128_0_0_0_0 f8 (8 * k1.val) k2.val
    ⊢ (wp frame (wpE (defs₀ (F := F)) 𝒱₀ (th d L) none) Set.univ
        (k2_t2_body L tV (Memref.isWhole_whole _) nV (Memref.isWhole_whole _) gV (Memref.isWhole_whole _) aV (Memref.isWhole_whole _)
          yV (Memref.isWhole_whole _) nS (Memref.isWhole_whole _) rS (Memref.isWhole_whole _) gS (Memref.isWhole_whole _)
          yS (Memref.isWhole_whole _) aS (Memref.isWhole_whole _) cc2_scratch5 cc2_scratch6 cc2_scoped0 cc2_scoped1 cc2_scoped2 cc2_scoped3
          0#32 1#32 k1 v16 k2 ())
        fun _ => In d L tab nr fw fa ![0, 0, 0, 0] inb_S2x96x2x128_S1x96x2x128_0_0_0_0 f8 (8 * k1.val) (k2.val + 1) : sProp 𝕄) := by
  have hk2 : k2.val < 4 := k2.isLt
  iintro ⟨Hg, Ha, Hr, %fy, %hfy, Hy⟩
  ihave H := (trip0 d L k1 k2 v16 fw fa f8 fy hk2 hk1) $$ [Hg Ha Hr Hy]
  · iframe Hg Ha Hr Hy
  iapply (wp_mono frame _ _ (fun _ => ?_)) $$ H
  iintro ⟨Hg, Ha, Hr, %fy', %hfy', Hy⟩
  isplitl [Hg]; · iexact Hg
  isplitl [Ha]; · iexact Ha
  isplitl [Hr]; · iexact Hr
  iexists fy'
  isplitr
  swap; · iexact Hy
  ipureintro
  exact done_step tab nr fw fa f8 _ 0 hG ⟨k2.val, hk2⟩ (8 * k1.val + k2.val) (by simp only; omega) fy fy' hfy hfy'

theorem in1_step (f8 : S2x96x2x128.Idx → F .f32) (k1 : Fin k2_t1_loop.trips) (hk1 : k1.val < 10)
    (hG : Gathered tab nr ⟨2 * k1.val + 1, by omega⟩ 1 f8) (v28 : BitVec 32) (k3 : Fin k2_t3_loop.trips) :
    In d L tab nr fw fa ![1, 0, 0, 0] inb_S2x96x2x128_S1x96x2x128_1_0_0_0 f8 (8 * k1.val + 4) k3.val
    ⊢ (wp frame (wpE (defs₀ (F := F)) 𝒱₀ (th d L) none) Set.univ
        (k2_t3_body L tV (Memref.isWhole_whole _) nV (Memref.isWhole_whole _) gV (Memref.isWhole_whole _) aV (Memref.isWhole_whole _)
          yV (Memref.isWhole_whole _) nS (Memref.isWhole_whole _) rS (Memref.isWhole_whole _) gS (Memref.isWhole_whole _)
          yS (Memref.isWhole_whole _) aS (Memref.isWhole_whole _) cc2_scratch5 cc2_scratch6 cc2_scoped0 cc2_scoped1 cc2_scoped2 cc2_scoped3
          0#32 1#32 k1 v28 k3 ())
        fun _ => In d L tab nr fw fa ![1, 0, 0, 0] inb_S2x96x2x128_S1x96x2x128_1_0_0_0 f8 (8 * k1.val + 4) (k3.val + 1) : sProp 𝕄) := by
  have hk3 : k3.val < 4 := k3.isLt
  iintro ⟨Hg, Ha, Hr, %fy, %hfy, Hy⟩
  ihave H := (trip1 d L k1 k3 v28 fw fa f8 fy hk3 hk1) $$ [Hg Ha Hr Hy]
  · iframe Hg Ha Hr Hy
  iapply (wp_mono frame _ _ (fun _ => ?_)) $$ H
  iintro ⟨Hg, Ha, Hr, %fy', %hfy', Hy⟩
  isplitl [Hg]; · iexact Hg
  isplitl [Ha]; · iexact Ha
  isplitl [Hr]; · iexact Hr
  iexists fy'
  isplitr
  swap; · iexact Hy
  ipureintro
  exact done_step tab nr fw fa f8 _ 1 hG ⟨k3.val, hk3⟩ (8 * k1.val + 4 + k3.val) (by simp only; omega) fy fy' hfy (fun y => by
    rw [hfy' y, show 8 * k1.val + k3.val + 4 = 8 * k1.val + 4 + k3.val by omega])

/-- Slot `s` before trip `k`: its gather in flight, or, past the last, all handed back. -/
def SlotSt (q qo : PosShare TreeShare) (so : Fin 4 → ℕ) (is : ∀ a, so a + S1x96x2x128.size a ≤ S2x96x2x128.size a) (s : Fin 2) (sem : DmaSem sig)
    (k : ℕ) : sProp 𝕄 :=
  if h : k < 10 then Transfers.Flight countersEmb (th d L) (.dma sem) (default : SparseCore.Cfg.HIx 1) gCred
    (Deliv d L tab nr q qo so is s ⟨2 * k + s.val, by omega⟩)
  else iprop((∃ f8, (rS.view.loc (th d L) ↦[rS.view.setOn (Rect.unit (s := S2x96x2x128) so S1x96x2x128.size is).set]{fullShare} f8))
    ∗ (tV.view.loc (th d L) ↦{q} tab) ∗ (nS.view.loc (th d L) ↦{qo} nr) ∗ semVal (th d L, SemLoc.dma sem) 0)

theorem slotSt_flight (q qo : PosShare TreeShare) (so : Fin 4 → ℕ) (is : ∀ a, so a + S1x96x2x128.size a ≤ S2x96x2x128.size a) (s : Fin 2) (sem : DmaSem sig)
    (k : ℕ) (h : k < 10) : SlotSt d L tab nr q qo so is s sem k
      = (Transfers.Flight countersEmb (th d L) (.dma sem) (default : SparseCore.Cfg.HIx 1) gCred
          (Deliv d L tab nr q qo so is s ⟨2 * k + s.val, by omega⟩) : sProp 𝕄) := dif_pos h

theorem slotSt_last (q qo : PosShare TreeShare) (so : Fin 4 → ℕ) (is : ∀ a, so a + S1x96x2x128.size a ≤ S2x96x2x128.size a) (s : Fin 2) (sem : DmaSem sig)
    (k : ℕ) (h : ¬ k < 10) : SlotSt d L tab nr q qo so is s sem k
      = (iprop((∃ f8, (rS.view.loc (th d L) ↦[rS.view.setOn (Rect.unit (s := S2x96x2x128) so S1x96x2x128.size is).set]{fullShare} f8))
          ∗ (tV.view.loc (th d L) ↦{q} tab) ∗ (nS.view.loc (th d L) ↦{qo} nr) ∗ semVal (th d L, SemLoc.dma sem) 0) : sProp 𝕄) := dif_neg h

/-- Before trip `k` of the ten: eight rows per trip done, both slots' gathers in flight. -/
abbrev Out (qt qn : PosShare TreeShare) (O : CellTallies nD τ sig (SparseCore.Cfg.HIx 1)) (W : Waits sig (SparseCore.Cfg.HIx 1)) (k : ℕ) : sProp 𝕄 :=
  iprop(Transfers.MayWaits (th d L) (default : SparseCore.Cfg.HIx 1) O ∗
    (gS.view.loc (th d L) ↦{fullShare} fw) ∗ (aS.view.loc (th d L) ↦{fullShare} fa)
      ∗ (∃ fy, ⌜Done tab nr fw fa (8 * k) fy⌝ ∗ (yS.view.loc (th d L) ↦{fullShare} fy))
      ∗ SlotSt d L tab nr qt.left qn.left ![0, 0, 0, 0] inb_S2x96x2x128_S1x96x2x128_0_0_0_0 0 cc2_scratch5.sem k
      ∗ SlotSt d L tab nr qt.right qn.right ![1, 0, 0, 0] inb_S2x96x2x128_S1x96x2x128_1_0_0_0 1 cc2_scratch6.sem k
      ∗ ∃ W', ⌜∀ p ∈ W', p ∈ W ∨ p.2 = none⌝ ∗ owes (th d L) O W')

theorem cond1_iff : ∀ k1 : Fin k2_t1_loop.trips, k2_cond1 k1 = 1#1 ↔ k1.val < 9 := by decide
theorem cond2_iff : ∀ k1 : Fin k2_t1_loop.trips, k2_cond2 k1 = 1#1 ↔ k1.val < 9 := by decide

set_option maxHeartbeats 4000000 in
set_option maxRecDepth 65536 in
/-- One trip: both slots waited for, summed, and gathered anew while trips remain. -/
theorem out_step (hin : ∀ j, (nr j).toNat < 16896) (qt qn : PosShare TreeShare) (O : CellTallies nD τ sig (SparseCore.Cfg.HIx 1))
    (W : Waits sig (SparseCore.Cfg.HIx 1)) (k1 : Fin k2_t1_loop.trips) :
    Out d L tab nr fw fa qt qn O W k1.val
    ⊢ (wp frame (wpE (defs₀ (F := F)) 𝒱₀ (th d L) none) Set.univ
        (k2_t1_body L tV (Memref.isWhole_whole _) nV (Memref.isWhole_whole _) gV (Memref.isWhole_whole _) aV (Memref.isWhole_whole _)
          yV (Memref.isWhole_whole _) nS (Memref.isWhole_whole _) rS (Memref.isWhole_whole _) gS (Memref.isWhole_whole _)
          yS (Memref.isWhole_whole _) aS (Memref.isWhole_whole _) cc2_scratch5 cc2_scratch6 cc2_scoped0 cc2_scoped1 cc2_scoped2 cc2_scoped3
          k1 ())
        fun _ => Out d L tab nr fw fa qt qn O W (k1.val + 1) : sProp 𝕄) := by
  have hk1 : k1.val < 10 := k1.isLt
  unfold k2_t1_body
  iintro ⟨#Hmw, Hg, Ha, ⟨%fy, %hfy, Hy⟩, Hf0, Hf1, %W', %hW', HO⟩
  ihave Hf0 := (Entails.of_eq (slotSt_flight d L tab nr _ _ _ _ 0 _ _ hk1)) $$ Hf0
  ihave Hf1 := (Entails.of_eq (slotSt_flight d L tab nr _ _ _ _ 1 _ _ hk1)) $$ Hf1
  by_cases hc : k1.val < 9
  · have hc1 : k2_cond1 k1 = 1#1 := (cond1_iff k1).2 hc
    have hc2 : k2_cond2 k1 = 1#1 := (cond2_iff k1).2 hc
    sl_exec
    iapply (Transfers.wp_waitLocalO countersEmb 𝒱₀ (th d L) none (default : SparseCore.Cfg.HIx 1) (srcw := tAll)
      (dstw := dstS ![0, 0, 0, 0] inb_S2x96x2x128_S1x96x2x128_0_0_0_0) (N := gCred) rfl) $$ [Hf0 HO]
    · isplitl [Hf0]; · iexact Hf0
      isplitl [HO]; · iexact HO
      iapply (Transfers.MayWaits.elim (SemLoc.dma cc2_scratch5.sem)) $$ Hmw
    iintro ⟨⟨⟨%f8, %hG, Hr⟩, Ht, Hn⟩, Hv, HO⟩
    sl_exec
    sl_for (fun k (_ : Unit) => In d L tab nr fw fa ![0, 0, 0, 0] inb_S2x96x2x128_S1x96x2x128_0_0_0_0 f8 (8 * k1.val) k) $$ [Hg Ha Hr Hy]
    · intro k2 _
      exact in0_step d L tab nr fw fa f8 k1 hk1 hG _ k2
    · isplitl [Hg]; · iexact Hg
      isplitl [Ha]; · iexact Ha
      isplitl [Hr]; · iexact Hr
      iexists fy
      isplitr
      · ipureintro; exact hfy
      · iexact Hy
    iintro %_ ⟨Hg, Ha, Hr, %fy1, %hfy1, Hy⟩
    sl_exec
    iapply (wp_gather d L tab nr hin qt.left qn.left ![0, 0, 0, 0] inb_S2x96x2x128_S1x96x2x128_0_0_0_0 0 rfl
      (k2_off38 k1) (k2_off38_inb k1 hc1) ⟨2 * (k1.val + 1) + (0 : Fin 2).val, by show 2 * (k1.val + 1) + 0 < 20; omega⟩ (k2_off38_eq k1) f8 cc2_scratch5.sem) $$ [Ht Hr Hn Hv]
    · iframe Ht Hr Hn Hv
    iintro Hf0
    sl_exec
    iapply (Transfers.wp_waitLocalO countersEmb 𝒱₀ (th d L) none (default : SparseCore.Cfg.HIx 1) (srcw := tAll)
      (dstw := dstS ![1, 0, 0, 0] inb_S2x96x2x128_S1x96x2x128_1_0_0_0) (N := gCred) rfl) $$ [Hf1 HO]
    · isplitl [Hf1]; · iexact Hf1
      isplitl [HO]; · iexact HO
      iapply (Transfers.MayWaits.elim (SemLoc.dma cc2_scratch6.sem)) $$ Hmw
    iintro ⟨⟨⟨%f8', %hG', Hr⟩, Ht, Hn⟩, Hv, HO⟩
    sl_exec
    sl_for (fun k (_ : Unit) => In d L tab nr fw fa ![1, 0, 0, 0] inb_S2x96x2x128_S1x96x2x128_1_0_0_0 f8' (8 * k1.val + 4) k) $$ [Hg Ha Hr Hy]
    · intro k3 _
      exact in1_step d L tab nr fw fa f8' k1 hk1 hG' _ k3
    · isplitl [Hg]; · iexact Hg
      isplitl [Ha]; · iexact Ha
      isplitl [Hr]; · iexact Hr
      iexists fy1
      isplitr
      · ipureintro; exact hfy1
      · iexact Hy
    iintro %_ ⟨Hg, Ha, Hr, %fy2, %hfy2, Hy⟩
    sl_exec
    iapply (wp_gather d L tab nr hin qt.right qn.right ![1, 0, 0, 0] inb_S2x96x2x128_S1x96x2x128_1_0_0_0 1 rfl
      (k2_off73 k1) (k2_off73_inb k1 hc2) ⟨2 * (k1.val + 1) + (1 : Fin 2).val, by show 2 * (k1.val + 1) + 1 < 20; omega⟩ (k2_off73_eq k1) f8' cc2_scratch6.sem) $$ [Ht Hr Hn Hv]
    · iframe Ht Hr Hn Hv
    iintro Hf1
    sl_exec
    sl_step
    isplitr; · iexact Hmw
    isplitl [Hg]; · iexact Hg
    isplitl [Ha]; · iexact Ha
    isplitl [Hy]
    · iexists fy2
      isplitr
      · ipureintro
        have e : 8 * k1.val + 4 + 4 = 8 * (k1.val + 1) := by omega
        exact e ▸ hfy2
      · iexact Hy
    isplitl [Hf0]
    · iapply (Entails.of_eq (slotSt_flight d L tab nr _ _ _ _ 0 _ (k1.val + 1) (by omega)).symm)
      iexact Hf0
    isplitl [Hf1]
    · iapply (Entails.of_eq (slotSt_flight d L tab nr _ _ _ _ 1 _ (k1.val + 1) (by omega)).symm)
      iexact Hf1
    iexists _
    isplitr
    swap; · iexact HO
    ipureintro
    intro p hp
    rcases Finset.mem_insert.mp hp with hp | hp; · exact .inr (hp ▸ rfl)
    rcases Finset.mem_insert.mp hp with hp | hp; · exact .inr (hp ▸ rfl)
    exact hW' p hp
  · have hc1 : ¬ k2_cond1 k1 = 1#1 := fun h => hc ((cond1_iff k1).1 h)
    have hc2 : ¬ k2_cond2 k1 = 1#1 := fun h => hc ((cond2_iff k1).1 h)
    sl_exec
    iapply (Transfers.wp_waitLocalO countersEmb 𝒱₀ (th d L) none (default : SparseCore.Cfg.HIx 1) (srcw := tAll)
      (dstw := dstS ![0, 0, 0, 0] inb_S2x96x2x128_S1x96x2x128_0_0_0_0) (N := gCred) rfl) $$ [Hf0 HO]
    · isplitl [Hf0]; · iexact Hf0
      isplitl [HO]; · iexact HO
      iapply (Transfers.MayWaits.elim (SemLoc.dma cc2_scratch5.sem)) $$ Hmw
    iintro ⟨⟨⟨%f8, %hG, Hr⟩, Ht0, Hn0⟩, Hv0, HO⟩
    sl_exec
    sl_for (fun k (_ : Unit) => In d L tab nr fw fa ![0, 0, 0, 0] inb_S2x96x2x128_S1x96x2x128_0_0_0_0 f8 (8 * k1.val) k) $$ [Hg Ha Hr Hy]
    · intro k2 _
      exact in0_step d L tab nr fw fa f8 k1 hk1 hG _ k2
    · isplitl [Hg]; · iexact Hg
      isplitl [Ha]; · iexact Ha
      isplitl [Hr]; · iexact Hr
      iexists fy
      isplitr
      · ipureintro; exact hfy
      · iexact Hy
    iintro %_ ⟨Hg, Ha, Hr0, %fy1, %hfy1, Hy⟩
    sl_exec
    iapply (Transfers.wp_waitLocalO countersEmb 𝒱₀ (th d L) none (default : SparseCore.Cfg.HIx 1) (srcw := tAll)
      (dstw := dstS ![1, 0, 0, 0] inb_S2x96x2x128_S1x96x2x128_1_0_0_0) (N := gCred) rfl) $$ [Hf1 HO]
    · isplitl [Hf1]; · iexact Hf1
      isplitl [HO]; · iexact HO
      iapply (Transfers.MayWaits.elim (SemLoc.dma cc2_scratch6.sem)) $$ Hmw
    iintro ⟨⟨⟨%f8', %hG', Hr⟩, Ht1, Hn1⟩, Hv1, HO⟩
    sl_exec
    sl_for (fun k (_ : Unit) => In d L tab nr fw fa ![1, 0, 0, 0] inb_S2x96x2x128_S1x96x2x128_1_0_0_0 f8' (8 * k1.val + 4) k) $$ [Hg Ha Hr Hy]
    · intro k3 _
      exact in1_step d L tab nr fw fa f8' k1 hk1 hG' _ k3
    · isplitl [Hg]; · iexact Hg
      isplitl [Ha]; · iexact Ha
      isplitl [Hr]; · iexact Hr
      iexists fy1
      isplitr
      · ipureintro; exact hfy1
      · iexact Hy
    iintro %_ ⟨Hg, Ha, Hr1, %fy2, %hfy2, Hy⟩
    sl_exec
    sl_step
    isplitr; · iexact Hmw
    isplitl [Hg]; · iexact Hg
    isplitl [Ha]; · iexact Ha
    isplitl [Hy]
    · iexists fy2
      isplitr
      · ipureintro
        have e : 8 * k1.val + 4 + 4 = 8 * (k1.val + 1) := by omega
        exact e ▸ hfy2
      · iexact Hy
    isplitl [Hr0 Ht0 Hn0 Hv0]
    · iapply (Entails.of_eq (slotSt_last d L tab nr _ _ _ _ 0 _ (k1.val + 1) (by omega)).symm)
      isplitl [Hr0]; · iexists _; iexact Hr0
      isplitl [Ht0]; · iexact Ht0
      isplitl [Hn0]; · iexact Hn0
      iexact Hv0
    isplitl [Hr1 Ht1 Hn1 Hv1]
    · iapply (Entails.of_eq (slotSt_last d L tab nr _ _ _ _ 1 _ (k1.val + 1) (by omega)).symm)
      isplitl [Hr1]; · iexists _; iexact Hr1
      isplitl [Ht1]; · iexact Ht1
      isplitl [Hn1]; · iexact Hn1
      iexact Hv1
    iexists _
    isplitr
    swap; · iexact HO
    ipureintro
    intro p hp
    rcases Finset.mem_insert.mp hp with hp | hp; · exact .inr (hp ▸ rfl)
    rcases Finset.mem_insert.mp hp with hp | hp; · exact .inr (hp ▸ rfl)
    exact hW' p hp

end Loops

end Cert.Proof.KernelIdeal
-- ==== Proof.KernelIdeal.Body.lean ====
/-
  What the tile's task needs: the value of its result rows, its copies' landings, its two slots, its semaphores and
  its scratch.
-/
module

public import proofs.«01_k».proof.Proof.KernelIdeal.Tile

@[expose] public section

noncomputable section

namespace Cert.Proof.KernelIdeal

open Cert.KernelIdeal Cert.KernelIdeal.Gen
open Idealize.ShloMosaic
open Idealize.ShloMosaic.ValueIdx (ix1 ix2 ix3 ix4 eq_ix1 eq_ix2 eq_ix3 eq_ix4 idx2_lt0 idx2_lt1)
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (SparseCore.Cfg.HIx 1) (Elt F) ℕ UU ℕ

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The value -/

/-- Row `r`, column `x` of the call's result: the bias plus the weighted sum of the twenty-four table rows that the
    row numbers of row `r` name. -/
def bagOut (tab : S16896x2x128.Idx → F .f32) (N : S32x20x96.Idx → BitVec 32) (G : S2560x32.Idx → F .f32) (A : S256.Idx → F .f32)
    (y : S2560x256.Idx) : F .f32 :=
  bag (A (ix1 (y 1))) (fun j => G (ix2 (y 0) ⟨j.val, by omega⟩))
    (fun j => pick tab (N (ix3 ⟨(y 0).val / 80, by have := idx2_lt0 y; omega⟩ ⟨(y 0).val % 80 / 4, by omega⟩ ⟨24 * ((y 0).val % 80 % 4) + j.val, by omega⟩))
      ⟨(y 1).val / 128, by have := idx2_lt1 y; omega⟩ ⟨(y 1).val % 128, by omega⟩) 24 le_rfl

section Tile
variable (d : Dev nD) (L : grid2.Coords)

theorem core_lt : (L 0).val < 2 := (L 0).isLt
theorem sub_lt : (L 1).val < 16 := (L 1).isLt

/-- The tile's row numbers, of all. -/
def nrOf (N : S32x20x96.Idx → BitVec 32) : S20x96.Idx → BitVec 32 := fun j =>
  N (ix3 ⟨2 * (L 1).val + (L 0).val, by have := core_lt L; have := sub_lt L; omega⟩ (j 0) (j 1))

/-- The tile's weights, of all. -/
def fwOf (G : S2560x32.Idx → F .f32) : S80x32.Idx → F .f32 := fun j =>
  G (ix2 ⟨160 * (L 1).val + 80 * (L 0).val + (j 0).val, by have := core_lt L; have := sub_lt L; have := idx2_lt0 j; omega⟩ (j 1))

/-- The tile's row numbers, its weights and its result rows as its copies address them. -/
abbrev nRowK : Memref sig .scVector .hbm S20x96 .i32 :=
  (nV.slice (Rect.unit (s := S32x20x96) (k2_off1 L) S1x20x96.size (k2_off1_inb L)) (fun _ => rfl)).squeeze S20x96 squeezes_S1x20x96_S20x96
abbrev gRowK : Memref sig .scVector .hbm S80x32 .f32 := gV.slice (Rect.unit (s := S2560x32) (k2_off2 L) S80x32.size (k2_off2_inb L)) (fun _ => rfl)
abbrev yRowK : Memref sig .scVector .hbm S80x256 .f32 := yV.slice (Rect.unit (s := S2560x256) (k2_off74 L) S80x256.size (k2_off74_inb L)) (fun _ => rfl)

theorem nRowK_emb (j : S20x96.Idx) : (nRowK L).view.emb j
    = ix3 ⟨2 * (L 1).val + (L 0).val, by have := core_lt L; have := sub_lt L; omega⟩ (j 0) (j 1) := by
  show (Rect.unit (s := S32x20x96) (k2_off1 L) S1x20x96.size (k2_off1_inb L)).emb (Shape.reshapeEquiv squeezes_S1x20x96_S20x96.numel_eq j) = _
  rw [Shape.reshapeEquiv_eq_of_rowMajor squeezes_S1x20x96_S20x96.numel_eq (y := ix3 0 (j 0) (j 1)) (by
    rw [Shape.rowMajor_val_two, Shape.rowMajor_val_three]; simp)]
  have e := k2_off1_eq L
  refine funext fun a => Fin.ext ?_
  match a with
  | ⟨0, _⟩ => show k2_off1 L 0 + 1 * 0 = _; rw [e]; simp
  | ⟨1, _⟩ => show k2_off1 L 1 + 1 * (j 0).val = _; rw [e]; simp
  | ⟨2, _⟩ => show k2_off1 L 2 + 1 * (j 1).val = _; rw [e]; simp

theorem gRowK_emb (j : S80x32.Idx) : (gRowK L).view.emb j
    = ix2 ⟨160 * (L 1).val + 80 * (L 0).val + (j 0).val, by have := core_lt L; have := sub_lt L; have := idx2_lt0 j; omega⟩ (j 1) := by
  have e := k2_off2_eq L
  refine funext fun a => Fin.ext ?_
  match a with
  | ⟨0, _⟩ => show k2_off2 L 0 + 1 * (j 0).val = _; rw [e]; simp
  | ⟨1, _⟩ => show k2_off2 L 1 + 1 * (j 1).val = _; rw [e]; simp

theorem yRowK_emb (j : S80x256.Idx) : (yRowK L).view.emb j
    = ix2 ⟨160 * (L 1).val + 80 * (L 0).val + (j 0).val, by have := core_lt L; have := sub_lt L; have := idx2_lt0 j; omega⟩ (j 1) := by
  have e := k2_off74_eq L
  refine funext fun a => Fin.ext ?_
  match a with
  | ⟨0, _⟩ => show k2_off74 L 0 + 1 * (j 0).val = _; rw [e]; simp
  | ⟨1, _⟩ => show k2_off74 L 1 + 1 * (j 1).val = _; rw [e]; simp

theorem land_n (fn pay : S20x96.Idx → BitVec 32) (N : S32x20x96.Idx → BitVec 32) (h : pay = (nRowK L).view.read (Elt F) N) :
    View.write (Elt F) nS.view fn pay Finset.univ = nrOf L N := by
  subst h
  rw [View.write_whole_univ]
  refine funext fun j => ?_
  show N ((nRowK L).view.emb j) = _
  rw [nRowK_emb]; rfl

theorem land_g (fg pay : S80x32.Idx → F .f32) (G : S2560x32.Idx → F .f32) (h : pay = (gRowK L).view.read (Elt F) G) :
    View.write (Elt F) gS.view fg pay Finset.univ = fwOf L G := by
  subst h
  rw [View.write_whole_univ]
  refine funext fun j => ?_
  show G ((gRowK L).view.emb j) = _
  rw [gRowK_emb]; rfl

theorem land_a (fa pay A : S256.Idx → F .f32) (h : pay = aV.view.read (Elt F) A) : View.write (Elt F) aS.view fa pay Finset.univ = A := by
  subst h
  rw [View.write_whole_univ]; rfl

/-- What the tile's last copy leaves in its rows of the result. -/
theorem land_y (tab : S16896x2x128.Idx → F .f32) (N : S32x20x96.Idx → BitVec 32) (G : S2560x32.Idx → F .f32) (A : S256.Idx → F .f32)
    (fo : S2560x256.Idx → F .f32) (fy pay : S80x256.Idx → F .f32) (hp : pay = yS.view.read (Elt F) fy) (hfy : Done tab (nrOf L N) (fwOf L G) A 80 fy) :
    ∀ i ∈ (yRowK L).view.set, (yRowK L).view.writes (Elt F) fo [⟨Rect.whole S80x256, pay⟩] i = bagOut tab N G A i := by
  intro i hi
  obtain ⟨j, -, rfl⟩ := Finset.mem_map.1 hi
  have hw : (Rect.whole S80x256).emb j = j := funext fun a => Fin.ext (show 0 + 1 * (j a).val = (j a).val by omega)
  refine ((cast_eq _ _).symm.trans (View.read_apply _ _).symm).trans
    ((View.read_writes_cons_hit (Val := Elt F) (yRowK L).view fo (Rect.whole S80x256) pay [] j j hw).trans ?_)
  subst hp
  show fy j = _
  have hj := idx2_lt0 j
  have h0 := core_lt L; have h1 := sub_lt L
  rw [hfy j hj, yRowK_emb]
  unfold tileRow bagOut
  refine bag_congr rfl (fun _ => rfl) (fun k => ?_) 24 le_rfl
  unfold nrOf
  have e1 : (160 * (L 1).val + 80 * (L 0).val + (j 0).val) / 80 = 2 * (L 1).val + (L 0).val := by omega
  have e2 : (160 * (L 1).val + 80 * (L 0).val + (j 0).val) % 80 = (j 0).val := by omega
  congr 2
  refine funext fun a => Fin.ext ?_
  match a with
  | ⟨0, _⟩ => exact e1.symm
  | ⟨1, _⟩ => show (j 0).val / 4 = (160 * (L 1).val + 80 * (L 0).val + (j 0).val) % 80 / 4; rw [e2]
  | ⟨2, _⟩ => show 24 * ((j 0).val % 4) + k.val = 24 * ((160 * (L 1).val + 80 * (L 0).val + (j 0).val) % 80 % 4) + k.val; rw [e2]

/-! ## The two slots are the gathered rows -/

abbrev slotSet (so : Fin 4 → ℕ) (is : ∀ a, so a + S1x96x2x128.size a ≤ S2x96x2x128.size a) : Finset S2x96x2x128.Idx :=
  rS.view.setOn (Rect.unit (s := S2x96x2x128) so S1x96x2x128.size is).set

theorem mem_slotSet (so : Fin 4 → ℕ) (is : ∀ a, so a + S1x96x2x128.size a ≤ S2x96x2x128.size a) (s : Fin 2) (hso : so = ![s.val, 0, 0, 0])
    (y : S2x96x2x128.Idx) : y ∈ slotSet so is ↔ y 0 = s := by
  subst hso
  rw [show slotSet ![s.val, 0, 0, 0] is = (Rect.unit (s := S2x96x2x128) ![s.val, 0, 0, 0] S1x96x2x128.size is).set from Finset.map_refl, Rect.mem_set_unit]
  constructor
  · intro h
    have h0 := h 0
    refine Fin.ext ?_
    have a1 : s.val ≤ (y 0).val := h0.1
    have a2 : (y 0).val < s.val + 1 := h0.2
    omega
  · intro h a
    match a with
    | ⟨0, _⟩ => show s.val ≤ (y 0).val ∧ (y 0).val < s.val + 1; rw [h]; omega
    | ⟨1, _⟩ => exact ⟨Nat.zero_le _, (by have := (y 1).isLt; show (y 1).val < 0 + 96; exact (Nat.zero_add 96).symm ▸ this)⟩
    | ⟨2, _⟩ => exact ⟨Nat.zero_le _, (by have := (y 2).isLt; show (y 2).val < 0 + 2; exact (Nat.zero_add 2).symm ▸ this)⟩
    | ⟨3, _⟩ => exact ⟨Nat.zero_le _, (by have := (y 3).isLt; show (y 3).val < 0 + 128; exact (Nat.zero_add 128).symm ▸ this)⟩

abbrev slot0 : Finset S2x96x2x128.Idx := slotSet ![0, 0, 0, 0] inb_S2x96x2x128_S1x96x2x128_0_0_0_0
abbrev slot1 : Finset S2x96x2x128.Idx := slotSet ![1, 0, 0, 0] inb_S2x96x2x128_S1x96x2x128_1_0_0_0

theorem mem_slot0 (y : S2x96x2x128.Idx) : y ∈ slot0 ↔ (y 0).val = 0 :=
  (mem_slotSet ![0, 0, 0, 0] _ 0 rfl y).trans ⟨fun h => congrArg Fin.val h, fun h => Fin.ext h⟩
theorem mem_slot1 (y : S2x96x2x128.Idx) : y ∈ slot1 ↔ (y 0).val = 1 :=
  (mem_slotSet ![1, 0, 0, 0] _ 1 rfl y).trans ⟨fun h => congrArg Fin.val h, fun h => Fin.ext h⟩

theorem slot_rest : Finset.univ \ slot0 = slot1 := by
  ext y
  rw [Finset.mem_sdiff, mem_slot0, mem_slot1]
  have h : (y 0).val < 2 := (y 0).isLt
  constructor
  · rintro ⟨-, h0⟩; omega
  · intro h1; exact ⟨Finset.mem_univ _, by omega⟩

/-- The rows of slot 0 from `f`, those of slot 1 from `g`. -/
def mix (f g : S2x96x2x128.Idx → F .f32) : S2x96x2x128.Idx → F .f32 := fun y => if (y 0).val = 0 then f y else g y

theorem rows_split (f : S2x96x2x128.Idx → F .f32) :
    (rS.view.loc (th d L) ↦{fullShare} f) ⊢ (iprop((rS.view.loc (th d L) ↦[slot0]{fullShare} f) ∗ (rS.view.loc (th d L) ↦[slot1]{fullShare} f)) : sProp 𝕄) := by
  refine (pointsTo_split_subset (Finset.subset_univ slot0)).1.trans ?_
  exact Entails.of_eq (by rw [show (Finset.univ : Finset S2x96x2x128.Idx) \ slot0 = slot1 from slot_rest])

theorem rows_join (f g : S2x96x2x128.Idx → F .f32) :
    iprop((rS.view.loc (th d L) ↦[slot0]{fullShare} f) ∗ (rS.view.loc (th d L) ↦[slot1]{fullShare} g)) ⊢ (iprop(∃ h, rS.view.loc (th d L) ↦{fullShare} h) : sProp 𝕄) := by
  have e0 : (rS.view.loc (th d L) ↦[slot0]{fullShare} f : sProp 𝕄) = (rS.view.loc (th d L) ↦[slot0]{fullShare} mix f g) :=
    pointsTo_congr fun i hi => (if_pos ((mem_slot0 i).1 hi)).symm
  have e1 : (rS.view.loc (th d L) ↦[slot1]{fullShare} g : sProp 𝕄) = (rS.view.loc (th d L) ↦[slot1]{fullShare} mix f g) :=
    pointsTo_congr fun i hi => (if_neg (fun h => absurd (((mem_slot1 i).1 hi).symm.trans h) (by decide))).symm
  rw [e0, e1, ← slot_rest]
  iintro H
  iexists _
  iapply ((pointsTo_split_subset (Finset.subset_univ slot0)).2)
  iexact H

/-! ## The tile's own semaphores and buffers -/

abbrev cell (d : Dev nD) (L : grid2.Coords) (s : DmaSem sig) : GSem nD τ sig := (th d L, .dma s)

theorem mem_cell (s : DmaSem sig) (h : (SemLoc.dma s : SemLoc sig).isScoped .scVector = true) : cell d L s ∈ ownCells (th d L) := mem_ownCells.mpr ⟨rfl, h⟩

theorem mem_less {α : Type} [DecidableEq α] {x y : α} {A : Finset α} (h : x ≠ y) (hx : x ∈ A) : x ∈ A.erase y := Finset.mem_erase.mpr ⟨h, hx⟩

theorem cell_ne {s t : DmaSem sig} (h : (SemLoc.dma s : SemLoc sig) ≠ .dma t) : cell d L s ≠ cell d L t := fun e => h (Prod.mk.inj e).2

/-- The tile's semaphores other than the kernel's six. -/
def cellsRest : Finset (GSem nD τ sig) :=
  ((((((ownCells (th d L)).erase (cell d L cc2_scratch5.sem)).erase (cell d L cc2_scratch6.sem)).erase (cell d L cc2_scoped0.sem)).erase
    (cell d L cc2_scoped1.sem)).erase (cell d L cc2_scoped2.sem)).erase (cell d L cc2_scoped3.sem)

theorem ownSems0_V : (ownSems0 (th d L) : sProp 𝕄)
    = iprop(semVal (cell d L cc2_scratch5.sem) 0 ∗ semVal (cell d L cc2_scratch6.sem) 0 ∗ semVal (cell d L cc2_scoped0.sem) 0
        ∗ semVal (cell d L cc2_scoped1.sem) 0 ∗ semVal (cell d L cc2_scoped2.sem) 0 ∗ semVal (cell d L cc2_scoped3.sem) 0
        ∗ bigSep (cellsRest d L) fun g => semVal g 0) := by
  unfold SparseCore.Cfg.ownSems0 cellsRest
  rw [SparseCore.bigSep_erase' (mem_cell d L cc2_scratch5.sem (by decide)),
    SparseCore.bigSep_erase' (mem_less (cell_ne d L (by decide)) (mem_cell d L cc2_scratch6.sem (by decide))),
    SparseCore.bigSep_erase' (mem_less (cell_ne d L (by decide)) (mem_less (cell_ne d L (by decide)) (mem_cell d L cc2_scoped0.sem (by decide)))),
    SparseCore.bigSep_erase' (mem_less (cell_ne d L (by decide)) (mem_less (cell_ne d L (by decide)) (mem_less (cell_ne d L (by decide))
      (mem_cell d L cc2_scoped1.sem (by decide))))),
    SparseCore.bigSep_erase' (mem_less (cell_ne d L (by decide)) (mem_less (cell_ne d L (by decide)) (mem_less (cell_ne d L (by decide))
      (mem_less (cell_ne d L (by decide)) (mem_cell d L cc2_scoped2.sem (by decide)))))),
    SparseCore.bigSep_erase' (mem_less (cell_ne d L (by decide)) (mem_less (cell_ne d L (by decide)) (mem_less (cell_ne d L (by decide))
      (mem_less (cell_ne d L (by decide)) (mem_less (cell_ne d L (by decide)) (mem_cell d L cc2_scoped3.sem (by decide)))))))]

abbrev bufOf (L : grid2.Coords) (b : Ref sig .scVector) : DevRef τ sig := (Proc.scVector (cV L) (jV L)).devRef b

theorem buf_ne {a b : Ref sig .scVector} (h : a ≠ b) : bufOf L a ≠ bufOf L b := fun e => h (Proc.devRef_injective _ e)

/-- The tile's buffers other than the kernel's five. -/
def bufsRest : Finset (DevRef τ sig) :=
  (((((ownRefs (τ := τ) (.scVector (cV L) (jV L))).erase (bufOf L cc2_scratch0)).erase (bufOf L cc2_scratch1)).erase (bufOf L cc2_scratch2)).erase
    (bufOf L cc2_scratch3)).erase (bufOf L cc2_scratch4)

theorem ownBufs_V : (ownBufs (th d L) : sProp 𝕄)
    = iprop((∃ f, nS.view.loc (th d L) ↦{fullShare} f) ∗ (∃ f, rS.view.loc (th d L) ↦{fullShare} f) ∗ (∃ f, gS.view.loc (th d L) ↦{fullShare} f)
        ∗ (∃ f, yS.view.loc (th d L) ↦{fullShare} f) ∗ (∃ f, aS.view.loc (th d L) ↦{fullShare} f)
        ∗ bigSep (bufsRest L) fun b => iprop(∃ f, ((d, b) : Loc nD τ sig) ↦{fullShare} f)) := by
  have hm : ∀ b : Ref sig .scVector, (bufOf L b).owner = Owner.proc (Proc.scVector (cV L) (jV L)) → bufOf L b ∈ ownRefs (τ := τ) (.scVector (cV L) (jV L)) :=
    fun b h => SparseCore.Cfg.mem_ownRefs_of_owner (p := Proc.scVector (cV L) (jV L)) h
  unfold SparseCore.Cfg.ownBufs bufsRest
  refine (SparseCore.bigSep_erase' (hm cc2_scratch0 rfl)).trans ?_
  rw [SparseCore.bigSep_erase' (mem_less (buf_ne L (by decide)) (hm cc2_scratch1 rfl)),
    SparseCore.bigSep_erase' (mem_less (buf_ne L (by decide)) (mem_less (buf_ne L (by decide)) (hm cc2_scratch2 rfl))),
    SparseCore.bigSep_erase' (mem_less (buf_ne L (by decide)) (mem_less (buf_ne L (by decide)) (mem_less (buf_ne L (by decide)) (hm cc2_scratch3 rfl)))),
    SparseCore.bigSep_erase' (mem_less (buf_ne L (by decide)) (mem_less (buf_ne L (by decide)) (mem_less (buf_ne L (by decide))
      (mem_less (buf_ne L (by decide)) (hm cc2_scratch4 rfl)))))]

/-! ## The task -/

variable (tab : S16896x2x128.Idx → F .f32) (N : S32x20x96.Idx → BitVec 32) (G : S2560x32.Idx → F .f32) (A : S256.Idx → F .f32)

/-- What a tile works from: shares of the table, the row numbers, the weights and the bias, and its rows of the result. -/
abbrev Tok (q : PosShare TreeShare) (fo : S2560x256.Idx → F .f32) : sProp 𝕄 :=
  iprop((tV.view.loc (th d L) ↦{q} tab) ∗ (nV.view.loc (th d L) ↦{q} N) ∗ (gV.view.loc (th d L) ↦{q} G) ∗ (aV.view.loc (th d L) ↦{q} A)
    ∗ ((yRowK L).view.loc (th d L) ↦[(yRowK L).view.set]{fullShare} fo))

theorem halves {ℓ : Loc nD τ sig} {q : PosShare TreeShare} {f : Buf (Elt F) ℓ} :
    (ℓ ↦{q} f : sProp 𝕄) ⊢ iprop((ℓ ↦{q.left} f) ∗ (ℓ ↦{q.right} f)) := (pointsTo_share (PosShare.mem_left_op_right q)).1
theorem unhalve {ℓ : Loc nD τ sig} {q : PosShare TreeShare} {f : Buf (Elt F) ℓ} :
    iprop((ℓ ↦{q.left} f) ∗ (ℓ ↦{q.right} f)) ⊢ (ℓ ↦{q} f : sProp 𝕄) := (pointsTo_share (PosShare.mem_left_op_right q)).2

end Tile

end Cert.Proof.KernelIdeal
-- ==== Proof.KernelIdeal.Task.lean ====
/-
  The tile's task, run: the bias, its row numbers and its weights fetched, both slots' first gathers issued, the ten
  trips, its eighty result rows written out.
-/
module

public import proofs.«01_k».proof.Proof.KernelIdeal.Body

@[expose] public section

noncomputable section

namespace Cert.Proof.KernelIdeal

open Cert.KernelIdeal Cert.KernelIdeal.Gen
open Idealize.ShloMosaic
open Idealize.ShloMosaic.ValueIdx (ix1 ix2 ix3 ix4 eq_ix1 eq_ix2 eq_ix3 eq_ix4 idx2_lt0 idx2_lt1)
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (SparseCore.Cfg.HIx 1) (Elt F) ℕ UU ℕ

section Tile
variable (d : Dev nD) (L : grid2.Coords)
variable (tab : S16896x2x128.Idx → F .f32) (N : S32x20x96.Idx → BitVec 32) (G : S2560x32.Idx → F .f32) (A : S256.Idx → F .f32)

set_option maxHeartbeats 8000000 in
set_option maxRecDepth 65536 in
/-- The task of the tile at `L`: its rows of the result at the bag's values, all else handed back. -/
theorem tile_body (hin : ∀ j, (N j).toNat < 16896) (q : PosShare TreeShare) (fo : S2560x256.Idx → F .f32)
    (O : CellTallies nD τ sig (HIx 1)) (W : Waits sig (HIx 1)) (hO : ∀ g, O g none = 0) :
    iprop(levAts (K (F := F)).L (K (F := F)).lev ∗ emp ∗ Tok d L tab N G A q fo
        ∗ scopedBufs (th d L) ∗ scopedSems0 (th d L) ∗ owes (th d L) O W)
      ⊢ (wp frame (wpE (defs₀ (F := F)) 𝒱₀ (th d L) none) Set.univ
          (cc2__sc_bag_body L tV (Memref.isWhole_whole _) nV (Memref.isWhole_whole _) gV (Memref.isWhole_whole _) aV (Memref.isWhole_whole _)
            yV (Memref.isWhole_whole _) nS (Memref.isWhole_whole _) rS (Memref.isWhole_whole _) gS (Memref.isWhole_whole _)
            yS (Memref.isWhole_whole _) aS (Memref.isWhole_whole _) cc2_scratch5 cc2_scratch6 cc2_scoped0 cc2_scoped1 cc2_scoped2 cc2_scoped3)
          fun _ => iprop(Tok d L tab N G A q (bagOut tab N G A) ∗ scopedBufs (th d L) ∗ scopedSems0 (th d L)
            ∗ ∃ W', ⌜∀ p ∈ W', p ∈ W ∨ p.2 = none⌝ ∗ owes (th d L) O W') : sProp 𝕄) := by
  simp only [cc2__sc_bag_body_eq_skeleton]; unfold cc2__sc_bag_body_skel
  rw [(K (F := F)).scopedBufs_V facts d (cV L) (jV L), SparseCore.Cfg.scopedSems0_V (Val := Elt F) d (cV L) (jV L), ownSems0_V, ownBufs_V]
  iintro ⟨#Hlv, -, ⟨Ht, HN, HG, HA, Ho⟩, ⟨⟨%fn, Hn⟩, ⟨%fr, Hr⟩, ⟨%fg, Hg⟩, ⟨%fy, Hy⟩, ⟨%fa, Ha⟩, Hbufs⟩, ⟨Hs5, Hs6, Hc0, Hc1, Hc2, Hc3, Hsems⟩, HO⟩
  ihave #Hmw := (show levAts (K (F := F)).L (K (F := F)).lev ⊢ Transfers.MayWaits (th d L) (default : HIx 1) O from
    (K (F := F)).mayWaits_none (thr := th d L) hO) $$ Hlv
  sl_exec
  ihave Hn := (Entails.of_eq (congrArg (fun f => (nS.view.loc (th d L) ↦{fullShare} f : sProp 𝕄)) (land_n (F := F) L fn (tile_body.sl.dma0_1 L N) N rfl))) $$ Hn
  ihave Hg := (Entails.of_eq (congrArg (fun f => (gS.view.loc (th d L) ↦{fullShare} f : sProp 𝕄)) (land_g (F := F) L fg (tile_body.sl.dma0_2 L G) G rfl))) $$ Hg
  ihave Ha := (Entails.of_eq (congrArg (fun f => (aS.view.loc (th d L) ↦{fullShare} f : sProp 𝕄)) (land_a (F := F) fa (tile_body.sl.dma0 A) A rfl))) $$ Ha
  ihave ⟨Ht0, Ht1⟩ := halves $$ Ht
  ihave ⟨Hn0, Hn1⟩ := halves $$ Hn
  ihave ⟨Hr0, Hr1⟩ := (rows_split d L fr) $$ Hr
  have hin' : ∀ j, (nrOf L N j).toNat < 16896 := fun j => hin _
  iapply (wp_gather d L tab (nrOf L N) hin' q.left fullShare.left ![0, 0, 0, 0] inb_S2x96x2x128_S1x96x2x128_0_0_0_0 0 rfl
    ![0, 0] inb_S20x96_S1x96_0_0 ⟨2 * 0 + (0 : Fin 2).val, by decide⟩ rfl fr cc2_scratch5.sem) $$ [Ht0 Hr0 Hn0 Hs5]
  · iframe Ht0 Hr0 Hn0 Hs5
  iintro Hf0
  sl_exec
  iapply (wp_gather d L tab (nrOf L N) hin' q.right fullShare.right ![1, 0, 0, 0] inb_S2x96x2x128_S1x96x2x128_1_0_0_0 1 rfl
    ![1, 0] inb_S20x96_S1x96_1_0 ⟨2 * 0 + (1 : Fin 2).val, by decide⟩ rfl fr cc2_scratch6.sem) $$ [Ht1 Hr1 Hn1 Hs6]
  · iframe Ht1 Hr1 Hn1 Hs6
  iintro Hf1
  sl_exec
  sl_for (fun k (_ : Unit) => Out d L tab (nrOf L N) (fwOf L G) A q fullShare O W k) $$ [Hg Ha Hy Hf0 Hf1 HO]
  · intro k1 _
    exact out_step d L tab (nrOf L N) (fwOf L G) A hin' q fullShare O W k1
  · isplitr; · iexact Hmw
    isplitl [Hg]; · iexact Hg
    isplitl [Ha]; · iexact Ha
    isplitl [Hy]
    · iexists fy
      isplitr
      · ipureintro; exact fun y hy => absurd hy (Nat.not_lt_zero _)
      · iexact Hy
    isplitl [Hf0]
    · iapply (Entails.of_eq (slotSt_flight d L tab (nrOf L N) _ _ _ _ 0 _ 0 (by omega)).symm)
      iexact Hf0
    isplitl [Hf1]
    · iapply (Entails.of_eq (slotSt_flight d L tab (nrOf L N) _ _ _ _ 1 _ 0 (by omega)).symm)
      iexact Hf1
    iexists _
    isplitr
    swap; · iexact HO
    ipureintro
    intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iintro %_ ⟨-, Hg, Ha, ⟨%fy', %hfy', Hy⟩, Hf0, Hf1, %W', %hW', HO⟩
  ihave ⟨⟨%f0, Hr0⟩, Ht0, Hn0, Hs5⟩ := (Entails.of_eq (slotSt_last d L tab (nrOf L N) _ _ _ _ 0 _ _ (show ¬ k2_t1_loop.trips < 10 by decide))) $$ Hf0
  ihave ⟨⟨%f1, Hr1⟩, Ht1, Hn1, Hs6⟩ := (Entails.of_eq (slotSt_last d L tab (nrOf L N) _ _ _ _ 1 _ _ (show ¬ k2_t1_loop.trips < 10 by decide))) $$ Hf1
  ihave Hr := (rows_join d L f0 f1) $$ [Hr0 Hr1]
  · iframe Hr0 Hr1
  ihave Ht := unhalve $$ [Ht0 Ht1]
  · iframe Ht0 Ht1
  ihave Hn := unhalve $$ [Hn0 Hn1]
  · iframe Hn0 Hn1
  sl_exec
  sl_step
  isplitl [Ht HN HG HA Ho]
  · isplitl [Ht]; · iexact Ht
    isplitl [HN]; · iexact HN
    isplitl [HG]; · iexact HG
    isplitl [HA]; · iexact HA
    iapply (Entails.of_eq (pointsTo_congr (land_y L tab N G A fo fy' (tile_body.sl.dma0_3 fy') rfl hfy')))
    iexact Ho
  isplitl [Hn Hr Hg Hy Ha Hbufs]
  · isplitl [Hn]; · iexists _; iexact Hn
    isplitl [Hr]; · iexact Hr
    isplitl [Hg]; · iexists _; iexact Hg
    isplitl [Hy]; · iexists _; iexact Hy
    isplitl [Ha]; · iexists _; iexact Ha
    iexact Hbufs
  isplitl [Hs5 Hs6 Hc0 Hc1 Hc2 Hc3 Hsems]
  · isplitl [Hs5]; · iexact Hs5
    isplitl [Hs6]; · iexact Hs6
    isplitl [Hc0]; · iexact Hc0
    isplitl [Hc1]; · iexact Hc1
    isplitl [Hc2]; · iexact Hc2
    isplitl [Hc3]; · iexact Hc3
    iexact Hsems
  iexists _; isplitr
  swap; · iexact HO
  ipureintro; intro p hp
  rcases Finset.mem_insert.mp hp with hp | hp; · exact .inr (hp ▸ rfl)
  exact hW' p hp

end Tile

end Cert.Proof.KernelIdeal
-- ==== Proof.KernelIdeal.Share.lean ====
/-
  The bag call's launch: shares of the table, the row numbers, the weights and the bias to the thirty-two tiles, the result
  in blocks of eighty rows.
-/
module

public import proofs.«01_k».proof.Proof.KernelIdeal.Task

@[expose] public section

noncomputable section

namespace Cert.Proof.KernelIdeal

open Cert.KernelIdeal Cert.KernelIdeal.Gen
open Idealize.ShloMosaic
open Idealize.ShloMosaic.ValueIdx (ix1 ix2 ix3 ix4 eq_ix1 eq_ix2 eq_ix3 eq_ix4 idx2_lt0 idx2_lt1)
open Idealize.ShloMosaic.SparseCore (S V T)
open Idealize.ShloMosaic.SparseCore.Cfg (HIx Pay)
open Idealize.ShloMosaic.StableHlo (held wp_hlo_within launchContents)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (SparseCore.Cfg.HIx 1) (Elt F) ℕ UU ℕ

/-! ## Equal shares -/

/-- Share `i` of the `2 ^ n` that `q` halves into: its lowest bit says which half. -/
def part : (n : ℕ) → PosShare TreeShare → ℕ → PosShare TreeShare
  | 0, q, _ => q
  | n + 1, q, i => if i % 2 = 0 then part n q.left (i / 2) else part n q.right (i / 2)

/-- The numbers below `2 ^ (n + 1)` by their lowest bit. -/
def bitEquiv (n : ℕ) : Fin (2 ^ n) ⊕ Fin (2 ^ n) ≃ Fin (2 ^ (n + 1)) where
  toFun := Sum.elim (fun i => ⟨2 * i.val, by omega⟩) (fun i => ⟨2 * i.val + 1, by omega⟩)
  invFun i := if i.val % 2 = 0 then .inl ⟨i.val / 2, by omega⟩ else .inr ⟨i.val / 2, by omega⟩
  left_inv i := by
    rcases i with i | i
    · exact (if_pos (by show 2 * i.val % 2 = 0; omega)).trans (congrArg Sum.inl (Fin.ext (by show 2 * i.val / 2 = i.val; omega)))
    · exact (if_neg (by show ¬ (2 * i.val + 1) % 2 = 0; omega)).trans (congrArg Sum.inr (Fin.ext (by show (2 * i.val + 1) / 2 = i.val; omega)))
  right_inv i := by
    by_cases h : i.val % 2 = 0
    · exact (congrArg (Sum.elim _ _) (if_pos h)).trans (Fin.ext (by show 2 * (i.val / 2) = i.val; omega))
    · exact (congrArg (Sum.elim _ _) (if_neg h)).trans (Fin.ext (by show 2 * (i.val / 2) + 1 = i.val; omega))

omit [FloatOps F] in
/-- Elements at a share are the same elements at each of its equal parts. -/
theorem pointsTo_parts {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{part n q i.val} f
  | 0, q => (bigSep_univ_of_subsingleton (0 : Fin 1) (Φ := fun i : Fin (2 ^ 0) => (ℓ ↦[I]{part 0 q i.val} f : sProp 𝕄))).symm
  | n + 1, q => by
    have hs : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    rw [hs, pointsTo_parts I f n q.left, pointsTo_parts I f n q.right,
      bigSep_univ_equiv (bitEquiv n) (fun i : Fin (2 ^ (n + 1)) => (ℓ ↦[I]{part (n + 1) q i.val} f : sProp 𝕄)), bigSep_univ_sum]
    congr 1 <;> refine bigSep_congr fun i _ => ?_
    · show _ = (ℓ ↦[I]{part (n + 1) q (2 * i.val)} f : sProp 𝕄)
      rw [part, if_pos (by omega), show 2 * i.val / 2 = i.val by omega]
    · show _ = (ℓ ↦[I]{part (n + 1) q (2 * i.val + 1)} f : sProp 𝕄)
      rw [part, if_neg (by omega), show (2 * i.val + 1) / 2 = i.val by omega]

abbrev qCore (c : Fin 2) : PosShare TreeShare := part 1 fullShare c.val
abbrev qTile (c : Fin 2) (i : Fin 16) : PosShare TreeShare := part 4 (qCore c) i.val

/-! ## The blocks of the result -/

/-- Tile `(c, i)` as grid coordinates. -/
def coordsV (c : Fin (grid2.bound 0)) (s : Fin (grid2.bound 1)) : grid2.Coords :=
  fun | 0 => c | 1 => s | ⟨_ + 2, h⟩ => absurd h (Nat.not_lt.2 (Nat.le_add_left _ _))

abbrev at_ (c : Fin 2) (i : Fin 16) : grid2.Coords := coordsV c i

/-- The rows of the result that tile `(c, i)` writes. -/
abbrev rowsOf (c : Fin 2) (i : Fin 16) : Finset S2560x256.Idx := (yRowK (at_ c i)).view.set

theorem mem_rowsOf (c : Fin 2) (i : Fin 16) (y : S2560x256.Idx) : y ∈ rowsOf c i ↔ (y 0).val / 80 = 2 * i.val + c.val := by
  have e : k2_off74 (at_ c i) = ![160 * i.val + 80 * c.val, 0] := k2_off74_eq (at_ c i)
  have h1 := idx2_lt1 y
  rw [show rowsOf c i = (Rect.unit (s := S2560x256) (k2_off74 (at_ c i)) S80x256.size (k2_off74_inb (at_ c i))).set from
    (View.set_slice ..).trans Finset.map_refl, Rect.mem_set_unit]
  constructor
  · intro h
    have h0 := h 0
    rw [e] at h0
    have a1 : 160 * i.val + 80 * c.val ≤ (y 0).val := h0.1
    have a2 : (y 0).val < 160 * i.val + 80 * c.val + 80 := h0.2
    omega
  · intro h a
    rw [e]
    match a with
    | ⟨0, _⟩ => show 160 * i.val + 80 * c.val ≤ (y 0).val ∧ (y 0).val < 160 * i.val + 80 * c.val + 80; omega
    | ⟨1, _⟩ => show 0 ≤ (y 1).val ∧ (y 1).val < 0 + 256; omega

/-- The rows of the result that SparseCore `c` writes. -/
def coreRows (c : Fin 2) : Finset S2560x256.Idx := Finset.univ.biUnion (rowsOf c)

theorem rowsOf_disjoint (c : Fin 2) : ∀ i ∈ (Finset.univ : Finset (Fin 16)), ∀ j ∈ (Finset.univ : Finset (Fin 16)), i ≠ j → Disjoint (rowsOf c i) (rowsOf c j) := by
  intro i _ j _ h
  refine Finset.disjoint_left.2 fun y hi hj => h (Fin.ext ?_)
  have a := (mem_rowsOf c i y).1 hi
  have b := (mem_rowsOf c j y).1 hj
  omega

theorem mem_coreRows (c : Fin 2) (y : S2560x256.Idx) : y ∈ coreRows c ↔ (y 0).val / 80 % 2 = c.val := by
  have h0 := idx2_lt0 y
  unfold coreRows
  rw [Finset.mem_biUnion]
  constructor
  · rintro ⟨i, -, hi⟩
    have := (mem_rowsOf c i y).1 hi
    omega
  · intro h
    exact ⟨⟨(y 0).val / 80 / 2, by omega⟩, Finset.mem_univ _, (mem_rowsOf c _ y).2 (by simp only; omega)⟩

theorem coreRows_disjoint : ∀ c ∈ (Finset.univ : Finset (Fin 2)), ∀ c' ∈ (Finset.univ : Finset (Fin 2)), c ≠ c' → Disjoint (coreRows c) (coreRows c') := by
  intro c _ c' _ h
  refine Finset.disjoint_left.2 fun y hi hj => h (Fin.ext ?_)
  exact ((mem_coreRows c y).1 hi).symm.trans ((mem_coreRows c' y).1 hj)

theorem coreRows_cover : (Finset.univ : Finset (Fin 2)).biUnion coreRows = Finset.univ := by
  refine Finset.eq_univ_of_forall fun y => Finset.mem_biUnion.2 ⟨⟨(y 0).val / 80 % 2, by omega⟩, Finset.mem_univ _, (mem_coreRows _ y).2 rfl⟩

/-! ## What the handshakes carry -/

variable (Y : Dev nD → Valuation τ sig (Elt F))

abbrev loc (d : Dev nD) (b : Ref sig .tc) : Loc nD τ sig := (SparseCore.T d).loc b

/-- The table, the row numbers, the weights and the bias as the call is given them, and its result. -/
def tabM (d : Dev nD) : S16896x2x128.Idx → F .f32 := Y d (Proc.devRef .tc main_v16)
def numM (d : Dev nD) : S32x20x96.Idx → BitVec 32 := Y d (Proc.devRef .tc main_v17)
def wM (d : Dev nD) : S2560x32.Idx → F .f32 := Y d (Proc.devRef .tc main_v14_1)
def biasM (d : Dev nD) : S256.Idx → F .f32 := Y d (Proc.devRef .tc main_v18)
def outM (d : Dev nD) : S2560x256.Idx → F .f32 := bagOut (tabM Y d) (numM Y d) (wM Y d) (biasM Y d)

theorem nCore_zero : (K (F := F)).nCore 0 = 2 := rfl
theorem nSub_zero : (K (F := F)).nSub 0 = 16 := rfl

/-- What SparseCore `c` is given, and gives back, with its rows of the result at `fo`. -/
abbrev CorePts (d : Dev nD) (c : Fin 2) (fo : S2560x256.Idx → F .f32) : sProp 𝕄 :=
  iprop((loc d main_v16 ↦{qCore c} tabM Y d) ∗ (loc d main_v17 ↦{qCore c} numM Y d) ∗ (loc d main_v14_1 ↦{qCore c} wM Y d)
    ∗ (loc d main_v18 ↦{qCore c} biasM Y d) ∗ (loc d main_v19 ↦[coreRows c]{fullShare} fo))

/-- What tile `(c, i)` is given, and gives back, with its rows of the result at `fo`. -/
abbrev TilePts (d : Dev nD) (c : Fin 2) (i : Fin 16) (fo : S2560x256.Idx → F .f32) : sProp 𝕄 :=
  iprop((loc d main_v16 ↦{qTile c i} tabM Y d) ∗ (loc d main_v17 ↦{qTile c i} numM Y d) ∗ (loc d main_v14_1 ↦{qTile c i} wM Y d)
    ∗ (loc d main_v18 ↦{qTile c i} biasM Y d) ∗ (loc d main_v19 ↦[rowsOf c i]{fullShare} fo))

def P : (K (F := F)).Pay (nD := nD) (Val := Elt F) (Name := ℕ) (U := UU) where
  st := fun q d c => match q with | 0 => CorePts Y d (Fin.cast nCore_zero c) (Y d (Proc.devRef .tc main_v19))
  dn := fun q d c => match q with | 0 => CorePts Y d (Fin.cast nCore_zero c) (outM Y d)
  go := fun q d c i => match q with | 0 => TilePts Y d (Fin.cast nCore_zero c) (Fin.cast nSub_zero i) (Y d (Proc.devRef .tc main_v19))
  td := fun q d c i => match q with | 0 => TilePts Y d (Fin.cast nCore_zero c) (Fin.cast nSub_zero i) (outM Y d)
  x := fun _ _ => iprop(emp)

instance P_storable : (P (F := F) Y).IsStorable where
  st q d c := match q with
    | 0 => (inferInstance : BI.Storable (upEmb : UEmb _ 𝕄) (CorePts Y d (Fin.cast nCore_zero c) (Y d (Proc.devRef .tc main_v19))))
  dn q d c := match q with
    | 0 => (inferInstance : BI.Storable (upEmb : UEmb _ 𝕄) (CorePts Y d (Fin.cast nCore_zero c) (outM Y d)))
  go q d c i := match q with
    | 0 => (inferInstance : BI.Storable (upEmb : UEmb _ 𝕄) (TilePts Y d (Fin.cast nCore_zero c) (Fin.cast nSub_zero i) (Y d (Proc.devRef .tc main_v19))))
  td q d c i := match q with
    | 0 => (inferInstance : BI.Storable (upEmb : UEmb _ 𝕄) (TilePts Y d (Fin.cast nCore_zero c) (Fin.cast nSub_zero i) (outM Y d)))

/-- Every row number names a row of the table. -/
def PreOK : Prop := ∀ (d : Dev nD) (j : S32x20x96.Idx), (numM Y d j).toNat < 16896

/-! ## The tiles' obligation -/

theorem defs₀_vector (c : Fin τ.nSC) (s : Fin τ.nSub) :
    defs₀ (F := F) (.scVector c s) 2 ()
      = SparseCore.onTile hcore2 hsub2 (fun c s => cc2__sc_bag_body (coordsV c s)
          tV (Memref.isWhole_whole _) nV (Memref.isWhole_whole _) gV (Memref.isWhole_whole _) aV (Memref.isWhole_whole _)
          yV (Memref.isWhole_whole _) nS (Memref.isWhole_whole _) rS (Memref.isWhole_whole _) gS (Memref.isWhole_whole _)
          yS (Memref.isWhole_whole _) aS (Memref.isWhole_whole _) cc2_scratch5 cc2_scratch6 cc2_scoped0 cc2_scoped1 cc2_scoped2 cc2_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK Y) : (K (F := F)).TileObl (D (F := F)) 𝒱 (P Y) v₀ 0 := by
  intro d c i O W hO _ _
  simp only [show (P Y).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tabM Y d) (numM Y d) (wM Y d) (biasM Y d) (fun j => hpre d _)
    (qTile (Fin.cast nCore_zero c) (Fin.cast nSub_zero i)) (Y d (Proc.devRef .tc main_v19)) O W hO).trans (wp_mono frame _ _ fun _ => obl_post)

/-! ## The splits -/

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part is its tiles'. -/
theorem core_tiles (d : Dev nD) (c : Fin 2) (fo : S2560x256.Idx → F .f32) :
    (CorePts Y d c fo : sProp 𝕄) = bigSep Finset.univ fun i : Fin 16 => TilePts Y d c i fo := by
  have ey : (loc d main_v19 ↦[coreRows c]{fullShare} fo : sProp 𝕄) = bigSep Finset.univ fun i : Fin 16 => loc d main_v19 ↦[rowsOf c i]{fullShare} fo :=
    pointsTo_biUnion Finset.univ (ℓ := loc d main_v19) (rowsOf c) (rowsOf_disjoint c)
  unfold CorePts TilePts
  rw [bigSep_sep', bigSep_sep', bigSep_sep', bigSep_sep', ey,
    pointsTo_parts Finset.univ (ℓ := loc d main_v16) (tabM Y d) 4 (qCore c), pointsTo_parts Finset.univ (ℓ := loc d main_v17) (numM Y d) 4 (qCore c),
    pointsTo_parts Finset.univ (ℓ := loc d main_v14_1) (wM Y d) 4 (qCore c), pointsTo_parts Finset.univ (ℓ := loc d main_v18) (biasM Y d) 4 (qCore c)]
  rfl

/-- The whole arrays are the two SparseCores' parts. -/
theorem whole_cores (d : Dev nD) (fo : S2560x256.Idx → F .f32) :
    (iprop((loc d main_v16 ↦{fullShare} tabM Y d) ∗ (loc d main_v17 ↦{fullShare} numM Y d) ∗ (loc d main_v14_1 ↦{fullShare} wM Y d)
      ∗ (loc d main_v18 ↦{fullShare} biasM Y d) ∗ (loc d main_v19 ↦{fullShare} fo)) : sProp 𝕄) = bigSep Finset.univ fun c : Fin 2 => CorePts Y d c fo := by
  have ey : (loc d main_v19 ↦{fullShare} fo : sProp 𝕄) = bigSep Finset.univ fun c : Fin 2 => loc d main_v19 ↦[coreRows c]{fullShare} fo := by
    rw [← pointsTo_biUnion Finset.univ (ℓ := loc d main_v19) coreRows coreRows_disjoint, coreRows_cover]
  unfold CorePts
  rw [bigSep_sep', bigSep_sep', bigSep_sep', bigSep_sep', ey,
    pointsTo_parts Finset.univ (ℓ := loc d main_v16) (tabM Y d) 1 fullShare, pointsTo_parts Finset.univ (ℓ := loc d main_v17) (numM Y d) 1 fullShare,
    pointsTo_parts Finset.univ (ℓ := loc d main_v14_1) (wM Y d) 1 fullShare, pointsTo_parts Finset.univ (ℓ := loc d main_v18) (biasM Y d) 1 fullShare]
  rfl

theorem vecSplit : (K (F := F)).VecSplit' (P Y) 0 := by
  intro d c
  show CorePts Y d (Fin.cast nCore_zero c) (Y d (Proc.devRef .tc main_v19)) ⊢ |={Set.univ}=> iprop(
      (bigSep Finset.univ fun i : Fin ((K (F := F)).nSub 0) => TilePts Y d (Fin.cast nCore_zero c) (Fin.cast nSub_zero i) (Y d (Proc.devRef .tc main_v19)))
      ∗ ((bigSep Finset.univ fun i : Fin ((K (F := F)).nSub 0) => TilePts Y d (Fin.cast nCore_zero c) (Fin.cast nSub_zero i) (outM Y d))
          -∗ CorePts Y d (Fin.cast nCore_zero c) (outM Y d)))
  rw [bigSep_tiles (F := F) (fun i => TilePts Y d (Fin.cast nCore_zero c) i (Y d (Proc.devRef .tc main_v19))),
    bigSep_tiles (F := F) (fun i => TilePts Y d (Fin.cast nCore_zero c) i (outM Y d)), core_tiles, core_tiles]
  iintro H; imodintro
  isplitl [H]; · iexact H
  iintro H
  iexact H

end Cert.Proof.KernelIdeal
-- ==== Proof.KernelIdeal.Prep.lean ====
/-
  The first kernel: the row numbers, the weights, the folded projection and the folded bias it leaves, as functions of
  what its windows hold; its body run from those.
-/
module

public import Idealize.ShloMosaic.Lib.VecWindow
public import proofs.«01_k».proof.Proof.KernelIdeal.Setup
public import proofs.«01_k».proof.Proof.Gen.KernelIdeal.Launch
public import proofs.«01_k».proof.Proof.Gen.KernelIdeal.Points

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (SparseCore.Cfg.HIx 1) (Elt F) ℕ UU ℕ

/-! ## The values -/

/-- The softmax over a query's 192 logits. -/
def softOf (q : FVec F S2560x256 .f32) (w : FVec F S256x192 .f32) (b : FVec F S1x192 .f32) : FVec F S2560x192 .f32 :=
  have l : FVec F S2560x192 .f32 := addf
    (matmul dot_S2560x256_S256x192_S2560x192_1_0_0_1_n_n none (shapeCast S2560x256 q shapeCasts_S2560x256_S2560x256) w (constant S2560x192 .f32 0x00000000#32))
    (broadcastTo S2560x192 (shapeCast S1x192 b shapeCasts_S1x192_S1x192) broadcasts_S1x192_S2560x192)
  have e : FVec F S2560x192 .f32 := exp (subf l (broadcastTo S2560x192
    (shapeCast S2560x1 (multiReduction .maximumf [1] S2560 l 0xFF800000#32 reduces_S2560x192_S2560 (.inl rfl) rfl) shapeCasts_S2560_S2560x1) broadcasts_S2560x1_S2560x192))
  divf e (broadcastTo S2560x192
    (shapeCast S2560x1 (multiReduction .add [1] S2560 e 0x00000000#32 reduces_S2560x192_S2560 (.inl rfl) rfl) shapeCasts_S2560_S2560x1) broadcasts_S2560x1_S2560x192)

/-- The sum along a row, as a column. -/
def rowSum (v : FVec F S2560x32 .f32) : FVec F S2560x1 .f32 :=
  shapeCast S2560x1 (multiReduction .add [1] S2560 v 0x00000000#32 reduces_S2560x32_S2560 (.inl rfl) rfl) shapeCasts_S2560_S2560x1

/-- A query's six camera weights: each the sum of the camera's 32 softmax values. -/
def camOf (p : FVec F S2560x192 .f32) : FVec F S2560x6 .f32 :=
  concatenate S2560x6 1 [⟨S2560x1, rowSum (extractStridedSlice S2560x32 ![0, 0] p slices_S2560x192_o0_0_S2560x32)⟩,
    ⟨S2560x1, rowSum (extractStridedSlice S2560x32 ![0, 32] p slices_S2560x192_o0_32_S2560x32)⟩,
    ⟨S2560x1, rowSum (extractStridedSlice S2560x32 ![0, 64] p slices_S2560x192_o0_64_S2560x32)⟩,
    ⟨S2560x1, rowSum (extractStridedSlice S2560x32 ![0, 96] p slices_S2560x192_o0_96_S2560x32)⟩,
    ⟨S2560x1, rowSum (extractStridedSlice S2560x32 ![0, 128] p slices_S2560x192_o0_128_S2560x32)⟩,
    ⟨S2560x1, rowSum (extractStridedSlice S2560x32 ![0, 160] p slices_S2560x192_o0_160_S2560x32)⟩]
    concatenates_S2560x1_S2560x1_S2560x1_S2560x1_S2560x1_S2560x1_S2560x6_d1

/-- A float word at every index. -/
abbrev all6 (b : BitVec 32) : FVec F S2560x6 .f32 := broadcast S2560x6 (Scalar.ofBits .f32 b)

/-- A coordinate in cells: `k` halves the width. -/
def posOf (k : BitVec 32) (r : FVec F S2560x6 .f32) : FVec F S2560x6 .f32 :=
  mulf (addf (shapeCast S2560x6 r shapeCasts_S2560x6_S2560x6) (all6 0x3F800000#32)) (all6 k)

/-- The cell of a coordinate, clipped to `0 … hi`. -/
def cellOf (hi : BitVec 32) (x : FVec F S2560x6 .f32) : IVec S2560x6 32 :=
  minsi (broadcast S2560x6 hi) (maxsi (broadcast S2560x6 0#32) (fptosi 32 (floor x)))

/-- The row of the table at a query's lower-left corner. -/
def baseOf (x y : FVec F S2560x6 .f32) : IVec S2560x6 32 :=
  addi (addi (muli (iota .tc S2560x6 32 [1] iota_S2560x6_d1_w32) (broadcast S2560x6 2816#32)) (muli (cellOf 30#32 y) (broadcast S2560x6 88#32))) (cellOf 86#32 x)

/-- The four corners' rows. -/
def idxOf (b : IVec S2560x6 32) : IVec S2560x24 32 :=
  concatenate S2560x24 1 [⟨S2560x6, b⟩, ⟨S2560x6, addi b (broadcast S2560x6 1#32)⟩, ⟨S2560x6, addi b (broadcast S2560x6 88#32)⟩,
    ⟨S2560x6, addi (addi b (broadcast S2560x6 88#32)) (broadcast S2560x6 1#32)⟩] concatenates_S2560x6_S2560x6_S2560x6_S2560x6_S2560x24_d1

/-- The fraction of a coordinate, and one less it. -/
def fracOf (x : FVec F S2560x6 .f32) : FVec F S2560x6 .f32 := subf x (floor x)
def restOf (x : FVec F S2560x6 .f32) : FVec F S2560x6 .f32 := subf (all6 0x3F800000#32) (fracOf x)

/-- The four corners' weights, and eight zeros. -/
def wgtOf (x y c : FVec F S2560x6 .f32) : FVec F S2560x32 .f32 :=
  concatenate S2560x32 1 [⟨S2560x6, mulf (mulf (restOf x) (restOf y)) c⟩, ⟨S2560x6, mulf (mulf (fracOf x) (restOf y)) c⟩,
    ⟨S2560x6, mulf (mulf (restOf x) (fracOf y)) c⟩, ⟨S2560x6, mulf (mulf (fracOf x) (fracOf y)) c⟩,
    ⟨S2560x8, broadcast S2560x8 (Scalar.ofBits .f32 0x00000000#32)⟩] concatenates_S2560x6_S2560x6_S2560x6_S2560x6_S2560x8_S2560x32_d1

/-- The two projections as one. -/
def foldOf (v o : FVec F S256x256 .f32) : FVec F S256x256 .f32 :=
  matmul dot_S256x256_S256x256_S256x256_1_0_0_1_n_n none v o (constant S256x256 .f32 0x00000000#32)

/-- The first bias through the second projection, and the second bias. -/
def addOf (b : FVec F S1x256 .f32) (o : FVec F S256x256 .f32) (c : FVec F S1x256 .f32) : FVec F S1x256 .f32 :=
  addf (matmul dot_S1x256_S256x256_S1x256_1_0_0_1_n_n none (shapeCast S1x256 b shapeCasts_S1x256_S1x256) o (constant S1x256 .f32 0x00000000#32))
    (shapeCast S1x256 c shapeCasts_S1x256_S1x256)

/-- The row numbers and the weights, of the windows. -/
def prepIdx (rx ry : FVec F S2560x6 .f32) : IVec S2560x24 32 := idxOf (baseOf (posOf 0x422E0000#32 rx) (posOf 0x41780000#32 ry))
def prepWgt (q : FVec F S2560x256 .f32) (w : FVec F S256x192 .f32) (b : FVec F S1x192 .f32) (rx ry : FVec F S2560x6 .f32) : FVec F S2560x32 .f32 :=
  wgtOf (posOf 0x422E0000#32 rx) (posOf 0x41780000#32 ry) (camOf (softOf q w b))

theorem cam_pay (q : FVec F S2560x256 .f32) (w : FVec F S256x192 .f32) (b : FVec F S1x192 .f32) : k0_pay5 q w b = camOf (softOf q w b) := by
  unfold k0_pay5 camOf softOf rowSum; rfl
theorem x_pay (r : FVec F S2560x6 .f32) : k0_pay8 (k0_pay6 r) k0_pay7 = posOf 0x422E0000#32 r := by
  unfold k0_pay8 k0_pay6 k0_pay7 posOf; rfl
theorem y_pay (r : FVec F S2560x6 .f32) : k0_pay9 r = posOf 0x41780000#32 r := by unfold k0_pay9 posOf; rfl
theorem fx_pay (r : FVec F S2560x6 .f32) : k0_pay12 (k0_pay6 r) k0_pay7 = fracOf (posOf 0x422E0000#32 r) := by
  unfold k0_pay12 k0_pay10 fracOf; rw [x_pay]
theorem fy_pay (r : FVec F S2560x6 .f32) : k0_pay13 r = fracOf (posOf 0x41780000#32 r) := by unfold k0_pay13 k0_pay11 fracOf; rw [y_pay]
theorem base_pay (rx ry : FVec F S2560x6 .f32) : k0_pay14 (k0_pay6 rx) k0_pay7 ry = baseOf (posOf 0x422E0000#32 rx) (posOf 0x41780000#32 ry) := by
  unfold k0_pay14 k0_pay10 k0_pay11 baseOf cellOf; rw [x_pay, y_pay]
theorem idx_pay (b : IVec S2560x6 32) : k0_pay1 b k0_pay19 = idxOf b := by unfold k0_pay1 k0_pay19 idxOf; rfl
theorem wgt_pay (c rx ry : FVec F S2560x6 .f32) :
    k0_pay2 (k0_pay15 c (k0_pay6 rx) k0_pay7 ry) (k0_pay16 c (k0_pay6 rx) k0_pay7 ry) (k0_pay17 c (k0_pay6 rx) k0_pay7 ry) (k0_pay18 c (k0_pay6 rx) k0_pay7 ry)
      = wgtOf (posOf 0x422E0000#32 rx) (posOf 0x41780000#32 ry) c := by
  unfold k0_pay2 k0_pay15 k0_pay16 k0_pay17 k0_pay18 wgtOf restOf; rw [fx_pay, fy_pay]

/-! ## The body -/

/-- Memref `M`'s buffer on core `c`: its contents, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Memref `M`'s buffer on core `c` held whole, reading as `x`. -/
abbrev reads (c : Dev nD) {sp : Space} {S : Shape} {e : EltTy} (M : Memref sig .tc sp S e) (x : S.Idx → Elt F e) : sProp 𝕄 :=
  iprop(∃ f : Bf (F := F) c M, ⌜M.view.read (Elt F) f = x⌝ ∗ pt c M f)

theorem prep_run (c : Dev nD) (x0 : FVec F S2560x256 .f32) (x1 : FVec F S256x192 .f32) (x2 : FVec F S1x192 .f32) (x3 x4 : FVec F S2560x6 .f32)
    (x5 : FVec F S256x256 .f32) (x6 : FVec F S1x256 .f32) (x7 : FVec F S256x256 .f32) (x8 : FVec F S1x256 .f32)
    (g9 : Bf (F := F) c (stage0_9 0)) (g10 : Bf (F := F) c (stage0_10 0))
    (g11 : Bf (F := F) c (stage0_11 0)) (g12 : Bf (F := F) c (stage0_12 0)) (E : Set ℕ) (Q : PUnit → sProp 𝕄) :
    iprop(reads c (stage0_0 0) x0 ∗ reads c (stage0_1 0) x1 ∗ reads c (stage0_2 0) x2 ∗ reads c (stage0_3 0) x3 ∗ reads c (stage0_4 0) x4
        ∗ reads c (stage0_5 0) x5 ∗ reads c (stage0_6 0) x6 ∗ reads c (stage0_7 0) x7 ∗ reads c (stage0_8 0) x8 ∗ pt c (stage0_9 0) g9
        ∗ pt c (stage0_10 0) g10 ∗ pt c (stage0_11 0) g11 ∗ pt c (stage0_12 0) g12
        ∗ (iprop(reads c (stage0_0 0) x0 ∗ reads c (stage0_1 0) x1 ∗ reads c (stage0_2 0) x2 ∗ reads c (stage0_3 0) x3 ∗ reads c (stage0_4 0) x4
          ∗ reads c (stage0_5 0) x5 ∗ reads c (stage0_6 0) x6 ∗ reads c (stage0_7 0) x7 ∗ reads c (stage0_8 0) x8 ∗ reads c (stage0_9 0) (prepIdx x3 x4)
          ∗ reads c (stage0_10 0) (prepWgt x0 x1 x2 x3 x4) ∗ reads c (stage0_11 0) (foldOf x5 x7) ∗ reads c (stage0_12 0) (addOf x6 x7 x8)) -∗ Q ⟨⟩))
      ⊢ wp frame (wpE (defs₀ (F := F)) Variants.none c none) E
          (cc0__prep_body (stage0_0 0) (hstage0_0 0) (stage0_1 0) (hstage0_1 0) (stage0_2 0) (hstage0_2 0) (stage0_3 0) (hstage0_3 0)
            (stage0_4 0) (hstage0_4 0) (stage0_5 0) (hstage0_5 0) (stage0_6 0) (hstage0_6 0) (stage0_7 0) (hstage0_7 0) (stage0_8 0) (hstage0_8 0)
            (stage0_9 0) (hstage0_9 0) (stage0_10 0) (hstage0_10 0) (stage0_11 0) (hstage0_11 0) (stage0_12 0) (hstage0_12 0)) Q := by
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩,
    ⟨%f8, %h8, H8⟩, H9, H10, H11, H12, Hk⟩
  sl_exec!
  sl_step
  iapply Hk
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  isplitl [H8]; · iexists f8; isplitr; · ipureintro; exact h8
                  iexact H8
  have l0 : (stage0_0 0).view.readAt (Elt F) (Rect.unit ![0, 0] S2560x256.size inb_S2560x256_S2560x256_0_0).toLoadRect f0 = x0 := (View.readAt_full ..).trans h0
  have l1 : (stage0_1 0).view.readAt (Elt F) (Rect.unit ![0, 0] S256x192.size inb_S256x192_S256x192_0_0).toLoadRect f1 = x1 := (View.readAt_full ..).trans h1
  have l2 : (stage0_2 0).view.readAt (Elt F) (Rect.unit ![0, 0] S1x192.size inb_S1x192_S1x192_0_0).toLoadRect f2 = x2 := (View.readAt_full ..).trans h2
  have l3 : (stage0_3 0).view.readAt (Elt F) (Rect.unit ![0, 0] S2560x6.size inb_S2560x6_S2560x6_0_0).toLoadRect f3 = x3 := (View.readAt_full ..).trans h3
  have l4 : (stage0_4 0).view.readAt (Elt F) (Rect.unit ![0, 0] S2560x6.size inb_S2560x6_S2560x6_0_0).toLoadRect f4 = x4 := (View.readAt_full ..).trans h4
  have r0 : prep_run.sl.r c f0 f1 f2 = k0_pay5 x0 x1 x2 := (congrFun (congrArg₂ k0_pay5 l0 l1) _).trans (congrArg _ l2)
  have r1 : prep_run.sl.r_1 c f3 = k0_pay6 x3 := congrArg k0_pay6 l3
  have r2 : prep_run.sl.r_2 c f3 f4 = k0_pay14 (k0_pay6 x3) k0_pay7 x4 := congrArg₂ (fun a b => k0_pay14 a k0_pay7 b) r1 l4
  have r3 : prep_run.sl.r_3 c f0 f1 f2 f3 f4 = k0_pay15 (k0_pay5 x0 x1 x2) (k0_pay6 x3) k0_pay7 x4 :=
    (congrFun (congrArg₂ (fun a b => k0_pay15 a b k0_pay7) r0 r1) _).trans (congrArg _ l4)
  have r4 : prep_run.sl.r_4 c f0 f1 f2 f3 f4 = k0_pay16 (k0_pay5 x0 x1 x2) (k0_pay6 x3) k0_pay7 x4 :=
    (congrFun (congrArg₂ (fun a b => k0_pay16 a b k0_pay7) r0 r1) _).trans (congrArg _ l4)
  have r5 : prep_run.sl.r_5 c f0 f1 f2 f3 f4 = k0_pay17 (k0_pay5 x0 x1 x2) (k0_pay6 x3) k0_pay7 x4 :=
    (congrFun (congrArg₂ (fun a b => k0_pay17 a b k0_pay7) r0 r1) _).trans (congrArg _ l4)
  have r6 : prep_run.sl.r_6 c f0 f1 f2 f3 f4 = k0_pay18 (k0_pay5 x0 x1 x2) (k0_pay6 x3) k0_pay7 x4 :=
    (congrFun (congrArg₂ (fun a b => k0_pay18 a b k0_pay7) r0 r1) _).trans (congrArg _ l4)
  isplitl [H9]
  · iexists _; isplitr; swap; · iexact H9
    ipureintro
    delta prep_run.sl.H9_1; rw [View.read_writes_full]
    rw [r2, base_pay, idx_pay]; rfl
  isplitl [H10]
  · iexists _; isplitr; swap; · iexact H10
    ipureintro
    delta prep_run.sl.H10_1; rw [View.read_writes_full]
    rw [r3, r4, r5, r6, wgt_pay, cam_pay]; rfl
  isplitl [H11]
  · iexists _; isplitr; swap; · iexact H11
    ipureintro
    delta prep_run.sl.H11_1; rw [View.read_writes_full, View.readAt_full, View.readAt_full, h5, h7]
    rfl
  iexists _; isplitr; swap; · iexact H12
  ipureintro
  delta prep_run.sl.H12_1; rw [View.read_writes_full, View.readAt_full, View.readAt_full, View.readAt_full, h6, h7, h8]
  rfl

end Cert.Proof.KernelIdeal
-- ==== Proof.KernelIdeal.Project.lean ====
/-
  The second kernel: one camera's image through the folded projection; its body run from its three windows.
-/
module

public import proofs.«01_k».proof.Proof.KernelIdeal.Prep

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (SparseCore.Cfg.HIx 1) (Elt F) ℕ UU ℕ

/-- A camera's image through a projection of its channels. -/
def projOf (v : FVec F S1x256x2816 .f32) (w : FVec F S256x256 .f32) : FVec F S1x2816x256 .f32 :=
  shapeCast S1x2816x256 (matmul dot_S256x2816_S256x256_S2816x256_0_0_1_1_n_n none (shapeCast S256x2816 v shapeCasts_S1x256x2816_S256x2816)
    (shapeCast S256x256 w shapeCasts_S256x256_S256x256) (constant S2816x256 .f32 0x00000000#32)) shapeCasts_S2816x256_S1x2816x256

theorem project_run (c : Dev nD) (i : grid1.Coords) (M0 : Memref sig .tc .vmem S1x256x2816 .f32) (h0 : M0.IsWhole)
    (M1 : Memref sig .tc .vmem S256x256 .f32) (h1 : M1.IsWhole) (M2 : Memref sig .tc .vmem S1x2816x256 .f32) (h2 : M2.IsWhole)
    (x0 : FVec F S1x256x2816 .f32) (x1 : FVec F S256x256 .f32) (g2 : Bf (F := F) c M2) (E : Set ℕ) (Q : PUnit → sProp 𝕄) :
    iprop(reads c M0 x0 ∗ reads c M1 x1 ∗ pt c M2 g2 ∗ (iprop(reads c M0 x0 ∗ reads c M1 x1 ∗ reads c M2 (projOf x0 x1)) -∗ Q ⟨⟩))
      ⊢ wp frame (wpE (defs₀ (F := F)) Variants.none c none) E (cc1__project_body i M0 h0 M1 h1 M2 h2) Q := by
  iintro ⟨⟨%f0, %e0, H0⟩, ⟨%f1, %e1, H1⟩, H2, Hk⟩
  sl_exec!
  sl_step
  iapply Hk
  isplitl [H0]; · iexists f0; isplitr; · ipureintro; exact e0
                  iexact H0
  isplitl [H1]; · iexists f1; isplitr; · ipureintro; exact e1
                  iexact H1
  iexists _; isplitr; swap; · iexact H2
  ipureintro
  delta project_run.sl.H2_1; rw [View.read_writes_full, View.readAt_full, View.readAt_full, e0, e1]
  rfl

end Cert.Proof.KernelIdeal
-- ==== Proof.KernelIdeal.Region.lean ====
/-
  The two windowed kernels as regions of the launching program: what each window's buffer holds at each point, the bodies'
  obligations, and each region over the arrays at any contents.
-/
module

public import Idealize.ShloMosaic.Lib.Pipeline.Regions
public import Idealize.ShloMosaic.Lib.Pipeline.FrameTail
public import Idealize.ShloMosaic.Lib.Pipeline.FrameBody
public import Idealize.ShloMosaic.Lib.Pipeline.RegionArraysS
public import Idealize.ShloMosaic.Lib.Pipeline.Value
public import proofs.«01_k».proof.Proof.KernelIdeal.Project

@[expose] public section

noncomputable section

namespace Cert.Proof.KernelIdeal

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (Dat Cfg Window BodyObligation afterRegion)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (SparseCore.Cfg.HIx 1) (Elt F) ℕ UU ℕ

variable (W : Dev nD → Valuation τ sig (Elt F))

/-! ## What the windows hold -/

/-- The first kernel's window `w`, read off the arrays. -/
abbrev in0 (c : Dev nD) (w : Fin cfg0.W) : ((cfg0.win w).xblock (cfg0.grid.coords t0_0)).Idx → Elt F (cfg0.win w).elt :=
  ((cfg0.win w).blk t0_0).view.read (Elt F) (W c (Proc.devRef .tc (Pipeline.arrRef spec0 w)))

/-- The second kernel's window `w` at point `t`, read off the arrays. -/
abbrev in1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The pairs a wait may have recorded before the bag call. -/
abbrev early (c : Dev nD) : Set (SemLoc sig × HIx 1) := {p | (K (F := F)).lev (T c, p.1) p.2 ≤ 0}

/-- Every pipeline's admissible start. -/
abbrev adm (p : Fin 2) : (pcfgs (F := F) p).Adm := (cfgs p).toPCfg_adm

/-- The first kernel's data, from the arrays at `W c`. -/
def dat0 (c : Dev nD) : Dat τ (Elt F) (HIx 1) ℕ UU ℕ cfg0 c where
  A w := W c (Proc.devRef .tc (Pipeline.arrRef spec0 w))
  after w _ := match w with
    | ⟨0, _⟩ => in0 W c 0
    | ⟨1, _⟩ => in0 W c 1
    | ⟨2, _⟩ => in0 W c 2
    | ⟨3, _⟩ => in0 W c 3
    | ⟨4, _⟩ => in0 W c 4
    | ⟨5, _⟩ => in0 W c 5
    | ⟨6, _⟩ => in0 W c 6
    | ⟨7, _⟩ => in0 W c 7
    | ⟨8, _⟩ => in0 W c 8
    | ⟨9, _⟩ => prepIdx (in0 W c 3) (in0 W c 4)
    | ⟨10, _⟩ => prepWgt (in0 W c 0) (in0 W c 1) (in0 W c 2) (in0 W c 3) (in0 W c 4)
    | ⟨11, _⟩ => foldOf (in0 W c 5) (in0 W c 7)
    | ⟨12, _⟩ => addOf (in0 W c 6) (in0 W c 7) (in0 W c 8)
  Φ _ := Pipeline.scopedRest (Pipeline.pin (pcfgs (F := F)) adm ⟨0, by decide⟩).spec c
  q _ := fullShare
  owed _ := (K (F := F)).Otc c 0
  recorded _ := early (F := F) c

/-- The second kernel's data. -/
def dat1 (c : Dev nD) : Dat τ (Elt F) (HIx 1) ℕ UU ℕ cfg1 c where
  A w := W c (Proc.devRef .tc (Pipeline.arrRef spec1 w))
  after w t := match w with
    | ⟨0, _⟩ => in1 W c 0 t
    | ⟨1, _⟩ => in1 W c 1 t
    | ⟨2, _⟩ => projOf (in1 W c 0 t) (in1 W c 1 t)
  Φ _ := Pipeline.scopedRest (Pipeline.pin (pcfgs (F := F)) adm ⟨1, by decide⟩).spec c
  q _ := fullShare
  owed _ := (K (F := F)).Otc c 0
  recorded _ := early (F := F) c

/-- Both kernels' data, from the arrays at `W c`. -/
def pdats : (p : Fin 2) → (c : Dev nD) → Dat τ (Elt F) (HIx 1) ℕ UU ℕ (Pipeline.pin (pcfgs (F := F)) adm p) c
  | ⟨0, _⟩ => dat0 W
  | ⟨1, _⟩ => dat1 W

/-! ## The bodies -/

/-- A whole buffer read at `x` is owned at `x`. -/
theorem owns_reads (c : Dev nD) {sp : Space} {S : Shape} {e : EltTy} (M : Memref sig .tc sp S e) (h : M.view.set = Finset.univ) (x : S.Idx → Elt F e) :
    (owns (c : Thread nD τ) M fullShare x : sProp 𝕄) = reads c M x := by
  unfold owns; rw [h]

theorem held0 (c : Dev nD) (w : Fin cfg0.W) (t : Fin cfg0.N) (d : (cfg0.win w).block.Idx → Elt F (cfg0.win w).elt) (h : (cfg0.win w).fetch t = true) :
    (dat0 W c).before w t d = (dat0 W c).fetched w t d := by
  unfold Dat.before; rw [if_pos h]

set_option maxRecDepth 65536 in
set_option maxHeartbeats 2000000 in
theorem body0 (c : Dev nD) : BodyObligation (dat0 W c) (defs₀ (F := F)) 𝒱₀ none Set.univ := fun t => by
  obtain rfl := fin_N0 t
  rw [bigSep_W0, bigSep_W0]
  rw [show (dat0 W c).Φ t0_0.succ = (dat0 W c).Φ t0_0.castSucc from rfl,
    show (dat0 W c).owesAt none t0_0.succ = (dat0 W c).owesAt none t0_0.castSucc from rfl]
  simp only [owns, Memref.view_whole, View.set_whole]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, -, H9⟩, ⟨%d10, %f10, -, H10⟩, ⟨%d11, %f11, -, H11⟩, ⟨%d12, %f12, -, H12⟩⟩
  rw [held0 W c _ _ _ (fetch0_0 _)] at h0
  rw [held0 W c _ _ _ (fetch0_1 _)] at h1
  rw [held0 W c _ _ _ (fetch0_2 _)] at h2
  rw [held0 W c _ _ _ (fetch0_3 _)] at h3
  rw [held0 W c _ _ _ (fetch0_4 _)] at h4
  rw [held0 W c _ _ _ (fetch0_5 _)] at h5
  rw [held0 W c _ _ _ (fetch0_6 _)] at h6
  rw [held0 W c _ _ _ (fetch0_7 _)] at h7
  rw [held0 W c _ _ _ (fetch0_8 _)] at h8
  iapply (prep_run (F := F) c (in0 W c 0) (in0 W c 1) (in0 W c 2) (in0 W c 3) (in0 W c 4) (in0 W c 5) (in0 W c 6) (in0 W c 7) (in0 W c 8) f9 f10 f11 f12 Set.univ _)
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  isplitl [H8]; · iexists f8; isplitr; · ipureintro; exact h8
                  iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxRecDepth 65536 in
theorem body1 (c : Dev nD) : BodyObligation (dat1 W c) (defs₀ (F := F)) 𝒱₀ none Set.univ := fun t => by
  have u0 := (hstage1_0 ((cfg1.slots t 0).cast nbuf1_0)).set_eq_univ
  have u1 := (hstage1_1 ((cfg1.slots t 1).cast nbuf1_1)).set_eq_univ
  have u2 := (hstage1_2 ((cfg1.slots t 2).cast nbuf1_2)).set_eq_univ
  rw [bigSep_W1, bigSep_W1]
  rw [show (dat1 W c).Φ t.succ = (dat1 W c).Φ t.castSucc from rfl,
    show (dat1 W c).owesAt none t.succ = (dat1 W c).owesAt none t.castSucc from rfl]
  have o0 : ∀ x, (owns (c : Thread nD τ) ((cfg1.win 0).stage (cfg1.slots t 0)) fullShare x : sProp 𝕄) = reads c (win1_0.stage (cfg1.slots t 0)) x := owns_reads c _ u0
  have o1 : ∀ x, (owns (c : Thread nD τ) ((cfg1.win 1).stage (cfg1.slots t 1)) fullShare x : sProp 𝕄) = reads c (win1_1.stage (cfg1.slots t 1)) x := owns_reads c _ u1
  have o2 : ∀ x, (owns (c : Thread nD τ) ((cfg1.win 2).stage (cfg1.slots t 2)) fullShare x : sProp 𝕄) = reads c (win1_2.stage (cfg1.slots t 2)) x := owns_reads c _ u2
  simp only [o0, o1, o2]
  iintro ⟨HΦ, Howes, ⟨%d0, H0⟩, ⟨%d1, H1⟩, ⟨%d2, %f2, -, H2⟩⟩
  rw [Dat.before_in_eq_fetched (dat1 W c) 0 rfl (fun _ => rfl) (fun _ _ _ => rfl) (fun _ => rfl) t d0]
  rw [Dat.before_in_eq_fetched (dat1 W c) 1 rfl (fun _ => rfl) (fun _ _ _ => rfl) (fun _ => rfl) t d1]
  iapply (project_run (F := F) c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2)) (in1 W c 0 t) (in1 W c 1 t) f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

end Cert.Proof.KernelIdeal
-- ==== Proof.KernelIdeal.Call.lean ====
/-
  The two windowed kernels' calls from the launching program: each region over the arrays at any contents, and its call run.
-/
module

public import Idealize.ShloMosaic.Lib.Pipeline.Regions
public import Idealize.ShloMosaic.Lib.Pipeline.FrameTail
public import Idealize.ShloMosaic.Lib.Pipeline.FrameBody
public import Idealize.ShloMosaic.Lib.Pipeline.RegionArraysS
public import Idealize.ShloMosaic.Lib.Pipeline.Value
public import proofs.«01_k».proof.Proof.KernelIdeal.Region

@[expose] public section

noncomputable section

namespace Cert.Proof.KernelIdeal

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (Dat Cfg Window BodyObligation afterRegion)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (SparseCore.Cfg.HIx 1) (Elt F) ℕ UU ℕ

variable (W : Dev nD → Valuation τ sig (Elt F))

/-! ## Waiting on the windows -/

theorem Otc_none (c : Dev nD) (g : GSem nD τ sig) : (K (F := F)).Otc c 0 g none = 0 := by
  by_contra h
  have := (K (F := F)).lev_of_Otc_pos (Nat.pos_of_ne_zero h)
  revert this
  simp

theorem waits (p : Fin 2) (c : Dev nD) : (levAts (K (F := F)).L (K (F := F)).lev : sProp 𝕄) ⊢ Pipeline.cellsWaits (Pipeline.pin (pcfgs (F := F)) adm) (pdats W) none p c :=
  Pipeline.cellsWaits_intro (Pipeline.pin (pcfgs (F := F)) adm) (pdats W) none p c fun w s t => by
    have e : (pdats W p c).owed t = (K (F := F)).Otc c 0 := match p with | ⟨0, _⟩ => rfl | ⟨1, _⟩ => rfl
    rw [e]
    exact (K (F := F)).mayWait_none _ (Otc_none c)

/-! ## A region over the arrays -/

theorem kit : ∀ p : Fin 2, Pipeline.LaunchFacts (nD := nD) (τ := τ) cfgs p
  | ⟨0, _⟩ => launch0
  | ⟨1, _⟩ => launch1

theorem A_eq : ∀ (p : Fin 2) (c : Dev nD) (w : Fin (Pipeline.pin (pcfgs (F := F)) adm p).W),
    (pdats W p c).A w = W c (Proc.devRef .tc (Pipeline.arrRef (pcfgs (F := F) p).spec w))
  | ⟨0, _⟩, _, _ => rfl
  | ⟨1, _⟩, _, _ => rfl

theorem share_eq : ∀ (p : Fin 2) (c : Dev nD) (w : Fin (Pipeline.pin (pcfgs (F := F)) adm p).W), (pdats W p c).share w = fullShare
  | ⟨0, _⟩, c => (dat0 W c).share_full fun _ => rfl
  | ⟨1, _⟩, c => (dat1 W c).share_full fun _ => rfl

theorem body_ok : ∀ (p : Fin 2) (c : Dev nD), Pipeline.BodyObligationLoose (pdats W p c) (defs₀ (F := F)) 𝒱₀ none Set.univ
  | ⟨0, _⟩, c => (body0 W c).loose
  | ⟨1, _⟩, c => (body1 W c).loose

theorem Φ_eq : ∀ (p : Fin 2) (c : Dev nD) (t : Fin ((Pipeline.pin (pcfgs (F := F)) adm p).N + 1)),
    (pdats W p c).Φ t = Pipeline.scopedRest (Pipeline.pin (pcfgs (F := F)) adm p).spec c
  | ⟨0, _⟩, c, t => by
    show (dat0 W c).Φ t = _
    unfold dat0; dsimp only
  | ⟨1, _⟩, c, t => by
    show (dat1 W c).Φ t = _
    unfold dat1; dsimp only

/-- What the host owes the SparseCores, its waits recorded at the lowest level. -/
abbrev due (c : Dev nD) : sProp 𝕄 :=
  iprop(∃ Wd, ⌜(K (F := F)).WBelow (T c) Wd 0⌝ ∗ owes (T c) ((K (F := F)).Otc c 0) Wd)

theorem owesAt_of_due (p : Fin 2) (c : Dev nD) (t : Fin ((Pipeline.pin (pcfgs (F := F)) adm p).N + 1)) :
    due (F := F) c ⊢ (pdats W p c).owesAt none t := by
  have e : (pdats W p c).owed t = (K (F := F)).Otc c 0 := match p with | ⟨0, _⟩ => rfl | ⟨1, _⟩ => rfl
  have r : (pdats W p c).recorded t = early (F := F) c := match p with | ⟨0, _⟩ => rfl | ⟨1, _⟩ => rfl
  unfold Dat.owesAt Pipeline.owesWithin Dat.bound
  rw [e, r]
  iintro ⟨%Wd, %h, H⟩
  iexists Wd; isplitr
  · ipureintro; exact fun x hx => Or.inl (h x hx)
  iexact H

theorem due_of_owesAt (p : Fin 2) (c : Dev nD) (t : Fin ((Pipeline.pin (pcfgs (F := F)) adm p).N + 1)) :
    (pdats W p c).owesAt none t ⊢ due (F := F) c := by
  have e : (pdats W p c).owed t = (K (F := F)).Otc c 0 := match p with | ⟨0, _⟩ => rfl | ⟨1, _⟩ => rfl
  have r : (pdats W p c).recorded t = early (F := F) c := match p with | ⟨0, _⟩ => rfl | ⟨1, _⟩ => rfl
  unfold Dat.owesAt Pipeline.owesWithin Dat.bound
  rw [e, r]
  iintro ⟨%Wd, %h, H⟩
  iexists Wd; isplitr
  · ipureintro
    intro x hx
    rcases h hx with h | ⟨w, s, rfl⟩
    · exact h
    · exact le_of_eq ((K (F := F)).lev_none _)
  iexact H

set_option backward.isDefEq.respectTransparency.types false in
/-- Kernel `p`'s region: entered with the arrays at `W c`, left with them at what the windows wrote back. -/
def reg (p : Fin 2) : Pipeline.RegionSeg (pcfgs (F := F)) adm (pdats W) none (defs₀ (F := F)) 𝒱₀ (K (F := F)).L (K (F := F)).lev p where
  win := (kit p).win.to₀
  block_pos := (kit p).block_pos
  stage_whole := (kit p).stage_whole
  K := PEmpty
  osem k := k.elim
  ho := Pipeline.OwnSemFacts.none _
  hbody := body_ok W p
  hwaits := waits W p
  pre c := iprop(StableHlo.held (c : Thread nD τ) (Pipeline.ucRefs τ sig) (W c) ∗ due (F := F) c)
  post c := iprop(StableHlo.held (c : Thread nD τ) (Pipeline.ucRefs τ sig) (afterRegion (pdats W p c) (W c)) ∗ due (F := F) c)
  X _ := BI.emp
  Y _ := BI.emp
  Z c := Pipeline.unscopedRest (Ix := HIx 1) (Name := ℕ) (U := UU) (Lvl := ℕ) (pcfgs (F := F) p).spec c (fun b => W c (Proc.devRef .tc b))
  hentry c := by
    rw [Pipeline.ownSems0_none,
      show StableHlo.held (c : Thread nD τ) (Pipeline.ucRefs τ sig) (W c) = unscopedBufs c (fun b => W c (Proc.devRef .tc b)) from
        (Pipeline.unscopedBufs_held (Ix := HIx 1) (Name := ℕ) (U := UU) (Lvl := ℕ) c (W c)).symm]
    have hsplit := Pipeline.arrays_of_unscopedBufs (p := p) (pcfgs (F := F)) adm (pdats W) (kit p).win (kit p).arr_whole c
      (share_eq W p c) (fun b => W c (Proc.devRef .tc b)) (A_eq W p c)
    iintro ⟨⟨Hub, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]; · iapply (owesAt_of_due W p c 0); iexact HO
    isplitr; · iempintro
    iexact Hrest
  hin c := by
    rw [Φ_eq]
    iintro ⟨-, -, Hr⟩; iexact Hr
  hout c := by
    rw [Pipeline.ownSems0_none, Φ_eq]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ)
      (kit p).win (kit p).arr_whole c (pdats W) (share_eq W p c)
      (fun b => W c (Proc.devRef .tc b)) (fun b => afterRegion (pdats W p c) (W c) (Proc.devRef .tc b))
      ((pdats W p c).arrAt · (Pipeline.pin (pcfgs (F := F)) adm p).N)
      (fun w => (Pipeline.afterRegion_arr (pdats W p c) (W c) (kit p).win.arr_inj w).symm)
      (fun b hb => Pipeline.afterRegion_of_not_arr (pdats W p c) (W c) fun w h => hb (h ▸ Finset.mem_image.mpr ⟨w, Finset.mem_univ _, rfl⟩))
    rw [show StableHlo.held (c : Thread nD τ) (Pipeline.ucRefs τ sig) (afterRegion (pdats W p c) (W c))
        = unscopedBufs c (fun b => afterRegion (pdats W p c) (W c) (Proc.devRef .tc b)) from
        (Pipeline.unscopedBufs_held (Ix := HIx 1) (Name := ℕ) (U := UU) (Lvl := ℕ) c (afterRegion (pdats W p c) (W c))).symm]
    iintro ⟨Ha, HO, -, Hrest⟩
    imodintro
    isplitl [Ha Hrest]
    · iapply hjoin; isplitl [Ha] <;> iassumption
    iapply (due_of_owesAt W p c _); iexact HO

/-- The windows' cells are apart. -/
theorem cells_inj : Function.Injective (Pipeline.cellOf (nD := nD) (τ := τ) (Pipeline.pin (pcfgs (F := F)) adm)) := cellOf_inj

/-- What kernel `p`'s windows start from on core `c`. -/
abbrev seedOf (p : Fin 2) (c : Dev nD) : sProp 𝕄 :=
  iprop(Pipeline.cellsGhost (Pipeline.pin (pcfgs (F := F)) adm) (EW (F := F)) p c ∗ Pipeline.toksInit (Pipeline.pin (pcfgs (F := F)) adm) (EW (F := F)) p c)

set_option backward.isDefEq.respectTransparency.types false in
/-- Kernel `p`'s call from the launching program. -/
theorem call_run [∀ e, Nonempty (Elt F e)] (p : Fin 2) (c : Dev nD) (Q : PUnit → sProp 𝕄) :
    iprop(levAts (K (F := F)).L (K (F := F)).lev ∗ seedOf (F := F) p c ∗ boundary (c : Thread nD τ)
        ∗ StableHlo.held (c : Thread nD τ) (Pipeline.ucRefs τ sig) (W c) ∗ due (F := F) c
        ∗ (iprop(boundary (c : Thread nD τ) ∗ StableHlo.held (c : Thread nD τ) (Pipeline.ucRefs τ sig) (afterRegion (pdats W p c) (W c)) ∗ due (F := F) c) -∗ Q ⟨⟩))
      ⊢ wp frame (wpE ((K (F := F)).defs (D (F := F))) 𝒱 (c : Thread nD τ) none) Set.univ
          (Prog.lift (.customCall (SparseCore.inner (Pipeline.entry p)) ())) Q := by
  refine BI.Entails.trans ?_ ((K (F := F)).wp_liftProg (D (F := F)) 𝒱 (c : Thread nD τ) Set.univ none (Prog.lift (.customCall (Pipeline.entry p) ())) Q)
  have h := (Pipeline.RegionSeg.wp (pcfgs (F := F)) adm (pdats W) none cells_inj (EW (F := F)) (defs₀ (F := F)) 𝒱₀ (K (F := F)).L (K (F := F)).lev
    (reg W p) c none (fun _ h => nomatch h) Prog.ret Q)
  refine (fun start => BI.Entails.trans start h : _ → _) ?_
  show iprop(levAts (K (F := F)).L (K (F := F)).lev ∗ seedOf (F := F) p c ∗ boundary (c : Thread nD τ)
        ∗ StableHlo.held (c : Thread nD τ) (Pipeline.ucRefs τ sig) (W c) ∗ due (F := F) c
        ∗ (iprop(boundary (c : Thread nD τ) ∗ StableHlo.held (c : Thread nD τ) (Pipeline.ucRefs τ sig) (afterRegion (pdats W p c) (W c)) ∗ due (F := F) c) -∗ Q ⟨⟩))
      ⊢ (iprop((iprop(boundary (c : Thread nD τ) ∗ (StableHlo.held (c : Thread nD τ) (Pipeline.ucRefs τ sig) (afterRegion (pdats W p c) (W c)) ∗ due (F := F) c))
            -∗ wp frame (wpE (D (F := F)) 𝒱 (c : Thread nD τ) none) Set.univ (Prog.ret PUnit.unit) Q)
          ∗ boundary (c : Thread nD τ) ∗ (StableHlo.held (c : Thread nD τ) (Pipeline.ucRefs τ sig) (W c) ∗ due (F := F) c)
          ∗ levAts (K (F := F)).L (K (F := F)).lev ∗ Pipeline.cellsGhost (Pipeline.pin (pcfgs (F := F)) adm) (EW (F := F)) p c
          ∗ Pipeline.toksInit (Pipeline.pin (pcfgs (F := F)) adm) (EW (F := F)) p c) : sProp 𝕄)
  iintro ⟨HL, ⟨Hg, Ht⟩, Hb, Hh, Hd, Hk⟩
  isplitl [Hk]
  · iintro ⟨Hb, Hh, Hd⟩
    rw [wp_ret]; imodintro
    iapply Hk
    isplitl [Hb]; · iexact Hb
    isplitl [Hh]; · iexact Hh
    iexact Hd
  isplitl [Hb]; · iexact Hb
  isplitl [Hh Hd]
  · isplitl [Hh]; · iexact Hh
    iexact Hd
  isplitl [HL]; · iexact HL
  isplitl [Hg]; · iexact Hg
  iexact Ht

end Cert.Proof.KernelIdeal
-- ==== Proof.KernelIdeal.After.lean ====
/-
  The arrays after the two windowed kernels: the row numbers, the weights, the folded projection and bias, the projected cameras.
-/
module

public import Idealize.ShloMosaic.Lib.Pipeline.ValueKit
public import proofs.«01_k».proof.Proof.KernelIdeal.Call

@[expose] public section

noncomputable section

namespace Cert.Proof.KernelIdeal

open Cert.KernelIdeal Cert.KernelIdeal.Gen
open Idealize.ShloMosaic
open Idealize.ShloMosaic.TcCoe Idealize.ShloMosaic.Tactic
open Idealize.ShloMosaic.SparseCore.Cfg (HIx Pay)
open Idealize.ShloMosaic.Pipeline (Dat Cfg Window BodyObligation afterRegion)

variable {F : FTy → Type} [FloatOps F]
variable (W : Dev nD → Valuation τ sig (Elt F))

/-- The first kernel's blocks start at their arrays' first elements. -/
theorem start0 : ∀ (w : Fin 13) (a : Fin (cfg0.win w).shape.rank), (cfg0.win w).index t0_0 a = 0 := by decide +kernel

theorem in0_0 (c : Dev nD) : in0 W c 0 = W c (Proc.devRef .tc main_v1) :=
  funext fun y => congrArg (W c (Proc.devRef .tc main_v1)) (funext fun a => Fin.ext (Window.rect_emb_val_of_index_zero (cfg0.win 0) t0_0 a (start0 0 a) y))

theorem in0_1 (c : Dev nD) : in0 W c 1 = W c (Proc.devRef .tc main_arg6) :=
  funext fun y => congrArg (W c (Proc.devRef .tc main_arg6)) (funext fun a => Fin.ext (Window.rect_emb_val_of_index_zero (cfg0.win 1) t0_0 a (start0 1 a) y))

theorem in0_2 (c : Dev nD) : in0 W c 2 = W c (Proc.devRef .tc main_v11) :=
  funext fun y => congrArg (W c (Proc.devRef .tc main_v11)) (funext fun a => Fin.ext (Window.rect_emb_val_of_index_zero (cfg0.win 2) t0_0 a (start0 2 a) y))

theorem in0_3 (c : Dev nD) : in0 W c 3 = W c (Proc.devRef .tc main_v6) :=
  funext fun y => congrArg (W c (Proc.devRef .tc main_v6)) (funext fun a => Fin.ext (Window.rect_emb_val_of_index_zero (cfg0.win 3) t0_0 a (start0 3 a) y))

theorem in0_4 (c : Dev nD) : in0 W c 4 = W c (Proc.devRef .tc main_v8) :=
  funext fun y => congrArg (W c (Proc.devRef .tc main_v8)) (funext fun a => Fin.ext (Window.rect_emb_val_of_index_zero (cfg0.win 4) t0_0 a (start0 4 a) y))

theorem in0_5 (c : Dev nD) : in0 W c 5 = W c (Proc.devRef .tc main_arg8) :=
  funext fun y => congrArg (W c (Proc.devRef .tc main_arg8)) (funext fun a => Fin.ext (Window.rect_emb_val_of_index_zero (cfg0.win 5) t0_0 a (start0 5 a) y))

theorem in0_6 (c : Dev nD) : in0 W c 6 = W c (Proc.devRef .tc main_v12) :=
  funext fun y => congrArg (W c (Proc.devRef .tc main_v12)) (funext fun a => Fin.ext (Window.rect_emb_val_of_index_zero (cfg0.win 6) t0_0 a (start0 6 a) y))

theorem in0_7 (c : Dev nD) : in0 W c 7 = W c (Proc.devRef .tc main_arg10) :=
  funext fun y => congrArg (W c (Proc.devRef .tc main_arg10)) (funext fun a => Fin.ext (Window.rect_emb_val_of_index_zero (cfg0.win 7) t0_0 a (start0 7 a) y))

theorem in0_8 (c : Dev nD) : in0 W c 8 = W c (Proc.devRef .tc main_v13) :=
  funext fun y => congrArg (W c (Proc.devRef .tc main_v13)) (funext fun a => Fin.ext (Window.rect_emb_val_of_index_zero (cfg0.win 8) t0_0 a (start0 8 a) y))

/-- The first kernel's four results. -/
theorem after_idx (c : Dev nD) : afterRegion (dat0 W c) (W c) (Proc.devRef .tc main_v14_0) = prepIdx (W c (Proc.devRef .tc main_v6)) (W c (Proc.devRef .tc main_v8)) := by
  rw [← in0_3 W c, ← in0_4 W c]
  exact (Pipeline.afterRegion_arr (dat0 W c) (W c) launch0.win.arr_inj 9).trans
    ((dat0 W c).arrAt_eq_of_after_last 9 t0_0 (by decide +kernel) (prepIdx (in0 W c 3) (in0 W c 4)) fun j => rfl)

theorem after_wgt (c : Dev nD) : afterRegion (dat0 W c) (W c) (Proc.devRef .tc main_v14_1)
    = prepWgt (W c (Proc.devRef .tc main_v1)) (W c (Proc.devRef .tc main_arg6)) (W c (Proc.devRef .tc main_v11)) (W c (Proc.devRef .tc main_v6)) (W c (Proc.devRef .tc main_v8)) := by
  rw [← in0_0 W c, ← in0_1 W c, ← in0_2 W c, ← in0_3 W c, ← in0_4 W c]
  exact (Pipeline.afterRegion_arr (dat0 W c) (W c) launch0.win.arr_inj 10).trans
    ((dat0 W c).arrAt_eq_of_after_last 10 t0_0 (by decide +kernel) (prepWgt (in0 W c 0) (in0 W c 1) (in0 W c 2) (in0 W c 3) (in0 W c 4)) fun j => rfl)

theorem after_fold (c : Dev nD) : afterRegion (dat0 W c) (W c) (Proc.devRef .tc main_v14_2) = foldOf (W c (Proc.devRef .tc main_arg8)) (W c (Proc.devRef .tc main_arg10)) := by
  rw [← in0_5 W c, ← in0_7 W c]
  exact (Pipeline.afterRegion_arr (dat0 W c) (W c) launch0.win.arr_inj 11).trans
    ((dat0 W c).arrAt_eq_of_after_last 11 t0_0 (by decide +kernel) (foldOf (in0 W c 5) (in0 W c 7)) fun j => rfl)

theorem after_add (c : Dev nD) : afterRegion (dat0 W c) (W c) (Proc.devRef .tc main_v14_3)
    = addOf (W c (Proc.devRef .tc main_v12)) (W c (Proc.devRef .tc main_arg10)) (W c (Proc.devRef .tc main_v13)) := by
  rw [← in0_6 W c, ← in0_7 W c, ← in0_8 W c]
  exact (Pipeline.afterRegion_arr (dat0 W c) (W c) launch0.win.arr_inj 12).trans
    ((dat0 W c).arrAt_eq_of_after_last 12 t0_0 (by decide +kernel) (addOf (in0 W c 6) (in0 W c 7) (in0 W c 8)) fun j => rfl)

/-- Every other array is as it was before the first kernel. -/
theorem after_keep0 (c : Dev nD) (r : Ref sig .tc) (h : ∀ w : Fin 13, Pipeline.arrRef spec0 w = r → (cfg0.win w).isOut = false) :
    afterRegion (dat0 W c) (W c) (Proc.devRef .tc r) = W c (Proc.devRef .tc r) :=
  Pipeline.afterRegion_keeps (dat0 W c) (W c) launch0.win.arr_inj (fun _ => rfl) r h

/-! ## The projected cameras -/

/-- Every camera's image through a projection. -/
def projAll (v : FVec F S6x256x2816 .f32) (w : FVec F S256x256 .f32) : FVec F S6x2816x256 .f32 := fun j =>
  projOf (fun x : S1x256x2816.Idx => v (ix3 (j 0) (x 1) (x 2))) w (ix3 (0 : Fin 1) (j 1) (j 2))

theorem at1_0 : ∀ t : Fin grid1.N, win1_0.index t = ![t.val, 0, 0] := by decide +kernel
theorem at1_1 : ∀ t : Fin grid1.N, win1_1.index t = ![0, 0] := by decide +kernel
theorem at1_2 : ∀ t : Fin grid1.N, win1_2.index t = ![t.val, 0, 0] := by decide +kernel

theorem in1_1 (c : Dev nD) (t : Fin cfg1.N) : in1 W c 1 t = W c (Proc.devRef .tc main_v14_2) :=
  funext fun y => congrArg (W c (Proc.devRef .tc main_v14_2)) (funext fun a => Fin.ext (Window.rect_emb_val_of_index_zero (cfg1.win 1) t a
    (by rw [show (cfg1.win 1).index t = ![0, 0] from at1_1 t]; match a with | ⟨0, _⟩ => rfl | ⟨1, _⟩ => rfl) y))

theorem after_proj (c : Dev nD) : afterRegion (dat1 W c) (W c) (Proc.devRef .tc main_v15)
    = projAll (W c (Proc.devRef .tc main_v10)) (W c (Proc.devRef .tc main_v14_2)) := by
  refine (Pipeline.afterRegion_arr (dat1 W c) (W c) launch1.win.arr_inj 2).trans ?_
  refine (dat1 W c).arrAt_eq_of_covers 2 _ (by decide +kernel) fun t hf y => ?_
  blk_simp
  have h0 : ((win1_2.blk t).view.emb y 0 : ℕ) = t.val := by blk_simp [at1_2]
  have h1 : (win1_2.blk t).view.emb y 1 = y 1 := Fin.ext (by blk_simp [at1_2])
  have h2 : (win1_2.blk t).view.emb y 2 = y 2 := Fin.ext (by blk_simp [at1_2])
  show projOf (in1 W c 0 t) (in1 W c 1 t) y = _
  rw [in1_1]
  unfold projAll
  have hv : in1 W c 0 t = fun x : S1x256x2816.Idx => W c (Proc.devRef .tc main_v10) (ix3 ((win1_2.blk t).view.emb y 0) (x 1) (x 2)) := by
    funext x
    refine congrArg (W c (Proc.devRef .tc main_v10)) (funext fun a => ?_)
    match a with
    | ⟨0, _⟩ => exact Fin.ext (Eq.trans (by blk_simp [at1_0]) h0.symm)
    | ⟨1, _⟩ => exact Fin.ext (by blk_simp [at1_0]; rfl)
    | ⟨2, _⟩ => exact Fin.ext (by blk_simp [at1_0]; rfl)
  rw [hv]
  refine congrArg (projOf _ _) (funext fun a => ?_)
  match a with
  | ⟨0, _⟩ => exact Fin.ext (by have := (y 0).isLt; change (y 0).val < 1 at this; show (y 0).val = 0; omega)
  | ⟨1, _⟩ => exact h1.symm
  | ⟨2, _⟩ => exact h2.symm

/-- Every other array is as it was before the second kernel. -/
theorem after_keep1 (c : Dev nD) (r : Ref sig .tc) (h : ∀ w : Fin 3, Pipeline.arrRef spec1 w = r → (cfg1.win w).isOut = false) :
    afterRegion (dat1 W c) (W c) (Proc.devRef .tc r) = W c (Proc.devRef .tc r) :=
  Pipeline.afterRegion_keeps (dat1 W c) (W c) launch1.win.arr_inj (fun _ => rfl) r h

end Cert.Proof.KernelIdeal
-- ==== Proof.KernelIdeal.Launch.lean ====
/-
  The program's run: the host's lines, the two windowed kernels and the bag call, from any memory; every buffer of the
  launching core at the end.
-/
module

public import proofs.«01_k».proof.Proof.KernelIdeal.Share
public import proofs.«01_k».proof.Proof.KernelIdeal.After

@[expose] public section

noncomputable section

namespace Cert.Proof.KernelIdeal

open Cert.KernelIdeal Cert.KernelIdeal.Gen
open Idealize.ShloMosaic
open Idealize.ShloMosaic.ValueIdx (ix1 ix2 ix3 ix4 eq_ix1 eq_ix2 eq_ix3 eq_ix4 idx2_lt0 idx2_lt1)
open Idealize.ShloMosaic.SparseCore (S V T)
open Idealize.ShloMosaic.SparseCore.Cfg (HIx Pay)
open Idealize.ShloMosaic.StableHlo (held launchContents after seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (SparseCore.Cfg.HIx 1) (Elt F) ℕ UU ℕ

open Idealize.ShloMosaic.Pipeline (afterRegion)

/-! ## The host's lines -/

/-- The paddings' lines. -/
abbrev castA : HloOp τ sig (Elt F) :=
  StableHlo.TRef.unary (StableHlo.TRef.of main_c : StableHlo.TRef sig ⟨S_, .i32⟩) (StableHlo.TRef.of main_call0_v0 : StableHlo.TRef sig ⟨S_, .f32⟩) (sitofp (F := F) (s := S_) (w := 32) .f32)
abbrev padA : HloOp τ sig (Elt F) :=
  StableHlo.TRef.binary (StableHlo.TRef.of main_v0 : StableHlo.TRef sig ⟨S2500x256, .f32⟩) (StableHlo.TRef.of main_call0_v0 : StableHlo.TRef sig ⟨S_, .f32⟩)
    (StableHlo.TRef.of main_v1 : StableHlo.TRef sig ⟨S2560x256, .f32⟩)
    (fun x v => pad S2560x256 ![0, 0] ![60, 0] ![0, 0] x v pads_S2500x256_S2560x256_0600_000 h_S_)
abbrev castB : HloOp τ sig (Elt F) :=
  StableHlo.TRef.unary (StableHlo.TRef.of main_c_0 : StableHlo.TRef sig ⟨S_, .i32⟩) (StableHlo.TRef.of main_call1_v0 : StableHlo.TRef sig ⟨S_, .f32⟩) (sitofp (F := F) (s := S_) (w := 32) .f32)
abbrev padB : HloOp τ sig (Elt F) :=
  StableHlo.TRef.binary (StableHlo.TRef.of main_v3 : StableHlo.TRef sig ⟨S2500x6x2, .f32⟩) (StableHlo.TRef.of main_call1_v0 : StableHlo.TRef sig ⟨S_, .f32⟩)
    (StableHlo.TRef.of main_v4 : StableHlo.TRef sig ⟨S2560x6x2, .f32⟩)
    (fun x v => pad S2560x6x2 ![0, 0, 0] ![60, 0, 0] ![0, 0, 0] x v pads_S2500x6x2_S2560x6x2_0600_000_000 h_S_)

/-- The host's lines before the windowed kernels. -/
def linesA : List (HloOp τ sig (Elt F)) :=
  [StableHlo.reshape main_arg0 main_v0 (rfl : (.f32 : EltTy) = .f32) shapeCasts_S1x2500x256_S2500x256,
   StableHlo.nullary main_c (constantI S_ 32 0#32),
   castA,
   padA,
   StableHlo.reshape main_arg2 main_v2 (rfl : (.f32 : EltTy) = .f32) shapeCasts_S1x6x2500x2_S6x2500x2,
   StableHlo.unary main_v2 main_v3 ((transpose S2500x6x2 [1, 0, 2] · transposes_S6x2500x2_S2500x6x2_1_0_2) : (⟨S6x2500x2, .f32⟩ : BufTy).Contents (Elt F) → (⟨S2500x6x2, .f32⟩ : BufTy).Contents (Elt F)),
   StableHlo.nullary main_c_0 (constantI S_ 32 0#32),
   castB,
   padB,
   StableHlo.unary main_v4 main_v5 ((extractStridedSlice S2560x6x1 ![0, 0, 0] · slices_S2560x6x2_S2560x6x1_0_0_0) : (⟨S2560x6x2, .f32⟩ : BufTy).Contents (Elt F) → (⟨S2560x6x1, .f32⟩ : BufTy).Contents (Elt F)),
   StableHlo.reshape main_v5 main_v6 (rfl : (.f32 : EltTy) = .f32) shapeCasts_S2560x6x1_S2560x6,
   StableHlo.unary main_v4 main_v7 ((extractStridedSlice S2560x6x1 ![0, 0, 1] · slices_S2560x6x2_S2560x6x1_0_0_1) : (⟨S2560x6x2, .f32⟩ : BufTy).Contents (Elt F) → (⟨S2560x6x1, .f32⟩ : BufTy).Contents (Elt F)),
   StableHlo.reshape main_v7 main_v8 (rfl : (.f32 : EltTy) = .f32) shapeCasts_S2560x6x1_S2560x6,
   StableHlo.reshape main_arg1 main_v9 (rfl : (.f32 : EltTy) = .f32) shapeCasts_S1x6x256x32x88_S6x256x32x88,
   StableHlo.reshape main_v9 main_v10 (rfl : (.f32 : EltTy) = .f32) shapeCasts_S6x256x32x88_S6x256x2816,
   StableHlo.reshape main_arg7 main_v11 (rfl : (.f32 : EltTy) = .f32) shapeCasts_S192_S1x192,
   StableHlo.reshape main_arg9 main_v12 (rfl : (.f32 : EltTy) = .f32) shapeCasts_S256_S1x256,
   StableHlo.reshape main_arg11 main_v13 (rfl : (.f32 : EltTy) = .f32) shapeCasts_S256_S1x256]

/-- The host's lines between the windowed kernels and the bag call. -/
def linesB : List (HloOp τ sig (Elt F)) :=
  [StableHlo.reshape main_v15 main_v16 (rfl : (.f32 : EltTy) = .f32) shapeCasts_S6x2816x256_S16896x2x128,
   StableHlo.reshape main_v14_0 main_v17 (rfl : (.i32 : EltTy) = .i32) shapeCasts_S2560x24_S32x20x96,
   StableHlo.reshape main_v14_3 main_v18 (rfl : (.f32 : EltTy) = .f32) shapeCasts_S1x256_S256]

/-- The host's lines after the bag call. -/
def linesC : List (HloOp τ sig (Elt F)) :=
  [StableHlo.unary main_v19 main_v20 ((extractStridedSlice S2500x256 ![0, 0] · slices_S2560x256_S2500x256_0_0) : (⟨S2560x256, .f32⟩ : BufTy).Contents (Elt F) → (⟨S2500x256, .f32⟩ : BufTy).Contents (Elt F)),
   StableHlo.reshape main_v20 main_v21 (rfl : (.f32 : EltTy) = .f32) shapeCasts_S2500x256_S1x2500x256]

theorem main_eq (d : Dev nD) : main (F := F) d = (seq linesA >>= fun _ => Prog.lift (.customCall (SparseCore.inner (Pipeline.entry 0)) ()) >>= fun _ =>
    Prog.lift (.customCall (SparseCore.inner (Pipeline.entry 1)) ()) >>= fun _ => seq linesB >>= fun _ => (K (F := F)).run d 0 >>= fun _ => seq linesC >>= pure) := by
  simp only [main, fn_pad.body, fn_pad_0.body, linesA, linesB, linesC, seq, bind_assoc, pure_bind]

theorem linesA_bufs : ∀ op ∈ linesA (F := F), op.bufs ⊆ Pipeline.ucRefs τ sig := by
  unfold linesA
  repeat first
    | exact List.forall_mem_nil _
    | refine List.forall_mem_cons.2 ⟨Pipeline.sub_ucRefs _ (by first | exact StableHlo.reshape_bufs_sub .. | exact StableHlo.unary_bufs_sub .. | exact StableHlo.binary_bufs_sub .. | exact StableHlo.nullary_bufs_sub ..), ?_⟩

theorem linesA_fresh : ∀ op ∈ linesA (F := F), op.fresh = ∅ := by
  unfold linesA
  repeat first
    | exact List.forall_mem_nil _
    | refine List.forall_mem_cons.2 ⟨rfl, ?_⟩

theorem linesB_bufs : ∀ op ∈ linesB (F := F), op.bufs ⊆ Pipeline.ucRefs τ sig := by
  unfold linesB
  repeat first
    | exact List.forall_mem_nil _
    | refine List.forall_mem_cons.2 ⟨Pipeline.sub_ucRefs _ (by first | exact StableHlo.reshape_bufs_sub .. | exact StableHlo.unary_bufs_sub .. | exact StableHlo.binary_bufs_sub .. | exact StableHlo.nullary_bufs_sub ..), ?_⟩

theorem linesB_fresh : ∀ op ∈ linesB (F := F), op.fresh = ∅ := by
  unfold linesB
  repeat first
    | exact List.forall_mem_nil _
    | refine List.forall_mem_cons.2 ⟨rfl, ?_⟩

theorem linesC_bufs : ∀ op ∈ linesC (F := F), op.bufs ⊆ Pipeline.ucRefs τ sig := by
  unfold linesC
  repeat first
    | exact List.forall_mem_nil _
    | refine List.forall_mem_cons.2 ⟨Pipeline.sub_ucRefs _ (by first | exact StableHlo.reshape_bufs_sub .. | exact StableHlo.unary_bufs_sub .. | exact StableHlo.binary_bufs_sub .. | exact StableHlo.nullary_bufs_sub ..), ?_⟩

theorem linesC_fresh : ∀ op ∈ linesC (F := F), op.fresh = ∅ := by
  unfold linesC
  repeat first
    | exact List.forall_mem_nil _
    | refine List.forall_mem_cons.2 ⟨rfl, ?_⟩

/-! ## The arrays at each stage -/

variable (m : (ℓ : Loc nD τ sig) → Buf (Elt F) ℓ) (ρ : Dev nD → PrngReg)

/-- The arrays after the host's first lines, after each windowed kernel, and as the bag call finds them. -/
def W1 (d : Dev nD) : Valuation τ sig (Elt F) := after linesA (launchContents m d)
def W2 (d : Dev nD) : Valuation τ sig (Elt F) := afterRegion (pdats (W1 m) 0 d) (W1 m d)
def W3 (d : Dev nD) : Valuation τ sig (Elt F) := afterRegion (pdats (W2 m) 1 d) (W2 m d)
def W4 (d : Dev nD) : Valuation τ sig (Elt F) := after linesB (W3 m d)

/-- The arrays after the bag call, and at the end. -/
def W5 (d : Dev nD) : Valuation τ sig (Elt F) := Function.update (W4 m d) (Proc.devRef .tc main_v19) (outM (W4 m) d)
def W6 (d : Dev nD) : Valuation τ sig (Elt F) := after linesC (W5 m d)

/-! ## The launch element -/

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

omit [FloatOps F] in
theorem bigSep_none {ι : Type} (S : Finset ι) : (bigSep S fun _ => iprop(emp) : sProp 𝕄) = iprop(emp) := bigSep_emp_const S

/-- What the windows of both kernels start from on core `d`. -/
abbrev seeds (d : Dev nD) : sProp 𝕄 := iprop(seedOf (F := F) 0 d ∗ seedOf (F := F) 1 d)

theorem seeds_deal : (BI.own ((EW (F := F)) (initOf (Pipeline.cells (Pipeline.pin (pcfgs (F := F)) adm) cells_inj) (Pipeline.launchToks (Pipeline.pin (pcfgs (F := F)) adm) cells_inj))) : sProp 𝕄)
    ⊢ |==> bigSep Finset.univ fun d : Dev nD => seeds (F := F) d := by
  refine (Pipeline.fund_ghost (Pipeline.pin (pcfgs (F := F)) adm) (EW (F := F)) cells_inj).trans (BI.bupd_mono ?_)
  rw [← bigSep_sep']
  refine Entails.of_eq (bigSep_congr fun d _ => ?_)
  rw [← bigSep_sep', show (Finset.univ : Finset (Fin 2)) = {0, 1} by decide, SparseCore.bigSep_insert' (by decide), bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => seeds (F := F) d)
        ∗ bigSep Finset.univ fun thr : Thread nD τ => bigSep Finset.univ fun q : Fin 1 => (P (W4 m)).x q thr) := by
  unfold u₀
  iintro Hu
  ihave H := (ownU_pair (initOf (K (F := F)).hsCells (K (F := F)).hsToks) _) $$ Hu
  icases H with ⟨HH, HR⟩
  ihave HR := (own_pair_emb (embR : Emb (UW × Counters) 𝕄) _ _) $$ HR
  icases HR with ⟨HW, -⟩
  imod (seeds_deal (F := F)) $$ HW with HS
  imodintro
  isplitl [HH]; · iexact HH
  isplitl [HS]; · iexact HS
  rw [show (bigSep Finset.univ fun thr : Thread nD τ => bigSep Finset.univ fun q : Fin 1 => (P (F := F) (W4 m)).x q thr) = bigSep Finset.univ fun _ => iprop(emp) from
    bigSep_congr fun _ _ => bigSep_univ_of_subsingleton (0 : Fin 1), bigSep_none]
  iempintro

/-! ## @main -/

theorem st0_eq (Y : Dev nD → Valuation τ sig (Elt F)) (d : Dev nD) : (bigSep Finset.univ fun c : Fin ((K (F := F)).nCore 0) => (P Y).st 0 d c)
    = bigSep Finset.univ fun c : Fin 2 => CorePts Y d c (Y d (Proc.devRef .tc main_v19)) := bigSep_cores (F := F) fun c => CorePts Y d c (Y d (Proc.devRef .tc main_v19))
theorem dn0_eq (Y : Dev nD → Valuation τ sig (Elt F)) (d : Dev nD) : (bigSep Finset.univ fun c : Fin ((K (F := F)).nCore 0) => (P Y).dn 0 d c)
    = bigSep Finset.univ fun c : Fin 2 => CorePts Y d c (outM Y d) := bigSep_cores (F := F) fun c => CorePts Y d c (outM Y d)

/-- The bag call's five arrays. -/
def five : Finset (DevRef τ sig) :=
  {Proc.devRef .tc main_v16, Proc.devRef .tc main_v17, Proc.devRef .tc main_v14_1, Proc.devRef .tc main_v18, Proc.devRef .tc main_v19}

theorem five_sub : five ⊆ Pipeline.ucRefs τ sig := by decide +kernel

theorem held_five (d : Dev nD) (V : Valuation τ sig (Elt F)) : (held (SparseCore.T d) five V : sProp 𝕄)
    = iprop((loc d main_v16 ↦{fullShare} V (Proc.devRef .tc main_v16)) ∗ (loc d main_v17 ↦{fullShare} V (Proc.devRef .tc main_v17))
      ∗ (loc d main_v14_1 ↦{fullShare} V (Proc.devRef .tc main_v14_1)) ∗ (loc d main_v18 ↦{fullShare} V (Proc.devRef .tc main_v18))
      ∗ (loc d main_v19 ↦{fullShare} V (Proc.devRef .tc main_v19))) := by
  unfold StableHlo.held five
  rw [SparseCore.bigSep_insert' (by decide), SparseCore.bigSep_insert' (by decide), SparseCore.bigSep_insert' (by decide), SparseCore.bigSep_insert' (by decide), bigSep_singleton]

theorem held_W4 (d : Dev nD) : (held (d.tc : Thread nD τ) (Pipeline.ucRefs τ sig) (after linesB (W3 m d)) : sProp 𝕄)
    = iprop(((loc d main_v16 ↦{fullShare} tabM (W4 m) d) ∗ (loc d main_v17 ↦{fullShare} numM (W4 m) d)
      ∗ (loc d main_v14_1 ↦{fullShare} wM (W4 m) d) ∗ (loc d main_v18 ↦{fullShare} biasM (W4 m) d)
      ∗ (loc d main_v19 ↦{fullShare} W4 m d (Proc.devRef .tc main_v19))) ∗ held (SparseCore.T d) (Pipeline.ucRefs τ sig \ five) (W4 m d)) := by
  show (held (SparseCore.T d) (Pipeline.ucRefs τ sig) (W4 m d) : sProp 𝕄) = _
  rw [StableHlo.held_sub_split _ five_sub, held_five]
  rfl

theorem held_W5 (d : Dev nD) : (held (SparseCore.T d) five (W5 m d) : sProp 𝕄)
    = iprop((loc d main_v16 ↦{fullShare} tabM (W4 m) d) ∗ (loc d main_v17 ↦{fullShare} numM (W4 m) d)
      ∗ (loc d main_v14_1 ↦{fullShare} wM (W4 m) d) ∗ (loc d main_v18 ↦{fullShare} biasM (W4 m) d)
      ∗ (loc d main_v19 ↦{fullShare} outM (W4 m) d)) := by
  have k : ∀ r : Ref sig .tc, r ≠ main_v19 → W5 m d (Proc.devRef .tc r) = W4 m d (Proc.devRef .tc r) := fun r h =>
    Function.update_of_ne (StableHlo.devRef_ne_of_ne h) _ _
  rw [held_five, k main_v16 (by decide), k main_v17 (by decide), k main_v14_1 (by decide), k main_v18 (by decide),
    show W5 m d (Proc.devRef .tc main_v19) = outM (W4 m) d from Function.update_self _ _ _]
  rfl

theorem held_rest (d : Dev nD) : (held (SparseCore.T d) (Pipeline.ucRefs τ sig \ five) (W4 m d) : sProp 𝕄)
    = held (SparseCore.T d) (Pipeline.ucRefs τ sig \ five) (W5 m d) :=
  StableHlo.held_congr _ fun b hb => (Function.update_of_ne (fun e => (Finset.mem_sdiff.1 hb).2 (by rw [e]; unfold five; simp)) _ _).symm

/-- What @main leaves: every array at its last contents. -/
abbrev FIN (d : Dev nD) : sProp 𝕄 := held (SparseCore.T d) (Pipeline.ucRefs τ sig) (W6 m d)

/-- The host's state apart from what it owes. -/
theorem tcSt_due (d : Dev nD) : ∃ R : sProp 𝕄, (K (F := F)).tcSt EH d 0 = iprop(due (F := F) d ∗ R) := ⟨_, by unfold SparseCore.Cfg.tcSt; rfl⟩

set_option maxRecDepth 16384 in
theorem hmain [∀ e, Nonempty (Elt F e)] (κ : GSem nD τ sig → ℕ) (d : Dev nD) :
    iprop((K (F := F)).ctx EH (P (W4 m)) κ ∗ (K (F := F)).tcSt EH d 0 ∗ (K (F := F)).tcRes m ρ d ∗ seeds (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (launchContents m d) from
    Pipeline.unscopedBufs_held d (launchContents m d), main_eq]
  iintro ⟨#Hctx, Hst, ⟨Hb, Hh, Hts, -⟩, ⟨Hs0, Hs1⟩⟩
  ihave #HL := ((K (F := F)).ctx_levAts κ) $$ Hctx
  iapply (StableHlo.wp_seq 𝒱 none Set.univ d (Pipeline.ucRefs τ sig) _ linesA linesA_bufs linesA_fresh (launchContents m d)) $$ [Hb Hh]
  · isplitl [Hb] <;> iassumption
  iintro ⟨Hb, Hh⟩
  obtain ⟨R, eR⟩ := tcSt_due (F := F) d
  ihave Hst := (Entails.of_eq eR) $$ Hst
  icases Hst with ⟨Hd, Hst⟩
  rw [wp_bind]
  iapply (call_run (W1 m) 0 d _) $$ [Hs0 Hs1 Hb Hh Hd Hst Hts]
  isplitr; · iexact HL
  isplitl [Hs0]; · iexact Hs0
  isplitl [Hb]; · iexact Hb
  isplitl [Hh]; · iexact Hh
  isplitl [Hd]; · iexact Hd
  iintro ⟨Hb, Hh, Hd⟩
  rw [wp_bind]
  iapply (call_run (W2 m) 1 d _) $$ [Hs1 Hb Hh Hd Hst Hts]
  isplitr; · iexact HL
  isplitl [Hs1]; · iexact Hs1
  isplitl [Hb]; · iexact Hb
  isplitl [Hh]; · iexact Hh
  isplitl [Hd]; · iexact Hd
  iintro ⟨Hb, Hh, Hd⟩
  iapply (StableHlo.wp_seq 𝒱 none Set.univ d (Pipeline.ucRefs τ sig) _ linesB linesB_bufs linesB_fresh (W3 m d)) $$ [Hb Hh]
  · isplitl [Hb]; · iexact Hb
    iexact Hh
  iintro ⟨Hb, Hh⟩
  ihave Hh := (Entails.of_eq (held_W4 m d)) $$ Hh
  rw [wp_bind]
  icases Hh with ⟨⟨H0, H1, H2, H3, H4⟩, Hr⟩
  iapply ((K (F := F)).wp_run (D (F := F)) 𝒱 (EH := EH) (P := P (W4 m)) κ d 0) $$ [Hst Hd H0 H1 H2 H3 H4 Hr Hb Hts]
  isplitr; · iexact Hctx
  isplitl [Hst Hd]
  · iapply (Entails.of_eq eR.symm)
    isplitl [Hd]; · iexact Hd
    iexact Hst
  isplitl [H0 H1 H2 H3 H4]
  · rw [st0_eq, ← whole_cores]
    isplitl [H0]; · iexact H0
    isplitl [H1]; · iexact H1
    isplitl [H2]; · iexact H2
    isplitl [H3]; · iexact H3
    iexact H4
  iintro ⟨Hst, Hdn⟩
  ihave H5 := (Entails.of_eq (((dn0_eq (W4 m) d).trans (whole_cores (W4 m) d (outM (W4 m) d)).symm).trans (held_W5 m d).symm)) $$ Hdn
  ihave Hr := (Entails.of_eq (held_rest m d)) $$ Hr
  ihave Hh := (Entails.of_eq (StableHlo.held_sub_split (SparseCore.T d) five_sub (W5 m d)).symm) $$ [H5 Hr]
  · isplitl [H5]; · iexact H5
    iexact Hr
  iapply (StableHlo.wp_seq 𝒱 none Set.univ d (Pipeline.ucRefs τ sig) pure linesC linesC_bufs linesC_fresh (W5 m d)) $$ [Hb Hh]
  · isplitl [Hb]; · iexact Hb
    iexact Hh
  iintro ⟨Hb, Hh⟩
  rw [wp_pure]; imodintro
  isplitl [Hst]; · iexact Hst
  isplitl [Hh]; · iexact Hh
  isplitl [Hb] <;> iassumption

/-- What a final memory then shows. -/
def fq (d : Dev nD) (s' : Phys nD τ sig (Elt F)) : Prop := ∀ b ∈ Pipeline.ucRefs τ sig, s'.mem.mem (d, b) = W6 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h b hb

/-! ## The program's run -/

/-- Every run ends, every array of the launching core at its last contents, every semaphore at zero. -/
theorem run_all [∀ e, Nonempty (Elt F e)] (hpre : PreOK (W4 m)) :
    θ_run (Cert.KernelIdeal.defs (F := F)) (Cert.KernelIdeal.threads (F := F)) ⟨m, fun _ => 0, ρ⟩
      fun r => (∀ d : Dev nD, ∀ b ∈ Pipeline.ucRefs τ sig, r.2.mem (d, b) = W6 m d b) ∧ r.2.sem = fun _ => 0 :=
  SparseCore.Cfg.θ_run_sc_quiescent (K := K (F := F)) (D := D (F := F)) (𝒱 := 𝒱) (EH := EH) (P := P (W4 m)) (A := ∅) facts v₀
    (fun q hq => match q with | 0 => nomatch hq)
    (fun q _ => match q with | 0 => tileObl (W4 m) hpre)
    (fun q _ => match q with | 0 => SparseCore.Cfg.VecSplit.of_plain (vecSplit (W4 m)))
    m ρ main (fun d => seeds (F := F) d) (FIN m) (u₀ (F := F)) (sep_elim_left.trans (hu₀ m)) (hmain m ρ) (fq m) (hfin m)
    _ (fun _ h hz => ⟨h, hz⟩)

end Cert.Proof.KernelIdeal
-- ==== Proof.KernelIdeal.Rows.lean ====
/-
  The row numbers and the weights the first kernel leaves, element by element; every row number names a row of the table.
-/
module

public import Idealize.ShloMosaic.Lib.Pipeline.Value
public import Idealize.ShloMosaic.Lib.Pointwise
public import proofs.«01_k».proof.Proof.KernelIdeal.Prep

@[expose] public section

noncomputable section

namespace Cert.Proof.KernelIdeal

open Cert.KernelIdeal Cert.KernelIdeal.Gen
open Idealize.ShloMosaic
open Idealize.ShloMosaic.TcCoe

variable {F : FTy → Type} [FloatOps F]

/-- A corner's offset from the lower-left one, in rows of the table. -/
def corner (k : Fin 4) : BitVec 32 := ![0#32, 1#32, 88#32, 89#32] k

/-- The four corners' rows, a block each. -/
def blocks (b : IVec S2560x6 32) : List ((s : Shape) × IVec s 32) :=
  [⟨S2560x6, b⟩, ⟨S2560x6, addi b (broadcast S2560x6 1#32)⟩, ⟨S2560x6, addi b (broadcast S2560x6 88#32)⟩,
    ⟨S2560x6, addi (addi b (broadcast S2560x6 88#32)) (broadcast S2560x6 1#32)⟩]

theorem idx_blocks (b : IVec S2560x6 32) : idxOf b = concatenate S2560x24 1 (blocks b) concatenates_S2560x6_S2560x6_S2560x6_S2560x6_S2560x24_d1 := rfl

theorem idx_piece (b : IVec S2560x6 32) (r : Fin 2560) (c : Fin 6) (k : Nat) (hk : k < 4) (x : IVec S2560x6 32)
    (hx : (blocks b)[k]'hk = ⟨S2560x6, x⟩)
    (hp : ((((blocks b).take k).map (·.1)).map fun s => if h : s.rank = S2560x24.rank then s.size ((1 : Fin S2560x24.rank).cast h.symm) else 0).sum = 6 * k) :
    idxOf b (ix2 r ⟨6 * k + c.val, by omega⟩) = x (ix2 r c) := by
  rw [idx_blocks]
  refine concatenate_apply_piece (t := S2560x24) 1 (blocks b) _ _ k hk S2560x6 x hx rfl (6 * k) hp (ix2 r c) ?_ rfl
  intro a ha
  match a with
  | ⟨0, _⟩ => rfl
  | ⟨1, _⟩ => exact absurd rfl ha

theorem idx_at (b : IVec S2560x6 32) (r : Fin 2560) (k : Fin 4) (c : Fin 6) :
    idxOf b (ix2 r ⟨6 * k.val + c.val, by omega⟩) = b (ix2 r c) + corner k := by
  match k with
  | 0 => exact (idx_piece b r c 0 (by decide) b rfl rfl).trans (by show _ = b (ix2 r c) + 0#32; simp)
  | 1 => exact idx_piece b r c 1 (by decide) _ rfl rfl
  | 2 => exact idx_piece b r c 2 (by decide) _ rfl rfl
  | 3 =>
    refine (idx_piece b r c 3 (by decide) _ rfl rfl).trans ?_
    show b (ix2 r c) + 88#32 + 1#32 = b (ix2 r c) + 89#32
    rw [BitVec.add_assoc]; rfl

/-- A clipped cell is at most its bound. -/
theorem cell_le (hi : BitVec 32) (h : hi.toNat < 2 ^ 31) (x : FVec F S2560x6 .f32) (i : S2560x6.Idx) : (cellOf hi x i).toNat ≤ hi.toNat := by
  show (IntOp.minsi hi (IntOp.maxsi 0#32 (FloatOps.fptosi 32 (FloatOps.floor (x i))))).toNat ≤ _
  generalize FloatOps.fptosi 32 (FloatOps.floor (x i)) = v
  have h0 : (0#32 : BitVec 32).toInt = 0 := by decide
  have e := fun u : BitVec 32 => BitVec.toInt_eq_toNat_cond u
  have hh := e hi
  rw [if_pos (by omega)] at hh
  unfold IntOp.minsi IntOp.maxsi
  have hm : 0 ≤ (if v.slt 0#32 then 0#32 else v).toInt := by
    split
    · rw [h0]
    · rename_i hn
      rw [BitVec.slt_iff_toInt_lt, h0] at hn; omega
  generalize (if v.slt 0#32 then 0#32 else v) = u at hm
  split
  · exact le_rfl
  · rename_i hn
    rw [BitVec.slt_iff_toInt_lt] at hn
    have hu := e u
    split at hu <;> omega

/-- The lower-left corner's row of the table, as a number. -/
theorem base_at (x y : FVec F S2560x6 .f32) (r : Fin 2560) (c : Fin 6) :
    (baseOf x y (ix2 r c)).toNat = c.val * 2816 + (cellOf 30#32 y (ix2 r c)).toNat * 88 + (cellOf 86#32 x (ix2 r c)).toNat := by
  have hx := cell_le 86#32 (by decide) x (ix2 r c)
  have hy := cell_le 30#32 (by decide) y (ix2 r c)
  have e : baseOf x y (ix2 r c) = BitVec.ofNat 32 (0 * 6 + c.val) * 2816#32 + cellOf 30#32 y (ix2 r c) * 88#32 + cellOf 86#32 x (ix2 r c) := rfl
  rw [e]
  generalize cellOf 30#32 y (ix2 r c) = v at *
  generalize cellOf 86#32 x (ix2 r c) = w at *
  have := c.isLt
  simp only [BitVec.toNat_add, BitVec.toNat_mul, BitVec.toNat_ofNat] at *
  omega

theorem row_at (x y : FVec F S2560x6 .f32) (r : Fin 2560) (k : Fin 4) (c : Fin 6) :
    (idxOf (baseOf x y) (ix2 r ⟨6 * k.val + c.val, by omega⟩)).toNat
      = c.val * 2816 + ((cellOf 30#32 y (ix2 r c)).toNat + k.val / 2) * 88 + ((cellOf 86#32 x (ix2 r c)).toNat + k.val % 2) := by
  have hx := cell_le 86#32 (by decide) x (ix2 r c)
  have hy := cell_le 30#32 (by decide) y (ix2 r c)
  have := c.isLt
  have hk : (corner k).toNat = k.val / 2 * 88 + k.val % 2 := by
    revert k; decide
  rw [idx_at, BitVec.toNat_add, base_at, hk]
  have := k.isLt
  simp only [BitVec.toNat_ofNat] at hx hy
  omega

/-- Every row number names a row of the table. -/
theorem row_lt (x y : FVec F S2560x6 .f32) (j : S2560x24.Idx) : (idxOf (baseOf x y) j).toNat < 16896 := by
  have hj : (j 1).val < 24 := (j 1).isLt
  have e : j = ix2 (j 0) ⟨6 * ((j 1).val / 6) + (j 1).val % 6, by omega⟩ := by
    funext a
    match a with
    | ⟨0, _⟩ => rfl
    | ⟨1, _⟩ => exact Fin.ext (Nat.div_add_mod _ _).symm
  rw [e]
  have h := row_at x y (j 0) ⟨(j 1).val / 6, by omega⟩ ⟨(j 1).val % 6, by omega⟩
  have hx := cell_le 86#32 (by decide) x (ix2 (j 0) ⟨(j 1).val % 6, by omega⟩)
  have hy := cell_le 30#32 (by decide) y (ix2 (j 0) ⟨(j 1).val % 6, by omega⟩)
  refine lt_of_eq_of_lt h ?_
  simp only [BitVec.toNat_ofNat] at hx hy ⊢
  omega

end Cert.Proof.KernelIdeal
-- ==== Proof.KernelIdeal.Values.lean ====
/-
  The program's arrays at the end, from the launch memory: the arguments as they were, and the result as a function of
  them. Every row number the bag call reads names a row of the table.
-/
module

public import proofs.«01_k».proof.Proof.KernelIdeal.Launch
public import proofs.«01_k».proof.Proof.KernelIdeal.Rows

@[expose] public section

noncomputable section

namespace Cert.Proof.KernelIdeal

open Cert.KernelIdeal Cert.KernelIdeal.Gen
open Idealize.ShloMosaic
open Idealize.ShloMosaic.StableHlo (launchContents after after_of_writes_sub nullary_writes unary_writes binary_writes reshape_writes)
open Idealize.ShloMosaic.Pipeline (afterRegion)
open Idealize.SL Idealize.SL.Sem

variable {F : FTy → Type} [FloatOps F]
variable (m : (ℓ : Loc nD τ sig) → Buf (Elt F) ℓ) (ρ : Dev nD → PrngReg)

/-! ## What the host hands the windowed kernels -/

/-- The queries, padded. -/
def padQ (q : FVec F S1x2500x256 .f32) : FVec F S2560x256 .f32 :=
  pad S2560x256 ![0, 0] ![60, 0] ![0, 0] (shapeCast S2500x256 q shapeCasts_S1x2500x256_S2500x256) (sitofp (F := F) .f32 (constantI S_ 32 0#32)) pads_S2500x256_S2560x256_0600_000 h_S_

/-- The reference points, a query's six together, padded. -/
def padR (r : FVec F S1x6x2500x2 .f32) : FVec F S2560x6x2 .f32 :=
  pad S2560x6x2 ![0, 0, 0] ![60, 0, 0] ![0, 0, 0] (transpose S2500x6x2 [1, 0, 2] (shapeCast S6x2500x2 r shapeCasts_S1x6x2500x2_S6x2500x2) transposes_S6x2500x2_S2500x6x2_1_0_2)
    (sitofp (F := F) .f32 (constantI S_ 32 0#32)) pads_S2500x6x2_S2560x6x2_0600_000_000 h_S_

/-- Their two coordinates. -/
def ptX (r : FVec F S1x6x2500x2 .f32) : FVec F S2560x6 .f32 :=
  shapeCast S2560x6 (extractStridedSlice S2560x6x1 ![0, 0, 0] (padR r) slices_S2560x6x2_S2560x6x1_0_0_0) shapeCasts_S2560x6x1_S2560x6
def ptY (r : FVec F S1x6x2500x2 .f32) : FVec F S2560x6 .f32 :=
  shapeCast S2560x6 (extractStridedSlice S2560x6x1 ![0, 0, 1] (padR r) slices_S2560x6x2_S2560x6x1_0_0_1) shapeCasts_S2560x6x1_S2560x6

/-- The images, a cell's channels in a column. -/
def imgs (x : FVec F S1x6x256x32x88 .f32) : FVec F S6x256x2816 .f32 :=
  shapeCast S6x256x2816 (shapeCast S6x256x32x88 x shapeCasts_S1x6x256x32x88_S6x256x32x88) shapeCasts_S6x256x32x88_S6x256x2816

theorem W1_v1 (d : Dev nD) : W1 m d (Proc.devRef .tc main_v1) = padQ (launchContents m d (Proc.devRef .tc main_arg0)) := by
  unfold W1 linesA castA padA castB padB
  simp only [StableHlo.TRef.unary, StableHlo.TRef.binary, StableHlo.TRef.toBuf, StableHlo.TRef.ofBuf, cast_eq]
  after_results_simp
  rfl

theorem W1_v6 (d : Dev nD) : W1 m d (Proc.devRef .tc main_v6) = ptX (launchContents m d (Proc.devRef .tc main_arg2)) := by
  unfold W1 linesA castA padA castB padB
  simp only [StableHlo.TRef.unary, StableHlo.TRef.binary, StableHlo.TRef.toBuf, StableHlo.TRef.ofBuf, cast_eq]
  after_results_simp
  rfl

theorem W1_v8 (d : Dev nD) : W1 m d (Proc.devRef .tc main_v8) = ptY (launchContents m d (Proc.devRef .tc main_arg2)) := by
  unfold W1 linesA castA padA castB padB
  simp only [StableHlo.TRef.unary, StableHlo.TRef.binary, StableHlo.TRef.toBuf, StableHlo.TRef.ofBuf, cast_eq]
  after_results_simp
  rfl

theorem W1_v10 (d : Dev nD) : W1 m d (Proc.devRef .tc main_v10) = imgs (launchContents m d (Proc.devRef .tc main_arg1)) := by
  unfold W1 linesA castA padA castB padB
  simp only [StableHlo.TRef.unary, StableHlo.TRef.binary, StableHlo.TRef.toBuf, StableHlo.TRef.ofBuf, cast_eq]
  after_results_simp
  rfl

theorem W1_v11 (d : Dev nD) : W1 m d (Proc.devRef .tc main_v11) = shapeCast S1x192 (launchContents m d (Proc.devRef .tc main_arg7)) shapeCasts_S192_S1x192 := by
  unfold W1 linesA castA padA castB padB
  simp only [StableHlo.TRef.unary, StableHlo.TRef.binary, StableHlo.TRef.toBuf, StableHlo.TRef.ofBuf, cast_eq]
  after_results_simp
  rfl

theorem W1_v12 (d : Dev nD) : W1 m d (Proc.devRef .tc main_v12) = shapeCast S1x256 (launchContents m d (Proc.devRef .tc main_arg9)) shapeCasts_S256_S1x256 := by
  unfold W1 linesA castA padA castB padB
  simp only [StableHlo.TRef.unary, StableHlo.TRef.binary, StableHlo.TRef.toBuf, StableHlo.TRef.ofBuf, cast_eq]
  after_results_simp
  rfl

theorem W1_v13 (d : Dev nD) : W1 m d (Proc.devRef .tc main_v13) = shapeCast S1x256 (launchContents m d (Proc.devRef .tc main_arg11)) shapeCasts_S256_S1x256 := by
  unfold W1 linesA castA padA castB padB
  simp only [StableHlo.TRef.unary, StableHlo.TRef.binary, StableHlo.TRef.toBuf, StableHlo.TRef.ofBuf, cast_eq]
  after_results_simp
  rfl

/-! ## What the lines write -/

abbrev outsA : List (Ref sig .tc) := [main_v0, main_c, main_call0_v0, main_v1, main_v2, main_v3, main_c_0, main_call1_v0, main_v4, main_v5, main_v6, main_v7, main_v8, main_v9,
  main_v10, main_v11, main_v12, main_v13]

theorem linesA_writes : (linesA (F := F)).Forall fun op => op.writes ⊆ (outsA.map (Proc.devRef (τ := τ) .tc)).toFinset := by
  unfold linesA
  simp only [List.Forall]
  repeat' constructor
  all_goals
    simp only [StableHlo.TRef.unary, StableHlo.TRef.binary, nullary_writes, unary_writes, binary_writes, reshape_writes, Finset.singleton_subset_iff, List.mem_toFinset]
    exact List.mem_map_of_mem (by decide)

theorem linesB_writes : (linesB (F := F)).Forall fun op => op.writes ⊆ ([main_v16, main_v17, main_v18].map (Proc.devRef (τ := τ) .tc)).toFinset := by
  unfold linesB
  simp only [List.Forall]
  repeat' constructor
  all_goals
    simp only [reshape_writes, Finset.singleton_subset_iff, List.mem_toFinset]
    exact List.mem_map_of_mem (by decide)

theorem linesC_writes : (linesC (F := F)).Forall fun op => op.writes ⊆ ([main_v20, main_v21].map (Proc.devRef (τ := τ) .tc)).toFinset := by
  unfold linesC
  simp only [List.Forall]
  repeat' constructor
  all_goals
    simp only [unary_writes, reshape_writes, Finset.singleton_subset_iff, List.mem_toFinset]
    exact List.mem_map_of_mem (by decide)

theorem W1_keep (d : Dev nD) (r : Ref sig .tc) (hr : r ∉ outsA) : W1 m d (Proc.devRef .tc r) = launchContents m d (Proc.devRef .tc r) :=
  after_of_writes_sub linesA _ linesA_writes hr

theorem W2_keep (d : Dev nD) (r : Ref sig .tc) (h : ∀ w : Fin 13, Pipeline.arrRef spec0 w = r → (cfg0.win w).isOut = false) :
    W2 m d (Proc.devRef .tc r) = W1 m d (Proc.devRef .tc r) := after_keep0 (W1 m) d r h

theorem W3_keep (d : Dev nD) (r : Ref sig .tc) (h : ∀ w : Fin 3, Pipeline.arrRef spec1 w = r → (cfg1.win w).isOut = false) :
    W3 m d (Proc.devRef .tc r) = W2 m d (Proc.devRef .tc r) := after_keep1 (W2 m) d r h

theorem W4_keep (d : Dev nD) (r : Ref sig .tc) (hr : r ∉ [main_v16, main_v17, main_v18]) : W4 m d (Proc.devRef .tc r) = W3 m d (Proc.devRef .tc r) :=
  after_of_writes_sub linesB _ linesB_writes hr

theorem W5_keep (d : Dev nD) (r : Ref sig .tc) (hr : r ≠ main_v19) : W5 m d (Proc.devRef .tc r) = W4 m d (Proc.devRef .tc r) :=
  Function.update_of_ne (fun e => hr (Proc.devRef_injective _ e)) _ _

theorem W6_keep (d : Dev nD) (r : Ref sig .tc) (hr : r ∉ [main_v20, main_v21]) : W6 m d (Proc.devRef .tc r) = W5 m d (Proc.devRef .tc r) :=
  after_of_writes_sub linesC _ linesC_writes hr

/-- An argument at the end is as it was at the start. -/
theorem W6_arg (d : Dev nD) (r : Ref sig .tc) (h6 : r ∉ [main_v20, main_v21]) (h5 : r ≠ main_v19) (h4 : r ∉ [main_v16, main_v17, main_v18])
    (h3 : ∀ w : Fin 3, Pipeline.arrRef spec1 w = r → (cfg1.win w).isOut = false) (h2 : ∀ w : Fin 13, Pipeline.arrRef spec0 w = r → (cfg0.win w).isOut = false)
    (h1 : r ∉ outsA) : W6 m d (Proc.devRef .tc r) = launchContents m d (Proc.devRef .tc r) :=
  (W6_keep m d r h6).trans ((W5_keep m d r h5).trans ((W4_keep m d r h4).trans ((W3_keep m d r h3).trans ((W2_keep m d r h2).trans (W1_keep m d r h1)))))

/-! ## What the bag call reads -/

/-- The row numbers, the weights, the table and the bias, from the arguments. -/
def nums (r : FVec F S1x6x2500x2 .f32) : IVec S2560x24 32 := prepIdx (ptX r) (ptY r)
def wgts (q : FVec F S1x2500x256 .f32) (r : FVec F S1x6x2500x2 .f32) (w : FVec F S256x192 .f32) (b : FVec F S192 .f32) : FVec F S2560x32 .f32 :=
  prepWgt (padQ q) w (shapeCast S1x192 b shapeCasts_S192_S1x192) (ptX r) (ptY r)
def rows (x : FVec F S1x6x256x32x88 .f32) (v o : FVec F S256x256 .f32) : FVec F S6x2816x256 .f32 := projAll (imgs x) (foldOf v o)
def bias (b : FVec F S256 .f32) (o : FVec F S256x256 .f32) (c : FVec F S256 .f32) : FVec F S1x256 .f32 :=
  addOf (shapeCast S1x256 b shapeCasts_S256_S1x256) o (shapeCast S1x256 c shapeCasts_S256_S1x256)

/-- The whole call's result, from the arguments. -/
def wholeOut (q : FVec F S1x2500x256 .f32) (x : FVec F S1x6x256x32x88 .f32) (r : FVec F S1x6x2500x2 .f32) (w : FVec F S256x192 .f32) (b : FVec F S192 .f32)
    (v : FVec F S256x256 .f32) (bv : FVec F S256 .f32) (o : FVec F S256x256 .f32) (bo : FVec F S256 .f32) : FVec F S1x2500x256 .f32 :=
  shapeCast S1x2500x256 (extractStridedSlice S2500x256 ![0, 0]
    (bagOut (shapeCast S16896x2x128 (rows x v o) shapeCasts_S6x2816x256_S16896x2x128) (shapeCast S32x20x96 (nums r) shapeCasts_S2560x24_S32x20x96) (wgts q r w b)
      (shapeCast S256 (bias bv o bo) shapeCasts_S1x256_S256)) slices_S2560x256_S2500x256_0_0) shapeCasts_S2500x256_S1x2500x256

theorem W4_v17 (d : Dev nD) : numM (W4 m) d = shapeCast S32x20x96 (nums (launchContents m d (Proc.devRef .tc main_arg2))) shapeCasts_S2560x24_S32x20x96 := by
  have h : numM (W4 m) d = shapeCast S32x20x96 (W3 m d (Proc.devRef .tc main_v14_0)) shapeCasts_S2560x24_S32x20x96 := by
    unfold numM W4 linesB; after_results_simp; rfl
  rw [h, W3_keep m d main_v14_0 (by decide)]
  refine congrArg (fun x => shapeCast S32x20x96 x shapeCasts_S2560x24_S32x20x96) ((after_idx (W1 m) d).trans ?_)
  rw [W1_v6, W1_v8]; rfl

theorem W4_v18 (d : Dev nD) : biasM (W4 m) d = shapeCast S256 (bias (launchContents m d (Proc.devRef .tc main_arg9)) (launchContents m d (Proc.devRef .tc main_arg10))
    (launchContents m d (Proc.devRef .tc main_arg11))) shapeCasts_S1x256_S256 := by
  have h : biasM (W4 m) d = shapeCast S256 (W3 m d (Proc.devRef .tc main_v14_3)) shapeCasts_S1x256_S256 := by
    unfold biasM W4 linesB; after_results_simp; rfl
  rw [h, W3_keep m d main_v14_3 (by decide)]
  refine congrArg (fun x => shapeCast S256 x shapeCasts_S1x256_S256) ((after_add (W1 m) d).trans ?_)
  rw [W1_v12, W1_v13, W1_keep m d main_arg10 (by decide)]; rfl

theorem W4_v14_1 (d : Dev nD) : wM (W4 m) d = wgts (launchContents m d (Proc.devRef .tc main_arg0)) (launchContents m d (Proc.devRef .tc main_arg2))
    (launchContents m d (Proc.devRef .tc main_arg6)) (launchContents m d (Proc.devRef .tc main_arg7)) := by
  refine (W4_keep m d main_v14_1 (by decide)).trans ((W3_keep m d main_v14_1 (by decide)).trans ((after_wgt (W1 m) d).trans ?_))
  rw [W1_v1, W1_v11, W1_v6, W1_v8, W1_keep m d main_arg6 (by decide)]; rfl

theorem W4_v16 (d : Dev nD) : tabM (W4 m) d = shapeCast S16896x2x128 (rows (launchContents m d (Proc.devRef .tc main_arg1)) (launchContents m d (Proc.devRef .tc main_arg8))
    (launchContents m d (Proc.devRef .tc main_arg10))) shapeCasts_S6x2816x256_S16896x2x128 := by
  have h : tabM (W4 m) d = shapeCast S16896x2x128 (W3 m d (Proc.devRef .tc main_v15)) shapeCasts_S6x2816x256_S16896x2x128 := by
    unfold tabM W4 linesB; after_results_simp; rfl
  rw [h]
  refine congrArg (fun x => shapeCast S16896x2x128 x shapeCasts_S6x2816x256_S16896x2x128) ((after_proj (W2 m) d).trans ?_)
  have hf : W2 m d (Proc.devRef .tc main_v14_2) = foldOf (launchContents m d (Proc.devRef .tc main_arg8)) (launchContents m d (Proc.devRef .tc main_arg10)) :=
    (after_fold (W1 m) d).trans (by rw [W1_keep m d main_arg8 (by decide), W1_keep m d main_arg10 (by decide)])
  rw [hf, W2_keep m d main_v10 (by decide), W1_v10]; rfl

theorem preOK_all : PreOK (W4 m) := fun d j => by
  rw [W4_v17]
  exact row_lt _ _ _

/-- The result at the end. -/
theorem W6_v21 (d : Dev nD) : W6 m d (Proc.devRef .tc main_v21) = wholeOut (launchContents m d (Proc.devRef .tc main_arg0)) (launchContents m d (Proc.devRef .tc main_arg1))
    (launchContents m d (Proc.devRef .tc main_arg2)) (launchContents m d (Proc.devRef .tc main_arg6)) (launchContents m d (Proc.devRef .tc main_arg7))
    (launchContents m d (Proc.devRef .tc main_arg8)) (launchContents m d (Proc.devRef .tc main_arg9)) (launchContents m d (Proc.devRef .tc main_arg10))
    (launchContents m d (Proc.devRef .tc main_arg11)) := by
  have h : W6 m d (Proc.devRef .tc main_v21) = shapeCast S1x2500x256 (extractStridedSlice S2500x256 ![0, 0] (W5 m d (Proc.devRef .tc main_v19)) slices_S2560x256_S2500x256_0_0)
      shapeCasts_S2500x256_S1x2500x256 := by
    unfold W6 linesC; after_results_simp; rfl
  have h5 : W5 m d (Proc.devRef .tc main_v19) = outM (W4 m) d := Function.update_self _ _ _
  rw [h, h5]
  unfold outM
  rw [W4_v16, W4_v17, W4_v14_1, W4_v18]; rfl

/-! ## The run -/

/-- An array of the launching core at the end. -/
theorem end_at (b : Ref sig .tc) (hb : Proc.devRef .tc b ∈ Pipeline.ucRefs τ sig) {mem : (ℓ : Loc nD τ sig) → Buf (Elt F) ℓ} (c : Dev nD)
    (h : ∀ d : Dev nD, ∀ b ∈ Pipeline.ucRefs τ sig, mem (d, b) = W6 m d b) : mem ((c.tc : Thread nD τ).loc b) = W6 m c (Proc.devRef .tc b) := h c _ hb

/-- Every run ends, the result as the arguments give it, the arguments unchanged and every semaphore at zero. -/
theorem run_main [∀ e, Nonempty (Elt F e)] :
    θ_run (Cert.KernelIdeal.defs (F := F)) (Cert.KernelIdeal.threads (F := F)) ⟨m, fun _ => 0, ρ⟩ fun r => (∀ c : Dev nD,
      r.2.mem ((c.tc : Thread nD τ).loc main_v21) = wholeOut (launchContents m c (Proc.devRef .tc main_arg0)) (launchContents m c (Proc.devRef .tc main_arg1))
        (launchContents m c (Proc.devRef .tc main_arg2)) (launchContents m c (Proc.devRef .tc main_arg6)) (launchContents m c (Proc.devRef .tc main_arg7))
        (launchContents m c (Proc.devRef .tc main_arg8)) (launchContents m c (Proc.devRef .tc main_arg9)) (launchContents m c (Proc.devRef .tc main_arg10))
        (launchContents m c (Proc.devRef .tc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0 := by
  refine (θ_run _ _ _).mono (fun r hr => ⟨fun c => ?_, hr.2⟩) (run_all m ρ (preOK_all m))
  have keep : ∀ r₀ : Ref sig .tc, Proc.devRef .tc r₀ ∈ Pipeline.ucRefs τ sig → r₀ ∉ [main_v20, main_v21] → r₀ ≠ main_v19 → r₀ ∉ [main_v16, main_v17, main_v18] →
      (∀ w : Fin 3, Pipeline.arrRef spec1 w = r₀ → (cfg1.win w).isOut = false) → (∀ w : Fin 13, Pipeline.arrRef spec0 w = r₀ → (cfg0.win w).isOut = false) →
      r₀ ∉ outsA → r.2.mem ((c.tc : Thread nD τ).loc r₀) = m ((c.tc : Thread nD τ).loc r₀) := fun r₀ hb h6 h5 h4 h3 h2 h1 =>
    (end_at m r₀ hb c hr.1).trans (W6_arg m c r₀ h6 h5 h4 h3 h2 h1)
  refine ⟨(end_at m main_v21 (by decide) c hr.1).trans (W6_v21 m c), ?_⟩
  refine ⟨?_, ?_, ?_, ?_, ?_, ?_, ?_, ?_, ?_, ?_, ?_, ?_⟩ <;>
    exact keep _ (by decide) (by decide) (by decide) (by decide) (by decide) (by decide) (by decide)

end Cert.Proof.KernelIdeal
-- ==== Proof.Spec.Data.lean ====
/-
  The arguments as real arrays, and the quantities both programs compute from them: a query's softmax, its cell and
  fraction in each camera, the four corners' weights.
-/
module

public import Idealize.ShloMosaic.Lib.Pointwise
public import Idealize.ShloMosaic.Lib.IdealHost

@[expose] public section

noncomputable section

namespace Cert.Proof.Spec

open Idealize.ShloMosaic Idealize.ShloMosaic.TcCoe

/-! ## Extended reals -/

/-- The greatest of finitely many reals, at least one, is a real. -/
theorem fold_max_real {ι : Type} (S : Finset ι) (hS : S.Nonempty) (f : ι → EReal) (hf : ∀ i, ∃ r : ℝ, f i = r) : ∃ M : ℝ, S.fold max ⊥ f = M := by
  obtain ⟨i, _, hi⟩ := Finset.exists_mem_eq_sup S hS f
  obtain ⟨r, hr⟩ := hf i
  exact ⟨r, hi.trans hr⟩

theorem sum_real {ι : Type} (S : Finset ι) (f : ι → ℝ) : ∑ i ∈ S, (f i : EReal) = ((∑ i ∈ S, f i : ℝ) : EReal) := by
  classical
  induction S using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A softmax does not see a shift of its logits. -/
theorem shift {ι : Type} [Fintype ι] (l : ι → ℝ) (M : ℝ) (k : ι) :
    Real.exp (l k - M) / ∑ x, Real.exp (l x - M) = Real.exp (l k) / ∑ x, Real.exp (l x) := by
  have h : ∀ x, Real.exp (l x - M) = Real.exp (-M) * Real.exp (l x) := fun x => by rw [← Real.exp_add]; congr 1; ring
  simp only [h]
  rw [← Finset.mul_sum, mul_div_mul_left _ _ (Real.exp_ne_zero _)]

theorem exp_sum_ne {ι : Type} [Fintype ι] (l : ι → ℝ) (k : ι) : ∑ x, Real.exp (l x) ≠ 0 :=
  (Finset.sum_pos (fun x _ => Real.exp_pos _) ⟨k, Finset.mem_univ _⟩).ne'

/-- The word at each constant. -/
theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_half : Ideal.ofBits .f32 0x3F000000#32 = ((1 / 2 : ℝ) : EReal) := by
  simp [Ideal.ofBits, Ideal.ieee, -EReal.coe_mul]; norm_num
theorem bits_87 : Ideal.ofBits .f32 0x42AE0000#32 = ((87 : ℝ) : EReal) := by
  simp [Ideal.ofBits, Ideal.ieee, -EReal.coe_mul]; norm_num
theorem bits_31 : Ideal.ofBits .f32 0x41F80000#32 = ((31 : ℝ) : EReal) := by
  simp [Ideal.ofBits, Ideal.ieee, -EReal.coe_mul]; norm_num
theorem bits_87h : Ideal.ofBits .f32 0x422E0000#32 = ((87 / 2 : ℝ) : EReal) := by
  simp [Ideal.ofBits, Ideal.ieee, -EReal.coe_mul]; norm_num
theorem bits_31h : Ideal.ofBits .f32 0x41780000#32 = ((31 / 2 : ℝ) : EReal) := by
  simp [Ideal.ofBits, Ideal.ieee, -EReal.coe_mul]; norm_num

/-- A small natural number converted to a word. -/
theorem word_real (a : ℕ) (ha : a < 2 ^ 31) : Ideal.fptosi 32 ((a : ℝ) : EReal) = BitVec.ofNat 32 a := by
  unfold Ideal.fptosi
  have h : Ideal.toIntClamped (-(2 ^ (32 - 1) : ℕ)) ((2 ^ (32 - 1) : ℕ) - 1) ((a : ℝ) : EReal) = (a : ℤ) := by
    show max _ (min _ (if (0 : ℝ) ≤ (a : ℝ) then ⌊(a : ℝ)⌋ else ⌈(a : ℝ)⌉)) = _
    rw [if_pos (Nat.cast_nonneg a), Int.floor_natCast]
    norm_num
    omega
  rw [h, BitVec.ofInt_natCast]

/-- Held between two words' values, a number already between them stays. -/
theorem clamp_real (hi : BitVec 32) (h : hi.toNat < 2 ^ 31) (a : ℕ) (ha : a ≤ hi.toNat) :
    min (FloatOps.sitofp (F := Ideal) .f32 hi) (max (FloatOps.sitofp (F := Ideal) .f32 0#32) ((a : ℝ) : EReal)) = ((a : ℝ) : EReal) := by
  have h0 : FloatOps.sitofp (F := Ideal) .f32 0#32 = (((0 : ℝ)) : EReal) := by
    show (((0#32 : BitVec 32).toInt : ℝ) : EReal) = _
    simp
  have h1 : FloatOps.sitofp (F := Ideal) .f32 hi = (((hi.toNat : ℝ)) : EReal) := by
    show ((hi.toInt : ℝ) : EReal) = _
    have : hi.toInt = (hi.toNat : ℤ) := by have := BitVec.toInt_eq_toNat_cond hi; split at this <;> omega
    rw [this]; simp
  rw [h0, h1, max_eq_right (by exact_mod_cast Nat.zero_le a), min_eq_right (by exact_mod_cast ha)]

/-! ## The arguments -/

/-- The finite arguments, as real arrays. -/
structure Data where
  q : (⟨3, ![1, 2500, 256]⟩ : Shape).Idx → ℝ
  img : (⟨5, ![1, 6, 256, 32, 88]⟩ : Shape).Idx → ℝ
  rp : (⟨4, ![1, 6, 2500, 2]⟩ : Shape).Idx → ℝ
  w : (⟨2, ![256, 192]⟩ : Shape).Idx → ℝ
  b : (⟨1, ![192]⟩ : Shape).Idx → ℝ
  vw : (⟨2, ![256, 256]⟩ : Shape).Idx → ℝ
  vb : (⟨1, ![256]⟩ : Shape).Idx → ℝ
  pw : (⟨2, ![256, 256]⟩ : Shape).Idx → ℝ
  rp_nonneg : ∀ i, 0 ≤ rp i
  rp_lt : ∀ i, rp i < 1

namespace Data
variable (D : Data)

/-- Camera `c`'s point `p` among a query's 192. -/
abbrev pt (c : Fin 6) (p : Fin 32) : Fin 192 := ⟨c.val * 32 + p.val, by omega⟩

/-- A query's logit. -/
def logit (n : Fin 2500) (k : Fin 192) : ℝ := (∑ d : Fin 256, D.q (ix3 0 n d) * D.w (ix2 d k)) + D.b (ix1 k)

/-- Its softmax. -/
def att (n : Fin 2500) (k : Fin 192) : ℝ := Real.exp (D.logit n k) / ∑ x, Real.exp (D.logit n x)

theorem sum_pt (f : Fin 192 → ℝ) : ∑ k, f k = ∑ c : Fin 6, ∑ p : Fin 32, f (pt c p) := by
  rw [← Fintype.sum_prod_type']
  refine (Fintype.sum_equiv (finProdFinEquiv (m := 6) (n := 32)) _ f fun x => congrArg f (Fin.ext ?_)).symm
  show x.1.val * 32 + x.2.val = x.2.val + 32 * x.1.val
  omega

theorem att_sum (n : Fin 2500) : ∑ c : Fin 6, ∑ p : Fin 32, D.att n (pt c p) = 1 := by
  rw [← sum_pt]
  unfold att
  rw [← Finset.sum_div, div_self (exp_sum_ne _ 0)]

/-- A query's coordinates in a camera, in cells. -/
def px (n : Fin 2500) (c : Fin 6) : ℝ := (D.rp (ix4 0 c n 0) + 1) * (87 / 2)
def py (n : Fin 2500) (c : Fin 6) : ℝ := (D.rp (ix4 0 c n 1) + 1) * (31 / 2)
/-- The cell, counted from the lower left. -/
def cx (n : Fin 2500) (c : Fin 6) : ℕ := ⌊D.px n c⌋₊
def cy (n : Fin 2500) (c : Fin 6) : ℕ := ⌊D.py n c⌋₊

theorem px_nonneg (n : Fin 2500) (c : Fin 6) : 0 ≤ D.px n c := by
  unfold px; have := D.rp_nonneg (ix4 0 c n 0); linarith
theorem py_nonneg (n : Fin 2500) (c : Fin 6) : 0 ≤ D.py n c := by
  unfold py; have := D.rp_nonneg (ix4 0 c n 1); linarith
theorem cx_lt (n : Fin 2500) (c : Fin 6) : D.cx n c < 87 := by
  unfold cx; rw [Nat.floor_lt (D.px_nonneg n c)]; unfold px; have := D.rp_lt (ix4 0 c n 0); push_cast; linarith
theorem cy_lt (n : Fin 2500) (c : Fin 6) : D.cy n c < 31 := by
  unfold cy; rw [Nat.floor_lt (D.py_nonneg n c)]; unfold py; have := D.rp_lt (ix4 0 c n 1); push_cast; linarith
theorem floor_px (n : Fin 2500) (c : Fin 6) : ((⌊D.px n c⌋ : ℤ) : ℝ) = (D.cx n c : ℝ) := by
  unfold cx; rw [← Int.natCast_floor_eq_floor (D.px_nonneg n c)]; simp
theorem floor_py (n : Fin 2500) (c : Fin 6) : ((⌊D.py n c⌋ : ℤ) : ℝ) = (D.cy n c : ℝ) := by
  unfold cy; rw [← Int.natCast_floor_eq_floor (D.py_nonneg n c)]; simp

/-- The fractions within the cell. -/
def fx (n : Fin 2500) (c : Fin 6) : ℝ := D.px n c - D.cx n c
def fy (n : Fin 2500) (c : Fin 6) : ℝ := D.py n c - D.cy n c

/-- A corner's weight: corners count along a row, then along a column. -/
def wt (n : Fin 2500) (c : Fin 6) (k : Fin 4) : ℝ :=
  ![(1 - D.fx n c) * (1 - D.fy n c), D.fx n c * (1 - D.fy n c), (1 - D.fx n c) * D.fy n c, D.fx n c * D.fy n c] k

theorem wt_sum (n : Fin 2500) (c : Fin 6) : ∑ k, D.wt n c k = 1 := by
  simp [wt, Fin.sum_univ_four]; ring

/-- A corner's cell in the camera's image. -/
def cell (n : Fin 2500) (c : Fin 6) (k : Fin 4) : Fin 2816 :=
  ⟨(D.cy n c + k.val / 2) * 88 + (D.cx n c + k.val % 2), by have := D.cx_lt n c; have := D.cy_lt n c; have := k.isLt; omega⟩

/-- A camera's image at a cell and channel. -/
def im (c : Fin 6) (d : Fin 256) (v : Fin 2816) : ℝ := D.img (ix5 0 c d ⟨v.val / 88, by omega⟩ ⟨v.val % 88, by omega⟩)

/-- The projected value there. -/
def val (c : Fin 6) (v : Fin 2816) (e : Fin 256) : ℝ := (∑ d : Fin 256, D.im c d v * D.vw (ix2 d e)) + D.vb (ix1 e)

/-- The reference's order: sample, attend, project. -/
def refOut (n : Fin 2500) (j : Fin 256) : ℝ :=
  ∑ e : Fin 256, (∑ c : Fin 6, ∑ p : Fin 32, D.att n (pt c p) * ∑ k : Fin 4, D.val c (D.cell n c k) e * D.wt n c k) * D.pw (ix2 e j)

/-- The kernel's order: project by both matrices at once, then weigh the corners. -/
def kerOut (n : Fin 2500) (j : Fin 256) : ℝ :=
  (∑ e : Fin 256, D.vb (ix1 e) * D.pw (ix2 e j))
    + ∑ k : Fin 4, ∑ c : Fin 6, (D.wt n c k * ∑ p : Fin 32, D.att n (pt c p)) * ∑ d : Fin 256, D.im c d (D.cell n c k) * ∑ e : Fin 256, D.vw (ix2 d e) * D.pw (ix2 e j)

/-- Projecting twice and then weighing the corners, the other way round. -/
theorem exchange (a : ℝ) (w : Fin 4 → ℝ) (im : Fin 256 → Fin 4 → ℝ) (v : Fin 256 → Fin 256 → ℝ) (p : Fin 256 → ℝ) :
    (∑ k, (w k * a) * ∑ d, im d k * ∑ e, v d e * p e) = ∑ e, (a * ∑ k, (∑ d, im d k * v d e) * w k) * p e := by
  simp only [Finset.mul_sum, Finset.sum_mul]
  rw [Finset.sum_comm (s := (Finset.univ : Finset (Fin 256))) (t := (Finset.univ : Finset (Fin 4)))]
  refine Finset.sum_congr rfl fun k _ => ?_
  rw [Finset.sum_comm]
  refine Finset.sum_congr rfl fun d _ => Finset.sum_congr rfl fun e _ => ?_
  ring

/-- The two orders agree: the attention weights sum to one, and so do a cell's four corner weights. -/
theorem out_eq (n : Fin 2500) (j : Fin 256) : D.kerOut n j = D.refOut n j := by
  have hs : ∀ c e, (∑ k : Fin 4, D.val c (D.cell n c k) e * D.wt n c k)
      = (∑ k : Fin 4, (∑ d : Fin 256, D.im c d (D.cell n c k) * D.vw (ix2 d e)) * D.wt n c k) + D.vb (ix1 e) := fun c e => by
    simp only [val, add_mul, Finset.sum_add_distrib, ← Finset.mul_sum, D.wt_sum, mul_one]
  have ha : ∀ e, (∑ c : Fin 6, ∑ p : Fin 32, D.att n (pt c p) * ∑ k : Fin 4, D.val c (D.cell n c k) e * D.wt n c k)
      = (∑ c : Fin 6, (∑ p : Fin 32, D.att n (pt c p)) * ∑ k : Fin 4, (∑ d : Fin 256, D.im c d (D.cell n c k) * D.vw (ix2 d e)) * D.wt n c k) + D.vb (ix1 e) := fun e => by
    simp only [hs, mul_add, Finset.sum_add_distrib, ← Finset.sum_mul, D.att_sum, one_mul]
  unfold refOut kerOut
  simp only [ha, add_mul, Finset.sum_add_distrib]
  rw [add_comm]
  refine congrArg₂ (· + ·) ?_ rfl
  rw [Finset.sum_comm]
  refine (Finset.sum_congr rfl fun c _ => exchange _ (D.wt n c) (fun d k => D.im c d (D.cell n c k)) (fun d e => D.vw (ix2 d e)) fun e => D.pw (ix2 e j)).trans ?_
  rw [Finset.sum_comm]
  exact Finset.sum_congr rfl fun e _ => (Finset.sum_mul _ _ _).symm

end Data

end Cert.Proof.Spec
-- ==== Proof.Spec.KernelAt.lean ====
/-
  What the kernel's first call leaves, element by element, in the arguments' elements.
-/
module

public import proofs.«01_k».proof.Proof.KernelIdeal.Values
public import proofs.«01_k».proof.Proof.Spec.Data
public import Idealize.ShloMosaic.Lib.Pointwise
public import Idealize.ShloMosaic.Lib.IdealHost
public import Idealize.ShloMosaic.Lib.KernelVsHost

@[expose] public section

noncomputable section

namespace Cert.Proof.Spec

open Cert.KernelIdeal Cert.KernelIdeal.Gen Cert.Proof.KernelIdeal
open Idealize.ShloMosaic Idealize.ShloMosaic.TcCoe

/-- A query's row among the padded. -/
abbrev up (n : Fin 2500) : Fin 2560 := ⟨n.val, by omega⟩

theorem padQ_at (q : FVec Ideal S1x2500x256 .f32) (n : Fin 2500) (d : Fin 256) : padQ q (ix2 (up n) d) = q (ix3 0 n d) := by
  pointwise [padQ]

theorem ptX_at (r : FVec Ideal S1x6x2500x2 .f32) (n : Fin 2500) (c : Fin 6) : ptX r (ix2 (up n) c) = r (ix4 0 c n 0) := by
  pointwise [ptX, padR]

theorem ptY_at (r : FVec Ideal S1x6x2500x2 .f32) (n : Fin 2500) (c : Fin 6) : ptY r (ix2 (up n) c) = r (ix4 0 c n 1) := by
  pointwise [ptY, padR]

theorem imgs_at (x : FVec Ideal S1x6x256x32x88 .f32) (c : Fin 6) (d : Fin 256) (v : Fin 2816) :
    imgs x (ix3 c d v) = x (ix5 0 c d ⟨v.val / 88, by omega⟩ ⟨v.val % 88, by omega⟩) := by
  pointwise [imgs]

theorem fold_at (v o : FVec Ideal S256x256 .f32) (d j : Fin 256) : foldOf v o (ix2 d j) = ∑ e : Fin 256, v (ix2 d e) * o (ix2 e j) := by
  pointwise [foldOf]

theorem proj_at (v : FVec Ideal S1x256x2816 .f32) (w : FVec Ideal S256x256 .f32) (i : Fin 2816) (j : Fin 256) :
    projOf v w (ix3 0 i j) = ∑ d : Fin 256, v (ix3 0 d i) * w (ix2 d j) := by
  pointwise [projOf]

theorem bias_at (b : FVec Ideal S256 .f32) (o : FVec Ideal S256x256 .f32) (c : FVec Ideal S256 .f32) (j : Fin 256) :
    bias b o c (ix2 0 j) = (∑ e : Fin 256, b (ix1 e) * o (ix2 e j)) + c (ix1 j) := by
  pointwise [bias, addOf]

theorem pos_at (k : BitVec 32) (r : FVec Ideal S2560x6 .f32) (i : Fin 2560) (c : Fin 6) : posOf k r (ix2 i c) = (r (ix2 i c) + 1) * Ideal.ofBits .f32 k := by
  pointwise [posOf]

theorem soft_at (q : FVec Ideal S2560x256 .f32) (w : FVec Ideal S256x192 .f32) (b : FVec Ideal S1x192 .f32) (i : Fin 2560) (k : Fin 192) :
    softOf q w b (ix2 i k)
      = Ideal.div (Ideal.exp (∑ x : Fin 256, q (ix2 i x) * w (ix2 x k) + b (ix2 0 k)
          - Finset.fold max (Ideal.ofBits .f32 0xFF800000#32) (fun x : Fin 192 => ∑ y : Fin 256, q (ix2 i y) * w (ix2 y x) + b (ix2 0 x)) Finset.univ))
        (∑ z : Fin 192, Ideal.exp (∑ x : Fin 256, q (ix2 i x) * w (ix2 x z) + b (ix2 0 z)
          - Finset.fold max (Ideal.ofBits .f32 0xFF800000#32) (fun x : Fin 192 => ∑ y : Fin 256, q (ix2 i y) * w (ix2 y x) + b (ix2 0 x)) Finset.univ)) := by
  pointwise [softOf]

/-- With real logits the softmax is the real softmax. -/
theorem soft_real (q : FVec Ideal S2560x256 .f32) (w : FVec Ideal S256x192 .f32) (b : FVec Ideal S1x192 .f32) (i : Fin 2560) (l : Fin 192 → ℝ)
    (h : ∀ k, (∑ x : Fin 256, q (ix2 i x) * w (ix2 x k) + b (ix2 0 k) : EReal) = l k) (k : Fin 192) :
    softOf q w b (ix2 i k) = ((Real.exp (l k) / ∑ x, Real.exp (l x) : ℝ) : EReal) := by
  rw [soft_at]
  simp only [h]
  obtain ⟨M, hM⟩ := fold_max_real Finset.univ ⟨k, Finset.mem_univ _⟩ (fun x : Fin 192 => (l x : EReal)) fun x => ⟨l x, rfl⟩
  rw [bits_bot, hM]
  simp only [← EReal.coe_sub, Ideal.exp_coe, sum_real]
  rw [div_real _ _ (exp_sum_ne (fun x => l x - M) k), shift]

theorem rowSum_at (v : FVec Ideal S2560x32 .f32) (i : Fin 2560) : rowSum v (ix2 i 0) = ∑ k : Fin 32, v (ix2 i k) := by
  pointwise [rowSum]

theorem cam_at (p : FVec Ideal S2560x192 .f32) (i : Fin 2560) (c : Fin 6) : camOf p (ix2 i c) = ∑ k : Fin 32, p (ix2 i (Data.pt c k)) := by
  have hc := c.isLt
  pointwise [camOf, rowSum]
  split_ifs <;> exact Finset.sum_congr rfl fun k _ => congrArg (fun z => p (ix2 i z)) (Fin.ext (by simp only [Data.pt]; omega))

/-- A corner's weight in a camera, of real coordinates and a real camera weight. -/
theorem wgt_real (x y c : FVec Ideal S2560x6 .f32) (i : Fin 2560) (k : Fin 4) (a : Fin 6) (u v g : ℝ) (hx : x (ix2 i a) = (u : EReal)) (hy : y (ix2 i a) = (v : EReal))
    (hc : c (ix2 i a) = (g : EReal)) : wgtOf x y c (ix2 i ⟨6 * k.val + a.val, by omega⟩)
      = ((![(1 - (u - ⌊u⌋)) * (1 - (v - ⌊v⌋)), (u - ⌊u⌋) * (1 - (v - ⌊v⌋)), (1 - (u - ⌊u⌋)) * (v - ⌊v⌋), (u - ⌊u⌋) * (v - ⌊v⌋)] k * g : ℝ) : EReal) := by
  have ha := a.isLt
  have e : ∀ n (h : n < 6), n = a.val → (⟨n, h⟩ : Fin 6) = a := fun n h e => Fin.ext e
  pointwise [wgtOf, restOf, fracOf]
  match k with
  | 0 =>
    rw [dif_pos (by simp)]
    simp only [e _ _ (show 6 * (0 : Fin 4).val + a.val = a.val by simp), hx, hy, hc, Ideal.liftRound_coe]
    simp [EReal.coe_mul, EReal.coe_sub, -Int.self_sub_floor]
  | 1 =>
    rw [dif_neg (by simp), dif_pos (by simp)]
    simp only [e _ _ (show 6 * (1 : Fin 4).val + a.val - 6 = a.val by simp), hx, hy, hc, Ideal.liftRound_coe]
    simp [EReal.coe_mul, EReal.coe_sub, -Int.self_sub_floor]
  | 2 =>
    rw [dif_neg (by simp; omega), dif_neg (by simp; omega), dif_pos (by simp; omega)]
    simp only [e _ _ (show 6 * (2 : Fin 4).val + a.val - 6 - 6 = a.val by simp; omega), hx, hy, hc, Ideal.liftRound_coe]
    simp [EReal.coe_mul, EReal.coe_sub, -Int.self_sub_floor]
  | 3 =>
    rw [dif_neg (by simp; omega), dif_neg (by simp; omega), dif_neg (by simp; omega), dif_pos (by simp; omega)]
    simp only [e _ _ (show 6 * (3 : Fin 4).val + a.val - 6 - 6 - 6 = a.val by simp; omega), hx, hy, hc, Ideal.liftRound_coe]
    simp [EReal.coe_mul, EReal.coe_sub, -Int.self_sub_floor]

/-- The cell of a real coordinate within bounds is its floor. -/
theorem cell_real (hi : BitVec 32) (h : hi.toNat < 2 ^ 31) (x : FVec Ideal S2560x6 .f32) (i : S2560x6.Idx) (a : ℝ) (n : ℕ) (ha : x i = (a : EReal))
    (hn : ((⌊a⌋ : ℤ) : ℝ) = (n : ℝ)) (hh : n ≤ hi.toNat) : (cellOf hi x i).toNat = n := by
  show (IntOp.minsi hi (IntOp.maxsi 0#32 (Ideal.fptosi 32 (Ideal.liftRound Int.floor (x i))))).toNat = n
  rw [ha, Ideal.liftRound_coe, hn, word_real n (by omega)]
  have e := fun u : BitVec 32 => BitVec.toInt_eq_toNat_cond u
  have hm : (BitVec.ofNat 32 n).toNat = n := by rw [BitVec.toNat_ofNat, Nat.mod_eq_of_lt (by omega)]
  have h1 := e (BitVec.ofNat 32 n)
  have h2 := e hi
  rw [hm, if_pos (by omega)] at h1
  rw [if_pos (by omega)] at h2
  have h0 : (0#32 : BitVec 32).toInt = 0 := by decide
  have hz : IntOp.maxsi 0#32 (BitVec.ofNat 32 n) = BitVec.ofNat 32 n := by
    unfold IntOp.maxsi
    by_cases hz : (BitVec.ofNat 32 n).slt 0#32
    · rw [BitVec.slt_iff_toInt_lt] at hz; omega
    · rw [if_neg hz]
  rw [hz]
  unfold IntOp.minsi
  rw [if_neg (by rw [BitVec.slt_iff_toInt_lt]; omega), hm]

end Cert.Proof.Spec
-- ==== Proof.Spec.KernelOut.lean ====
/-
  The kernel's result, element by element, as the real number its order of work gives.
-/
module

public import proofs.«01_k».proof.Proof.Spec.KernelAt

@[expose] public section

noncomputable section

namespace Cert.Proof.Spec

open Cert.KernelIdeal Cert.KernelIdeal.Gen Cert.Proof.KernelIdeal
open Idealize.ShloMosaic Idealize.ShloMosaic.TcCoe

/-- The kernel's order of addition gives the sum. -/
theorem bag_sum (b : EReal) (w r : Fin 24 → EReal) : ∀ (n : ℕ) (h : n ≤ 24),
    bag (F := Ideal) b w r n h = b + ∑ j : Fin n, w ⟨j.val, by omega⟩ * r ⟨j.val, by omega⟩
  | 0, _ => by simp [bag]
  | n + 1, h => by
    show bag (F := Ideal) b w r n _ + w ⟨n, h⟩ * r ⟨n, h⟩ = _
    rw [bag_sum b w r n (Nat.le_of_succ_le h), Fin.sum_univ_castSucc, add_assoc]
    rfl

/-- A table row by its halves, in the projection's order. -/
theorem tab_row (x : S6x2816x256.Idx → EReal) (h : S6x2816x256.ShapeCasts S16896x2x128) (v : Fin 16896) (c : Fin 6) (p : Fin 2816) (l : Fin 256)
    (hv : v.val = c.val * 2816 + p.val) :
    shapeCast S16896x2x128 x h (ix3 v ⟨l.val / 128, by omega⟩ ⟨l.val % 128, by omega⟩) = x (ix3 c p l) := by
  refine shapeCast_apply x h _ (ix3 c p l) ?_
  rw [Shape.rowMajor_val_three, Shape.rowMajor_val_three]
  show (c.val * 2816 + p.val) * 256 + l.val = (v.val * 2 + l.val / 128) * 128 + l.val % 128
  omega

/-- A row's row numbers, as the kernel's tiles are given them. -/
theorem num_row (n : S2560x24.Idx → BitVec 32) (h : S2560x24.ShapeCasts S32x20x96) (r : Fin 2560) (k : Fin 24) :
    shapeCast S32x20x96 n h (ix3 ⟨r.val / 80, by omega⟩ ⟨r.val % 80 / 4, by omega⟩ ⟨24 * (r.val % 80 % 4) + k.val, by omega⟩) = n (ix2 r k) := by
  refine shapeCast_apply n h _ (ix2 r k) ?_
  rw [Shape.rowMajor_val_two, Shape.rowMajor_val_three]
  show (r.val * 24 + k.val) = (r.val / 80 * 20 + r.val % 80 / 4) * 96 + (24 * (r.val % 80 % 4) + k.val)
  omega

theorem sum_corner (f : Fin 24 → EReal) : ∑ j, f j = ∑ k : Fin 4, ∑ c : Fin 6, f ⟨6 * k.val + c.val, by omega⟩ := by
  rw [← Fintype.sum_prod_type']
  refine (Fintype.sum_equiv (finProdFinEquiv (m := 4) (n := 6)) _ f fun x => congrArg f (Fin.ext ?_)).symm
  show 6 * x.1.val + x.2.val = x.2.val + 6 * x.1.val
  omega

/-- The result over the bag. -/
theorem whole_bag (q : FVec Ideal S1x2500x256 .f32) (x : FVec Ideal S1x6x256x32x88 .f32) (r : FVec Ideal S1x6x2500x2 .f32) (w : FVec Ideal S256x192 .f32)
    (b : FVec Ideal S192 .f32) (v : FVec Ideal S256x256 .f32) (bv : FVec Ideal S256 .f32) (o : FVec Ideal S256x256 .f32) (bo : FVec Ideal S256 .f32)
    (n : Fin 2500) (j : Fin 256) :
    wholeOut q x r w b v bv o bo (ix3 0 n j)
      = bagOut (F := Ideal) (shapeCast S16896x2x128 (rows x v o) shapeCasts_S6x2816x256_S16896x2x128) (shapeCast S32x20x96 (nums r) shapeCasts_S2560x24_S32x20x96) (wgts q r w b)
        (shapeCast S256 (bias bv o bo) shapeCasts_S1x256_S256) (ix2 (up n) j) := by
  pointwise [wholeOut]

section Real
variable (D : Data) (q : FVec Ideal S1x2500x256 .f32) (x : FVec Ideal S1x6x256x32x88 .f32) (r : FVec Ideal S1x6x2500x2 .f32) (w : FVec Ideal S256x192 .f32)
  (b : FVec Ideal S192 .f32) (v : FVec Ideal S256x256 .f32) (bv : FVec Ideal S256 .f32) (o : FVec Ideal S256x256 .f32) (bo : FVec Ideal S256 .f32)

theorem pos_x (hr : ∀ i, r i = (D.rp i : EReal)) (n : Fin 2500) (c : Fin 6) : posOf 0x422E0000#32 (ptX r) (ix2 (up n) c) = (D.px n c : EReal) := by
  rw [pos_at, ptX_at, hr, bits_87h, Data.px, EReal.coe_mul, EReal.coe_add, EReal.coe_one]

theorem pos_y (hr : ∀ i, r i = (D.rp i : EReal)) (n : Fin 2500) (c : Fin 6) : posOf 0x41780000#32 (ptY r) (ix2 (up n) c) = (D.py n c : EReal) := by
  rw [pos_at, ptY_at, hr, bits_31h, Data.py, EReal.coe_mul, EReal.coe_add, EReal.coe_one]

theorem bias_row (b : FVec Ideal S192 .f32) (k : Fin 192) : shapeCast S1x192 b shapeCasts_S192_S1x192 (ix2 0 k) = b (ix1 k) := by
  pointwise

theorem cam_real (hq : ∀ i, q i = (D.q i : EReal)) (hw : ∀ i, w i = (D.w i : EReal)) (hb : ∀ i, b i = (D.b i : EReal)) (n : Fin 2500) (c : Fin 6) :
    camOf (softOf (padQ q) w (shapeCast S1x192 b shapeCasts_S192_S1x192)) (ix2 (up n) c) = ((∑ p : Fin 32, D.att n (Data.pt c p) : ℝ) : EReal) := by
  rw [cam_at, ← sum_real]
  refine Finset.sum_congr rfl fun p _ => ?_
  refine soft_real _ _ _ (up n) (D.logit n) (fun k => ?_) _
  rw [bias_row, hb, Data.logit, EReal.coe_add, ← sum_real]
  refine congrArg₂ (· + ·) (Finset.sum_congr rfl fun d _ => ?_) rfl
  rw [padQ_at, hq, hw, EReal.coe_mul]

theorem wgts_real (hq : ∀ i, q i = (D.q i : EReal)) (hr : ∀ i, r i = (D.rp i : EReal)) (hw : ∀ i, w i = (D.w i : EReal)) (hb : ∀ i, b i = (D.b i : EReal))
    (n : Fin 2500) (k : Fin 4) (c : Fin 6) :
    wgts q r w b (ix2 (up n) ⟨6 * k.val + c.val, by omega⟩) = ((D.wt n c k * ∑ p : Fin 32, D.att n (Data.pt c p) : ℝ) : EReal) := by
  unfold wgts prepWgt
  rw [wgt_real _ _ _ (up n) k c _ _ _ (pos_x D r hr n c) (pos_y D r hr n c) (cam_real D q w b hq hw hb n c), D.floor_px, D.floor_py]
  rfl

theorem nums_real (hr : ∀ i, r i = (D.rp i : EReal)) (n : Fin 2500) (k : Fin 4) (c : Fin 6) :
    (nums r (ix2 (up n) ⟨6 * k.val + c.val, by omega⟩)).toNat = c.val * 2816 + (D.cell n c k).val := by
  unfold nums prepIdx
  rw [row_at, cell_real 30#32 (by decide) _ _ _ _ (pos_y D r hr n c) (D.floor_py n c) (by have := D.cy_lt n c; simp; omega),
    cell_real 86#32 (by decide) _ _ _ _ (pos_x D r hr n c) (D.floor_px n c) (by have := D.cx_lt n c; simp; omega)]
  simp only [Data.cell]
  omega

theorem rows_real (hx : ∀ i, x i = (D.img i : EReal)) (hv : ∀ i, v i = (D.vw i : EReal)) (ho : ∀ i, o i = (D.pw i : EReal)) (c : Fin 6) (p : Fin 2816) (j : Fin 256) :
    rows x v o (ix3 c p j) = ((∑ d : Fin 256, D.im c d p * ∑ e : Fin 256, D.vw (ix2 d e) * D.pw (ix2 e j) : ℝ) : EReal) := by
  show projOf (fun y : S1x256x2816.Idx => imgs x (ix3 c (y 1) (y 2))) (foldOf v o) (ix3 0 p j) = _
  rw [proj_at, ← sum_real]
  refine Finset.sum_congr rfl fun d _ => ?_
  rw [EReal.coe_mul, ← sum_real]
  refine congrArg₂ (· * ·) ((imgs_at x c d p).trans (hx _)) ((fold_at v o d j).trans (Finset.sum_congr rfl fun e _ => ?_))
  rw [hv, ho, EReal.coe_mul]

/-- The kernel's result. -/
theorem whole_real (hq : ∀ i, q i = (D.q i : EReal)) (hx : ∀ i, x i = (D.img i : EReal)) (hr : ∀ i, r i = (D.rp i : EReal)) (hw : ∀ i, w i = (D.w i : EReal))
    (hb : ∀ i, b i = (D.b i : EReal)) (hv : ∀ i, v i = (D.vw i : EReal)) (hbv : ∀ i, bv i = (D.vb i : EReal)) (ho : ∀ i, o i = (D.pw i : EReal))
    (n : Fin 2500) (j : Fin 256) : wholeOut q x r w b v bv o bo (ix3 0 n j) = (D.kerOut n j : EReal) + bo (ix1 j) := by
  rw [whole_bag]
  unfold bagOut
  rw [bag_sum, sum_corner]
  have hbias : shapeCast S256 (bias bv o bo) shapeCasts_S1x256_S256 (ix1 ((ix2 (up n) j : S2560x256.Idx) 1)) = ((∑ e : Fin 256, D.vb (ix1 e) * D.pw (ix2 e j) : ℝ) : EReal) + bo (ix1 j) := by
    refine (shapeCast_apply (bias bv o bo) shapeCasts_S1x256_S256 _ (ix2 0 j) (by rw [Shape.rowMajor_val_one, Shape.rowMajor_val_two]; simp)).trans ?_
    rw [bias_at, ← sum_real]
    refine congrArg₂ (· + ·) (Finset.sum_congr rfl fun e _ => ?_) rfl
    rw [hbv, ho, EReal.coe_mul]
  refine (congrArg₂ (· + ·) hbias rfl).trans ?_
  rw [Data.kerOut, EReal.coe_add, add_assoc, add_assoc, add_comm (bo (ix1 j))]
  refine congrArg₂ (· + ·) rfl (congrArg₂ (· + ·) ?_ rfl)
  rw [← sum_real]
  refine Finset.sum_congr rfl fun k _ => ?_
  rw [← sum_real]
  refine Finset.sum_congr rfl fun c _ => ?_
  rw [EReal.coe_mul]
  refine congrArg₂ (· * ·) (wgts_real D q r w b hq hr hw hb n k c) ?_
  refine Eq.trans ?_ (rows_real D x v o hx hv ho c (D.cell n c k) j)
  unfold pick
  refine tab_row (rows x v o) _ _ c (D.cell n c k) j ?_
  refine (congrArg (fun u : BitVec 32 => u.toNat % 16896) (num_row (nums r) _ (up n) ⟨6 * k.val + c.val, by omega⟩)).trans ?_
  show (nums r (ix2 (up n) ⟨6 * k.val + c.val, by omega⟩)).toNat % 16896 = _
  rw [nums_real D r hr, Nat.mod_eq_of_lt (by have := (D.cell n c k).isLt; omega)]

end Real

end Cert.Proof.Spec
-- ==== Proof.Spec.RefAt.lean ====
/-
  What the reference's lines leave, element by element, in the arguments' elements.
-/
module

public import proofs.«01_k».proof.Proof.Gen.ReferenceIdeal.Run
public import proofs.«01_k».proof.Proof.Spec.Data
public import Idealize.ShloMosaic.Lib.Pointwise
public import Idealize.ShloMosaic.Lib.IdealHost

@[expose] public section

noncomputable section

namespace Cert.Proof.Spec

open Cert.ReferenceIdeal Cert.ReferenceIdeal.Gen Cert.ReferenceIdeal.Value
open Idealize.ShloMosaic Idealize.ShloMosaic.TcCoe

variable (V : Valuation τ sig (Elt Ideal))

/-- The arguments, as arrays. -/
abbrev aQ : S1x2500x256.Idx → EReal := V (Proc.devRef .tc main_arg0)
abbrev aI : S1x6x256x32x88.Idx → EReal := V (Proc.devRef .tc main_arg1)
abbrev aR : S1x6x2500x2.Idx → EReal := V (Proc.devRef .tc main_arg2)
abbrev aM : S1x6x2500.Idx → BitVec 1 := V (Proc.devRef .tc main_arg3)
abbrev aOW : S256x384.Idx → EReal := V (Proc.devRef .tc main_arg4)
abbrev aOB : S384.Idx → EReal := V (Proc.devRef .tc main_arg5)
abbrev aW : S256x192.Idx → EReal := V (Proc.devRef .tc main_arg6)
abbrev aB : S192.Idx → EReal := V (Proc.devRef .tc main_arg7)
abbrev aVW : S256x256.Idx → EReal := V (Proc.devRef .tc main_arg8)
abbrev aVB : S256.Idx → EReal := V (Proc.devRef .tc main_arg9)
abbrev aPW : S256x256.Idx → EReal := V (Proc.devRef .tc main_arg10)
abbrev aPB : S256.Idx → EReal := V (Proc.devRef .tc main_arg11)

theorem v8_at (c : Fin 6) (v : Fin 2816) (e : Fin 256) : res_main_v8 V (ix2 ⟨c.val * 2816 + v.val, by omega⟩ e)
    = (∑ d : Fin 256, aI V (ix5 0 c d ⟨v.val / 88, by omega⟩ ⟨v.val % 88, by omega⟩) * aVW V (ix2 d e)) + aVB V (ix1 e) := by
  pointwise [res_main_v8]

/-- The arguments are the real arrays, every point is valid and the offsets' matrix and bias are zero. -/
structure Is (D : Data) : Prop where
  q : ∀ i, aQ V i = (D.q i : EReal)
  img : ∀ i, aI V i = (D.img i : EReal)
  rp : ∀ i, aR V i = (D.rp i : EReal)
  mask : ∀ i, aM V i = 1#1
  ow : ∀ i, aOW V i = 0
  ob : ∀ i, aOB V i = 0
  w : ∀ i, aW V i = (D.w i : EReal)
  b : ∀ i, aB V i = (D.b i : EReal)
  vw : ∀ i, aVW V i = (D.vw i : EReal)
  vb : ∀ i, aVB V i = (D.vb i : EReal)
  pw : ∀ i, aPW V i = (D.pw i : EReal)

variable {V} {D : Data} (h : Is V D)
include h

theorem v8_real (c : Fin 6) (v : Fin 2816) (e : Fin 256) : res_main_v8 V (ix2 ⟨c.val * 2816 + v.val, by omega⟩ e) = (D.val c v e : EReal) := by
  refine (v8_at V c v e).trans ?_
  rw [Data.val, EReal.coe_add, ← sum_real]
  refine congrArg₂ (· + ·) (Finset.sum_congr rfl fun d _ => ?_) (h.vb _)
  rw [EReal.coe_mul]
  exact congrArg₂ (· * ·) (h.img _) (h.vw _)

theorem v13_zero (n : Fin 2500) (c : Fin 6) (p : Fin 32) (a : Fin 2) : res_main_v13 V (ix4 n c p a) = (0 : EReal) := by
  pointwise [res_main_v13, res_main_v0]
  simp [h.ow, h.ob]

theorem v22_real (n : Fin 2500) (c : Fin 6) (p : Fin 32) : res_main_v22 V (ix3 n c p) = (D.logit n (Data.pt c p) : EReal) := by
  pointwise [res_main_v22, res_main_v0]
  refine (if_pos (h.mask _)).trans ?_
  rw [Data.logit, EReal.coe_add, ← sum_real]
  refine congrArg₂ (· + ·) (Finset.sum_congr rfl fun d _ => ?_) (h.b _)
  rw [EReal.coe_mul]
  exact congrArg₂ (· * ·) (h.q _) (h.w _)

omit h in
theorem v27_at (f : S2500x6x32.Idx → EReal) (hf : res_main_v22 V = f) (n : Fin 2500) (c : Fin 6) (p : Fin 32) (S : Finset S2500x6x32.Idx)
    (hS : S = Finset.univ.filter fun i => reducesTo_S2500x6x32_S2500_d1_2.drop i = ix1 n) : res_main_v27 V (ix3 n c p)
    = Ideal.exp (f (ix3 n c p) - Finset.fold max (Ideal.ofBits .f32 0xFF800000#32) f S) := by
  pointwise [res_main_v27]
  rw [hf, hS]
  congr

theorem v22_finite (i : S2500x6x32.Idx) : ∃ r : ℝ, res_main_v22 V i = (r : EReal) := by
  obtain ⟨n, c, p, rfl⟩ : ∃ (n : Fin 2500) (c : Fin 6) (p : Fin 32), i = ix3 n c p := ⟨i 0, i 1, i 2, ValueIdx.eq_ix3 i⟩
  exact ⟨_, v22_real h n c p⟩

theorem v27_real (n : Fin 2500) : ∃ M : ℝ, ∀ (c : Fin 6) (p : Fin 32), res_main_v27 V (ix3 n c p) = (Real.exp (D.logit n (Data.pt c p) - M) : EReal) := by
  have hS : (Finset.univ.filter fun i : S2500x6x32.Idx => reducesTo_S2500x6x32_S2500_d1_2.drop i = ix1 n).Nonempty :=
    ⟨ix3 n 0 0, Finset.mem_filter.2 ⟨Finset.mem_univ _, by funext a; match a with | ⟨0, _⟩ => rfl⟩⟩
  obtain ⟨M, hM⟩ := fold_max_real _ hS (res_main_v22 V) (v22_finite h)
  refine ⟨M, fun c p => ?_⟩
  rw [v27_at _ rfl n c p _ rfl, v22_real h, bits_bot, hM, ← EReal.coe_sub, Ideal.exp_coe]

omit h in
theorem v31_at (n : Fin 2500) (c : Fin 6) (p : Fin 32) : res_main_v31 V (ix3 n c p)
    = Ideal.div (res_main_v27 V (ix3 n c p)) (∑ x : Fin 6, ∑ y : Fin 32, (res_main_v27 V (ix3 n x y) : EReal)) := by
  pointwise [res_main_v31]

theorem v31_real (n : Fin 2500) (c : Fin 6) (p : Fin 32) : res_main_v31 V (ix3 n c p) = (D.att n (Data.pt c p) : EReal) := by
  obtain ⟨M, hM⟩ := v27_real h n
  rw [v31_at]
  simp only [hM, sum_real]
  rw [← Data.sum_pt fun k => Real.exp (D.logit n k - M), div_real _ _ (exp_sum_ne (fun k => D.logit n k - M) 0), shift]
  rfl

theorem call_real (n : Fin 2500) (c : Fin 6) (p : Fin 32) : res_main_call1_v5 V (ix3 n c p) = (D.att n (Data.pt c p) : EReal) := by
  pointwise [res_main_call1_v5, res_main_call1_v2]
  rw [v31_real h]
  simp [bits_top]

theorem v58_real (n : Fin 2500) (c : Fin 6) (p : Fin 32) : res_main_v58 V (ix3 n c p) = (D.px n c : EReal) := by
  pointwise [res_main_v58, res_main_v34]
  rw [v13_zero h, zero_mul, add_zero, bits_half, bits_87]
  refine (congrArg (fun u : EReal => (u + 1) * ((1 / 2 : ℝ) : EReal) * ((87 : ℝ) : EReal)) (h.rp _)).trans ?_
  rw [← EReal.coe_one, ← EReal.coe_add, ← EReal.coe_mul, ← EReal.coe_mul, Data.px, EReal.coe_eq_coe_iff]
  ring

theorem v64_real (n : Fin 2500) (c : Fin 6) (p : Fin 32) : res_main_v64 V (ix3 n c p) = (D.py n c : EReal) := by
  pointwise [res_main_v64, res_main_v34]
  rw [v13_zero h, zero_mul, add_zero, bits_half, bits_31]
  refine (congrArg (fun u : EReal => (u + 1) * ((1 / 2 : ℝ) : EReal) * ((31 : ℝ) : EReal)) (h.rp _)).trans ?_
  rw [← EReal.coe_one, ← EReal.coe_add, ← EReal.coe_mul, ← EReal.coe_mul, Data.py, EReal.coe_eq_coe_iff]
  ring

theorem v65_real (n : Fin 2500) (c : Fin 6) (p : Fin 32) : res_main_v65 V (ix3 n c p) = ((D.cx n c : ℝ) : EReal) := by
  pointwise [res_main_v65]
  rw [v58_real h, Ideal.liftRound_coe, D.floor_px]

theorem v66_real (n : Fin 2500) (c : Fin 6) (p : Fin 32) : res_main_v66 V (ix3 n c p) = ((D.cy n c : ℝ) : EReal) := by
  pointwise [res_main_v66]
  rw [v64_real h, Ideal.liftRound_coe, D.floor_py]

theorem v68_real (n : Fin 2500) (c : Fin 6) (p : Fin 32) : res_main_v68 V (ix3 n c p) = (((D.cx n c + 1 : ℕ) : ℝ) : EReal) := by
  pointwise [res_main_v68]
  rw [v65_real h, ← EReal.coe_one, ← EReal.coe_add, Nat.cast_succ]

theorem v70_real (n : Fin 2500) (c : Fin 6) (p : Fin 32) : res_main_v70 V (ix3 n c p) = (((D.cy n c + 1 : ℕ) : ℝ) : EReal) := by
  pointwise [res_main_v70]
  rw [v66_real h, ← EReal.coe_one, ← EReal.coe_add, Nat.cast_succ]

theorem v71_real (n : Fin 2500) (c : Fin 6) (p : Fin 32) : res_main_v71 V (ix3 n c p) = (D.fx n c : EReal) := by
  pointwise [res_main_v71]
  rw [v58_real h, v65_real h, ← EReal.coe_sub, Data.fx]

theorem v74_real (n : Fin 2500) (c : Fin 6) (p : Fin 32) : res_main_v74 V (ix3 n c p) = (D.fy n c : EReal) := by
  pointwise [res_main_v74]
  rw [v64_real h, v66_real h, ← EReal.coe_sub, Data.fy]

theorem v73_real (n : Fin 2500) (c : Fin 6) (p : Fin 32) : res_main_v73 V (ix3 n c p) = ((1 - D.fx n c : ℝ) : EReal) := by
  pointwise [res_main_v73]
  rw [v71_real h, EReal.coe_sub, EReal.coe_one]

theorem v76_real (n : Fin 2500) (c : Fin 6) (p : Fin 32) : res_main_v76 V (ix3 n c p) = ((1 - D.fy n c : ℝ) : EReal) := by
  pointwise [res_main_v76]
  rw [v74_real h, EReal.coe_sub, EReal.coe_one]

omit h in
/-- A small number held between two words and converted is the number. -/
theorem clamp_word (hi : BitVec 32) (hh : hi.toNat < 2 ^ 31) (a : ℕ) (ha : a ≤ hi.toNat) :
    FloatOps.fptosi (F := Ideal) (φ := .f32) 32 (min (FloatOps.sitofp (F := Ideal) .f32 hi) (max (FloatOps.sitofp (F := Ideal) .f32 0#32) ((a : ℝ) : EReal))) = BitVec.ofNat 32 a := by
  rw [clamp_real hi hh a ha]
  exact word_real a (by omega)

omit h in
theorem row_word (c a b : ℕ) : IntOp.addi (IntOp.addi (IntOp.muli (BitVec.ofNat 32 c) 2816#32) (IntOp.muli (BitVec.ofNat 32 b) 88#32)) (BitVec.ofNat 32 a)
    = BitVec.ofNat 32 (c * 2816 + (b * 88 + a)) := by
  show BitVec.ofNat 32 c * 2816#32 + BitVec.ofNat 32 b * 88#32 + BitVec.ofNat 32 a = _
  rw [BitVec.ofNat_add, BitVec.ofNat_add, BitVec.ofNat_mul, BitVec.ofNat_mul, BitVec.add_assoc]

theorem v101_real (n : Fin 2500) (c : Fin 6) (p : Fin 32) : res_main_v101 V (ix3 n c p) = BitVec.ofNat 32 (c.val * 2816 + (D.cell n c 0).val) := by
  have := D.cx_lt n c
  have := D.cy_lt n c
  pointwise [res_main_v101, res_main_v80]
  rw [v65_real h, v66_real h, clamp_word 31#32 (by decide) _ (by simp; omega), clamp_word 87#32 (by decide) _ (by simp; omega), row_word]
  rfl

theorem v134_real (n : Fin 2500) (c : Fin 6) (p : Fin 32) : res_main_v134 V (ix3 n c p) = BitVec.ofNat 32 (c.val * 2816 + (D.cell n c 1).val) := by
  have := D.cx_lt n c
  have := D.cy_lt n c
  pointwise [res_main_v134, res_main_v80]
  rw [v68_real h, v66_real h, clamp_word 31#32 (by decide) _ (by simp; omega), clamp_word 87#32 (by decide) _ (by simp; omega), row_word]
  rfl

theorem v168_real (n : Fin 2500) (c : Fin 6) (p : Fin 32) : res_main_v168 V (ix3 n c p) = BitVec.ofNat 32 (c.val * 2816 + (D.cell n c 2).val) := by
  have := D.cx_lt n c
  have := D.cy_lt n c
  pointwise [res_main_v168, res_main_v80]
  rw [v65_real h, v70_real h, clamp_word 31#32 (by decide) _ (by simp; omega), clamp_word 87#32 (by decide) _ (by simp; omega), row_word]
  rfl

theorem v202_real (n : Fin 2500) (c : Fin 6) (p : Fin 32) : res_main_v202 V (ix3 n c p) = BitVec.ofNat 32 (c.val * 2816 + (D.cell n c 3).val) := by
  have := D.cx_lt n c
  have := D.cy_lt n c
  pointwise [res_main_v202, res_main_v80]
  rw [v68_real h, v70_real h, clamp_word 31#32 (by decide) _ (by simp; omega), clamp_word 87#32 (by decide) _ (by simp; omega), row_word]
  rfl

/-! ## The four corners -/

omit h

abbrev Gd : GatherDims S16896x256 S2500x6x32x1 S2500x6x32x256 := gather_S16896x256_S2500x6x32x1_S2500x6x32x256_3_0_n_n_0_3_1256

/-- The gather takes the row its row number names, the number read as a signed word and held within the table. -/
theorem gather_row (X : S16896x256.Idx → EReal) (I : IVec S2500x6x32x1 32) (n : Fin 2500) (c : Fin 6) (p : Fin 32) (e : Fin 256) :
    Host.gather Gd X I (ix4 n c p e) = X (ix2 ⟨min (I (ix4 n c p 0)).toInt.toNat 16895, by omega⟩ e) := by
  have hb : ∀ a : Fin 2, a ∉ Gd.operandBatchingDims := fun a => List.not_mem_nil
  have h0 : (0 : Fin 2) ∈ Gd.startIndexMap := by decide
  have hsi : Gd.siIdx (ix4 n c p e) ⟨Gd.startIndexMap.idxOf (0 : Fin 2), List.idxOf_lt_length_iff.2 h0⟩ = ix4 n c p 0 := by
    funext b
    match b with
    | ⟨0, _⟩ => rfl
    | ⟨1, _⟩ => rfl
    | ⟨2, _⟩ => rfl
    | ⟨3, _⟩ => rfl
  unfold Host.gather
  refine congrArg X (funext fun a => Fin.ext ?_)
  show Gd.start (ix4 n c p e) I a + Gd.batchCoord (ix4 n c p e) a + Gd.offCoord (ix4 n c p e) a = _
  rw [Gd.batchCoord_eq_zero _ _ (hb a), Nat.add_zero]
  match a with
  | ⟨0, _⟩ =>
    rw [show Gd.offCoord (ix4 n c p e) (⟨0, by decide⟩ : Fin 2) = 0 from Gd.offCoord_eq_zero _ _ (by decide), Nat.add_zero]
    exact (dif_pos h0).trans (congrArg (fun i => min (I i).toInt.toNat 16895) hsi)
  | ⟨1, _⟩ =>
    rw [show Gd.start (ix4 n c p e) I (⟨1, by decide⟩ : Fin 2) = 0 from dif_neg (by decide), Nat.zero_add]
    rfl

/-- A row number below the table's height survives the wrapping of negative indices. -/
theorem word_toNat (v : BitVec 32) (h : v.toNat < 16896) : min (if IntOp.cmpi .slt v 0#32 = 1#1 then IntOp.addi v 16896#32 else v).toInt.toNat 16895 = v.toNat := by
  have e : v.toInt = (v.toNat : ℤ) := by have := BitVec.toInt_eq_toNat_cond v; split at this <;> omega
  have hn : ¬ IntOp.cmpi .slt v 0#32 = 1#1 := by
    have hs : BitVec.slt v 0#32 = false := by
      rw [Bool.eq_false_iff]; intro hs
      rw [BitVec.slt_iff_toInt_lt, e] at hs
      have : (0#32 : BitVec 32).toInt = 0 := by decide
      omega
    simp only [IntOp.cmpi, hs]; decide
  rw [if_neg hn, e]; omega

/-- The row numbers as the gather is given them. -/
abbrev wrap (W : IVec S2500x6x32 32) : IVec S2500x6x32x1 32 :=
  broadcastInDim S2500x6x32x1 ![0, 1, 2] bcast_S2500x6x32_S2500x6x32x1_0_1_2
    (select (cmpi .slt W (broadcastInDim S2500x6x32 ![] bcast_S_S2500x6x32 (constantI S_ 32 0#32)))
      (addi W (broadcastInDim S2500x6x32 ![] bcast_S_S2500x6x32 (constantI S_ 32 16896#32))) W)

theorem wrap_at (W : IVec S2500x6x32 32) (n : Fin 2500) (c : Fin 6) (p : Fin 32) :
    wrap W (ix4 n c p 0) = if IntOp.cmpi .slt (W (ix3 n c p)) 0#32 = 1#1 then IntOp.addi (W (ix3 n c p)) 16896#32 else W (ix3 n c p) := by
  pointwise
  rfl

theorem gather_at (X : S16896x256.Idx → EReal) (W : IVec S2500x6x32 32) (n : Fin 2500) (c : Fin 6) (p : Fin 32) (e : Fin 256) (v : Fin 2816)
    (hW : W (ix3 n c p) = BitVec.ofNat 32 (c.val * 2816 + v.val)) :
    Host.gather Gd X (wrap W) (ix4 n c p e) = X (ix2 ⟨c.val * 2816 + v.val, by omega⟩ e) := by
  rw [gather_row]
  refine congrArg (fun r => X (ix2 r e)) (Fin.ext ?_)
  have hn : (BitVec.ofNat 32 (c.val * 2816 + v.val)).toNat = c.val * 2816 + v.val := by rw [BitVec.toNat_ofNat, Nat.mod_eq_of_lt (by omega)]
  show min (wrap W (ix4 n c p 0)).toInt.toNat 16895 = _
  rw [wrap_at, hW, word_toNat _ (by rw [hn]; omega), hn]

/-- A corner within the image counts. -/
theorem valid_one (a b : ℕ) (ha : a ≤ 87) (hb : b ≤ 31) :
    FloatOps.uitofp (F := Ideal) .f32 (IntOp.andi (IntOp.andi (IntOp.andi (BitVec.ofBool (decide ((0 : EReal) ≤ ((a : ℝ) : EReal))))
      (BitVec.ofBool (decide (((a : ℝ) : EReal) ≤ Ideal.ofBits .f32 0x42AE0000#32)))) (BitVec.ofBool (decide ((0 : EReal) ≤ ((b : ℝ) : EReal)))))
      (BitVec.ofBool (decide (((b : ℝ) : EReal) ≤ Ideal.ofBits .f32 0x41F80000#32)))) = (1 : EReal) := by
  rw [decide_eq_true (show (0 : EReal) ≤ ((a : ℝ) : EReal) by exact_mod_cast Nat.zero_le a), decide_eq_true (show (0 : EReal) ≤ ((b : ℝ) : EReal) by exact_mod_cast Nat.zero_le b),
    decide_eq_true (show ((a : ℝ) : EReal) ≤ Ideal.ofBits .f32 0x42AE0000#32 by rw [bits_87]; exact_mod_cast ha),
    decide_eq_true (show ((b : ℝ) : EReal) ≤ Ideal.ofBits .f32 0x41F80000#32 by rw [bits_31]; exact_mod_cast hb)]
  show (((1#1 : BitVec 1).toNat : ℝ) : EReal) = 1
  simp

theorem v215_real (h : Is V D) (n : Fin 2500) (c : Fin 6) (p : Fin 32) (e : Fin 256) :
    res_main_v215 V (ix4 n c p e) = ((∑ k : Fin 4, D.val c (D.cell n c k) e * D.wt n c k : ℝ) : EReal) := by
  have := D.cx_lt n c
  have := D.cy_lt n c
  have g0 := gather_at (res_main_v8 V) _ n c p e _ (v101_real h n c p)
  have g1 := gather_at (res_main_v8 V) _ n c p e _ (v134_real h n c p)
  have g2 := gather_at (res_main_v8 V) _ n c p e _ (v168_real h n c p)
  have g3 := gather_at (res_main_v8 V) _ n c p e _ (v202_real h n c p)
  rw [v8_real h] at g0 g1 g2 g3
  pointwise [res_main_v215]
  rw [g0, g1, g2, g3, v65_real h, v66_real h, v68_real h, v70_real h, valid_one _ _ (by omega) (by omega), valid_one _ _ (by omega) (by omega),
    valid_one _ _ (by omega) (by omega), valid_one _ _ (by omega) (by omega), v71_real h, v73_real h, v74_real h, v76_real h]
  simp only [mul_one, ← EReal.coe_mul, ← EReal.coe_add]
  rw [Fin.sum_univ_four]
  rfl

/-! ## The result -/

/-- The reference's result. -/
def refTerm (V : Valuation τ sig (Elt Ideal)) : S1x2500x256.Idx → EReal :=
  broadcastInDim S1x2500x256 ![1, 2] bcast_S2500x256_S1x2500x256_1_2 (addf (F := Ideal) (φ := .f32) (Host.dotGeneral (F := Ideal) (φ₂ := .f32) dot_S2500x256_S256x256_S2500x256_1_0_0_1_n_n none (Host.reduceAdd (mulf (broadcastInDim S2500x6x32x256 ![0, 1, 2, 3] bcast_S2500x6x32x1_S2500x6x32x256_0_1_2_3 (broadcastInDim S2500x6x32x1 ![0, 1, 2] bcast_S2500x6x32_S2500x6x32x1_0_1_2 (select (cmpf .oeq (res_main_call1_v5 V) (broadcastInDim S2500x6x32 ![] bcast_S_S2500x6x32 (constant S_ .f32 0xFF800000#32))) (broadcastInDim S2500x6x32 ![] bcast_S_S2500x6x32 (constant S_ .f32 0xFF7FFFFF#32)) (res_main_call1_v5 V)))) (res_main_v215 V)) (constant S_ .f32 0x00000000#32) reducesTo_S2500x6x32x256_S2500x256_d1_2 h_S_) (aPW V)) (broadcastInDim S2500x256 ![0, 1] bcast_S1x256_S2500x256_0_1 (broadcastInDim S1x256 ![1] bcast_S256_S1x256_1 (V (Proc.devRef .tc main_arg11)))))

/-- The sum over a query's cameras and points. -/
theorem sum_points (v : S2500x6x32x256.Idx → EReal) (n : Fin 2500) (e : Fin 256) :
    Ideal.hostReduceAdd reducesTo_S2500x6x32x256_S2500x256_d1_2 v 0 (ix2 n e) = ∑ c : Fin 6, ∑ p : Fin 32, v (ix4 n c p e) := by
  unfold Ideal.hostReduceAdd
  rw [zero_add, ← Fintype.sum_prod_type']
  have hi : ∀ i : S2500x6x32x256.Idx, reducesTo_S2500x6x32x256_S2500x256_d1_2.drop i = ix2 n e → ix4 n (i 1) (i 2) e = i := fun i h => by
    have h0 : (i 0).val = n.val := congrArg Fin.val (congrFun h 0)
    have h1 : (i 3).val = e.val := congrArg Fin.val (congrFun h 1)
    funext a
    match a with
    | ⟨0, _⟩ => exact Fin.ext h0.symm
    | ⟨1, _⟩ => rfl
    | ⟨2, _⟩ => rfl
    | ⟨3, _⟩ => exact Fin.ext h1.symm
  have hd : ∀ k : Fin 6 × Fin 32, reducesTo_S2500x6x32x256_S2500x256_d1_2.drop (ix4 n k.1 k.2 e) = ix2 n e := fun k => by
    funext a
    match a with
    | ⟨0, _⟩ => rfl
    | ⟨1, _⟩ => rfl
  refine Finset.sum_bij' (fun i _ => ((i 1, i 2) : Fin 6 × Fin 32)) (fun k _ => ix4 n k.1 k.2 e) (fun _ _ => Finset.mem_univ _)
    (fun k _ => Finset.mem_filter.2 ⟨Finset.mem_univ _, hd k⟩) (fun i m => hi i (Finset.mem_filter.1 m).2) (fun _ _ => rfl)
    (fun i m => congrArg v (hi i (Finset.mem_filter.1 m).2).symm)

/-- The attention weights after the last guard against infinities. -/
abbrev guarded (V : Valuation τ sig (Elt Ideal)) : FVec Ideal S2500x6x32 .f32 :=
  select (cmpf .oeq (res_main_call1_v5 V) (broadcastInDim S2500x6x32 ![] bcast_S_S2500x6x32 (constant S_ .f32 0xFF800000#32)))
    (broadcastInDim S2500x6x32 ![] bcast_S_S2500x6x32 (constant S_ .f32 0xFF7FFFFF#32)) (res_main_call1_v5 V)

theorem guarded_real (h : Is V D) (n : Fin 2500) (c : Fin 6) (p : Fin 32) : guarded V (ix3 n c p) = (D.att n (Data.pt c p) : EReal) := by
  pointwise
  rw [call_real h]
  simp [bits_bot]

theorem term_real (h : Is V D) (n : Fin 2500) (c : Fin 6) (p : Fin 32) (e : Fin 256) :
    mulf (broadcastInDim S2500x6x32x256 ![0, 1, 2, 3] bcast_S2500x6x32x1_S2500x6x32x256_0_1_2_3
      (broadcastInDim S2500x6x32x1 ![0, 1, 2] bcast_S2500x6x32_S2500x6x32x1_0_1_2 (guarded V))) (res_main_v215 V) (ix4 n c p e)
      = ((D.att n (Data.pt c p) * ∑ k : Fin 4, D.val c (D.cell n c k) e * D.wt n c k : ℝ) : EReal) := by
  rw [EReal.coe_mul, ← v215_real h n c p e, ← guarded_real h n c p]
  generalize guarded V = a
  pointwise

theorem refTerm_real (h : Is V D) (n : Fin 2500) (j : Fin 256) : refTerm V (ix3 0 n j) = (D.refOut n j : EReal) + aPB V (ix1 j) := by
  pointwise [refTerm]
  refine congrArg₂ (· + ·) ?_ rfl
  rw [Data.refOut, ← sum_real]
  refine Finset.sum_congr rfl fun e _ => ?_
  rw [EReal.coe_mul]
  refine congrArg₂ (· * ·) ?_ (h.pw _)
  rw [sum_points, ← sum_real]
  refine Finset.sum_congr rfl fun c _ => ?_
  rw [← sum_real]
  exact Finset.sum_congr rfl fun p _ => term_real h n c p e

end Cert.Proof.Spec
-- ==== Proof.Spec.Drawn.lean ====
/-
  What the precondition says of the arguments: the float arrays are real arrays, the points lie in the unit square and are
  all valid, the offsets' matrix and bias are zero.
-/
module

public import proofs.«01_k».proof.Proof.Gen.Pre_as_drawn
public import proofs.«01_k».proof.Proof.Spec.Data
public import Idealize.ShloMosaic.Lib.ReduceAll
public import Idealize.ShloMosaic.Lib.StableHlo.Predicate

@[expose] public section

noncomputable section

namespace Cert.Proof.Spec

open Cert.Pre_as_drawn Cert.Pre_as_drawn.Gen
open Idealize.ShloMosaic Idealize.ShloMosaic.TcCoe

/-- A size below infinity is a real's. -/
theorem real_of_lt (x : EReal) (h : Ideal.cmp .olt (max x (-x)) (Ideal.ofBits .f32 0x7F800000#32) = 1#1) : ∃ r : ℝ, x = (r : EReal) := by
  have hl : max x (-x) < ⊤ := by
    rw [bits_top] at h
    exact of_decide_eq_true ((StableHlo.Predicate.ofBool_eq_one_iff _).1 h)
  induction x using EReal.rec with
  | bot => simp at hl
  | top => simp at hl
  | coe r => exact ⟨r, rfl⟩

theorem bits_zero_one : Ideal.ofBits .f32 0x00000000#32 = 0 ∧ Ideal.ofBits .f32 0x3F800000#32 = 1 :=
  ⟨Ideal.ofBits_zero_f32, Ideal.ofBits_one_f32⟩

theorem unit_of (x : EReal) (h : IntOp.andi (Ideal.cmp .oge x (Ideal.ofBits .f32 0x00000000#32)) (Ideal.cmp .olt x (Ideal.ofBits .f32 0x3F800000#32)) = 1#1) :
    ∃ r : ℝ, x = (r : EReal) ∧ 0 ≤ r ∧ r < 1 := by
  obtain ⟨h0, h1⟩ := IntOp.andi_eq_one.1 h
  rw [bits_zero_one.1] at h0
  rw [bits_zero_one.2] at h1
  have h0 : (0 : EReal) ≤ x := of_decide_eq_true ((StableHlo.Predicate.ofBool_eq_one_iff _).1 h0)
  have h1 : x < 1 := of_decide_eq_true ((StableHlo.Predicate.ofBool_eq_one_iff _).1 h1)
  induction x using EReal.rec with
  | bot => exact absurd h0 (by simp)
  | top => exact absurd h1 (by simp)
  | coe r => exact ⟨r, rfl, by exact_mod_cast h0, by exact_mod_cast h1⟩

theorem zero_of (x : EReal) (h : Ideal.cmp .oeq x (Ideal.ofBits .f32 0x00000000#32) = 1#1) : x = 0 := by
  rw [bits_zero_one.1] at h
  exact of_decide_eq_true ((StableHlo.Predicate.ofBool_eq_one_iff _).1 h)

theorem drawn (a0 : FVec Ideal S1x2500x256 .f32) (a1 : FVec Ideal S1x6x256x32x88 .f32) (a2 : FVec Ideal S1x6x2500x2 .f32) (a3 : IVec S1x6x2500 1)
    (a4 : FVec Ideal S256x384 .f32) (a5 : FVec Ideal S384 .f32) (a6 : FVec Ideal S256x192 .f32) (a7 : FVec Ideal S192 .f32) (a8 : FVec Ideal S256x256 .f32)
    (a9 : FVec Ideal S256 .f32) (a10 : FVec Ideal S256x256 .f32) (a11 : FVec Ideal S256 .f32)
    (h : fn (F := Ideal) a0 a1 a2 a3 a4 a5 a6 a7 a8 a9 a10 a11 ix0 = 1#1) :
    ∃ D : Data, (∀ i, a0 i = (D.q i : EReal)) ∧ (∀ i, a1 i = (D.img i : EReal)) ∧ (∀ i, a2 i = (D.rp i : EReal)) ∧ (∀ i, a3 i = 1#1)
      ∧ (∀ i, a4 i = (0 : EReal)) ∧ (∀ i, a5 i = (0 : EReal)) ∧ (∀ i, a6 i = (D.w i : EReal)) ∧ (∀ i, a7 i = (D.b i : EReal)) ∧ (∀ i, a8 i = (D.vw i : EReal))
      ∧ (∀ i, a9 i = (D.vb i : EReal)) ∧ (∀ i, a10 i = (D.pw i : EReal)) := by
  have : Subsingleton S_.Idx := ⟨fun a b => funext fun d => d.elim0⟩
  unfold fn fn_part1 fn_part2 fn_part3 at h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨e0, e1⟩ := IntOp.andi_eq_one.1 h
  choose q hq using fun i => real_of_lt (a0 i) (Host.reduce_andi_all _ _ _ _ _ e0 i)
  choose im him using fun i => real_of_lt (a1 i) (Host.reduce_andi_all _ _ _ _ _ e1 i)
  choose w hw using fun i => real_of_lt (a6 i) (Host.reduce_andi_all _ _ _ _ _ e6 i)
  choose b hb using fun i => real_of_lt (a7 i) (Host.reduce_andi_all _ _ _ _ _ e7 i)
  choose vw hvw using fun i => real_of_lt (a8 i) (Host.reduce_andi_all _ _ _ _ _ e8 i)
  choose vb hvb using fun i => real_of_lt (a9 i) (Host.reduce_andi_all _ _ _ _ _ e9 i)
  choose pw hpw using fun i => real_of_lt (a10 i) (Host.reduce_andi_all _ _ _ _ _ e10 i)
  choose rp hrp h0 h1 using fun i => unit_of (a2 i) (Host.reduce_andi_all _ _ _ _ _ e2 i)
  exact ⟨⟨q, im, rp, w, b, vw, vb, pw, h0, h1⟩, hq, him, hrp, fun i => Host.reduce_andi_all _ _ _ _ _ e3 i,
    fun i => zero_of _ (Host.reduce_andi_all _ _ _ _ _ e4 i), fun i => zero_of _ (Host.reduce_andi_all _ _ _ _ _ e5 i), hw, hb, hvw, hvb, hpw⟩

end Cert.Proof.Spec
-- ==== Proof.lean ====
/-
  The claim: the kernel's frame on bit patterns and at the ideal instance, the reference's frame, and the equality of
  their results.
-/
module

public import proofs.«01_k».proof.Defs
public import proofs.«01_k».proof.Proof.Gen.Pre_as_drawn
public import proofs.«01_k».proof.Proof.Kernel.Values
public import proofs.«01_k».proof.Proof.Spec.KernelOut
public import proofs.«01_k».proof.Proof.Spec.RefAt
public import proofs.«01_k».proof.Proof.Spec.Drawn
public import Idealize.ShloMosaic.Lib.Quiescent

@[expose] public section

noncomputable section

namespace Cert.Proof

open Idealize.ShloMosaic Idealize.SL.Sem
open Idealize.ShloMosaic.StableHlo (launchContents)

theorem frame_Kernel : Cert.quiescent_Kernel := fun m g _ =>
  (θ_run _ _ _).mono (fun _ hr => ⟨fun c => (hr.1 c).2, hr.2⟩) (Kernel.run_main m g)

theorem frame_KernelIdeal : Cert.quiescent_KernelIdeal := fun m g _ =>
  (θ_run _ _ _).mono (fun _ hr => ⟨fun c => (hr.1 c).2, hr.2⟩) (KernelIdeal.run_main m g)

theorem frame_ReferenceIdeal : Cert.quiescent_ReferenceIdeal := fun m g _ =>
  (θ_run _ _ _).mono (fun r hr => ⟨fun c => (hr c).2, sem_eq_zero_of_no_sems (by decide) r.2⟩) (Cert.ReferenceIdeal.Value.run m g)

/-- The kernel's result as the launch memory's arguments give it. -/
def out (m : (ℓ : Loc Cert.KernelIdeal.nD Cert.KernelIdeal.τ Cert.KernelIdeal.sig) → Buf (Elt Ideal) ℓ) (c : Dev Cert.KernelIdeal.nD) : Cert.KernelIdeal.S1x2500x256.Idx → EReal :=
  KernelIdeal.wholeOut (F := Ideal) (launchContents m c (Proc.devRef .tc Cert.KernelIdeal.main_arg0)) (launchContents m c (Proc.devRef .tc Cert.KernelIdeal.main_arg1))
    (launchContents m c (Proc.devRef .tc Cert.KernelIdeal.main_arg2)) (launchContents m c (Proc.devRef .tc Cert.KernelIdeal.main_arg6))
    (launchContents m c (Proc.devRef .tc Cert.KernelIdeal.main_arg7)) (launchContents m c (Proc.devRef .tc Cert.KernelIdeal.main_arg8))
    (launchContents m c (Proc.devRef .tc Cert.KernelIdeal.main_arg9)) (launchContents m c (Proc.devRef .tc Cert.KernelIdeal.main_arg10))
    (launchContents m c (Proc.devRef .tc Cert.KernelIdeal.main_arg11))

theorem algebraic : Cert.algebraic_KernelIdeal_ReferenceIdeal_pre_as_drawn := fun m g m' g' h hm =>
  ⟨fun c => out m c,
    (θ_run _ _ _).mono (fun _ hr => hr.1) (KernelIdeal.run_main m g),
    (θ_run _ _ _).mono (fun _ hr c => ⟨(hr c).1.trans (by
        obtain ⟨k0, k1, k2, k3, k4, k5, k6, k7, k8, k9, k10, k11⟩ := hm c
        obtain ⟨D, d0, d1, d2, d3, d4, d5, d6, d7, d8, d9, d10⟩ := Spec.drawn _ _ _ _ _ _ _ _ _ _ _ _ (congrFun (h c) Idealize.ShloMosaic.ix0)
        have hD : Spec.Is (launchContents m' c) D :=
          ⟨fun i => (congrFun k0 i).trans (d0 i), fun i => (congrFun k1 i).trans (d1 i), fun i => (congrFun k2 i).trans (d2 i), fun i => (congrFun k3 i).trans (d3 i),
            fun i => (congrFun k4 i).trans (d4 i), fun i => (congrFun k5 i).trans (d5 i), fun i => (congrFun k6 i).trans (d6 i), fun i => (congrFun k7 i).trans (d7 i),
            fun i => (congrFun k8 i).trans (d8 i), fun i => (congrFun k9 i).trans (d9 i), fun i => (congrFun k10 i).trans (d10 i)⟩
        funext y
        obtain ⟨n, j, rfl⟩ : ∃ (n : Fin 2500) (j : Fin 256), y = ix3 0 n j :=
          ⟨y 1, y 2, (ValueIdx.eq_ix3 y).trans (congrArg (fun z : Fin 1 => ix3 z (y 1) (y 2)) (Subsingleton.elim (show Fin 1 from y 0) 0))⟩
        refine (Spec.refTerm_real hD n j).trans ?_
        refine Eq.trans ?_ (Spec.whole_real D _ _ _ _ _ _ _ _ _ d0 d1 d2 d6 d7 d8 d9 d10 n j).symm
        rw [D.out_eq]
        exact congrArg₂ (· + ·) rfl (congrFun k11 _)), (hr c).2⟩) (Cert.ReferenceIdeal.Value.run m' g')⟩

theorem claim : Cert.Claim :=
  ⟨Cert.Kernel.Gen.facts, Cert.KernelIdeal.Gen.facts, Cert.ReferenceIdeal.Gen.facts, Cert.Pre_as_drawn.Gen.facts,
    frame_Kernel, frame_KernelIdeal, fun m g _ => frame_KernelIdeal m g trivial, frame_ReferenceIdeal, fun m g _ => frame_ReferenceIdeal m g trivial, trivial, algebraic⟩

end Cert.Proof

end
